-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S2048x2048 : Shape := ⟨2, ![2048, 2048]⟩
abbrev S15x2x8x128x128 : Shape := ⟨5, ![15, 2, 8, 128, 128]⟩
abbrev S15x2x8 : Shape := ⟨3, ![15, 2, 8]⟩
abbrev S_ : Shape := ⟨0, ![]⟩
abbrev S128x128 : Shape := ⟨2, ![128, 128]⟩
abbrev S1x1x1 : Shape := ⟨3, ![1, 1, 1]⟩
abbrev S1x1x1x128x128 : Shape := ⟨5, ![1, 1, 1, 128, 128]⟩

abbrev nBuf : Space → Nat
  | .hbm => 3
  | .vmem => 4
  | .smem => 0
  | _ => 0

abbrev bufTy : (tb : Table) → Fin (tcTables nBuf tb) → BufTy
  | .hbm, ⟨0, _⟩ => ⟨S2048x128, .f32⟩
  | .hbm, ⟨1, _⟩ => ⟨S128x2048, .f32⟩
  | .hbm, ⟨2, _⟩ => ⟨S2048x2048, .f32⟩
  | .local _ .vmem, ⟨0, _⟩ => ⟨S2048x128, .f32⟩
  | .local _ .vmem, ⟨1, _⟩ => ⟨S128x2048, .f32⟩
  | .local _ .vmem, ⟨2, _⟩ => ⟨S2048x2048, .f32⟩
  | .local _ .vmem, ⟨3, _⟩ => ⟨S15x2x8x128x128, .f32⟩
  | _, _ => ⟨S2048x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_4 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_5 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_6 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_7 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | 4 => dmaSemScopedAt0_4 i
  | 5 => dmaSemScopedAt0_5 i
  | 6 => dmaSemScopedAt0_6 i
  | 7 => dmaSemScopedAt0_7 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 963 → Bool
  | ⟨i, _⟩ => dmaSemScopedAt i

abbrev sig : RefSig :=
  (ofTc nBuf bufTy 1 963 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v30 : BitVec 32 := Scalar.muli v2 c128_i32
  let v31 : Index := Scalar.indexCast v30
  let c0 : Index := 0#32
  ![v31.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v30 : BitVec 32 := Scalar.muli v2 c128_i32
  let v37 : Index := Scalar.indexCast v30
  let c0_21 : Index := 0#32
  ![v37.toNat, 0]
def k0_off3 (d0 : Dev nD) (c0_i32_22 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v39 : BitVec 32 := Scalar.subi v2 c0_i32_22
  let c16_i32_23 : BitVec 32 := 16#32
  let c0_i32_24 : BitVec 32 := 0#32
  let v40 : BitVec 1 := Scalar.cmpi .eq c16_i32_23 c0_i32_24
  let c1_i32_25 : BitVec 32 := 1#32
  let v41 : BitVec 32 := Scalar.select v40 c1_i32_25 c16_i32_23
  let v42 : BitVec 32 := Scalar.remsi v39 v41
  let c0_i32_27 : BitVec 32 := 0#32
  let v44 : BitVec 1 := Scalar.cmpi .slt v42 c0_i32_27
  let c0_i32_28 : BitVec 32 := 0#32
  let v45 : BitVec 1 := Scalar.cmpi .slt v41 c0_i32_28
  let v46 : BitVec 1 := Scalar.xori v44 v45
  let c0_i32_26 : BitVec 32 := 0#32
  let v43 : BitVec 1 := Scalar.cmpi .ne v42 c0_i32_26
  let v47 : BitVec 1 := Scalar.andi v46 v43
  let v48 : BitVec 32 := Scalar.addi v42 v41
  let v49 : BitVec 32 := Scalar.select v47 v48 v42
  let c128_i32_29 : BitVec 32 := 128#32
  let v50 : BitVec 32 := Scalar.muli v49 c128_i32_29
  let c0_i32_43 : BitVec 32 := 0#32
  ![v50.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v51 : BitVec 32 := Scalar.muli v24 c1_i32_39
  let v52 : BitVec 32 := Scalar.addi c0_i32_40 v51
  v52.toNat
def k0_off4 (d0 : Dev nD) (c0_i32_44 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v60 : BitVec 32 := Scalar.subi v2 c0_i32_44
  let c16_i32_45 : BitVec 32 := 16#32
  let c0_i32_46 : BitVec 32 := 0#32
  let v61 : BitVec 1 := Scalar.cmpi .eq c16_i32_45 c0_i32_46
  let c1_i32_47 : BitVec 32 := 1#32
  let v62 : BitVec 32 := Scalar.select v61 c1_i32_47 c16_i32_45
  let v63 : BitVec 32 := Scalar.remsi v60 v62
  let c0_i32_49 : BitVec 32 := 0#32
  let v65 : BitVec 1 := Scalar.cmpi .slt v63 c0_i32_49
  let c0_i32_50 : BitVec 32 := 0#32
  let v66 : BitVec 1 := Scalar.cmpi .slt v62 c0_i32_50
  let v67 : BitVec 1 := Scalar.xori v65 v66
  let c0_i32_48 : BitVec 32 := 0#32
  let v64 : BitVec 1 := Scalar.cmpi .ne v63 c0_i32_48
  let v68 : BitVec 1 := Scalar.andi v67 v64
  let v69 : BitVec 32 := Scalar.addi v63 v62
  let v70 : BitVec 32 := Scalar.select v68 v69 v63
  let c128_i32_51 : BitVec 32 := 128#32
  let v71 : BitVec 32 := Scalar.muli v70 c128_i32_51
  let c128_i32_65 : BitVec 32 := 128#32
  ![v71.toNat, 128]
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_61 : BitVec 32 := 1#32
  let v72 : BitVec 32 := Scalar.muli v24 c1_i32_61
  let v73 : BitVec 32 := Scalar.addi c0_i32_62 v72
  v73.toNat
def k0_off5 (d0 : Dev nD) (c0_i32_66 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v81 : BitVec 32 := Scalar.subi v2 c0_i32_66
  let c16_i32_67 : BitVec 32 := 16#32
  let c0_i32_68 : BitVec 32 := 0#32
  let v82 : BitVec 1 := Scalar.cmpi .eq c16_i32_67 c0_i32_68
  let c1_i32_69 : BitVec 32 := 1#32
  let v83 : BitVec 32 := Scalar.select v82 c1_i32_69 c16_i32_67
  let v84 : BitVec 32 := Scalar.remsi v81 v83
  let c0_i32_71 : BitVec 32 := 0#32
  let v86 : BitVec 1 := Scalar.cmpi .slt v84 c0_i32_71
  let c0_i32_72 : BitVec 32 := 0#32
  let v87 : BitVec 1 := Scalar.cmpi .slt v83 c0_i32_72
  let v88 : BitVec 1 := Scalar.xori v86 v87
  let c0_i32_70 : BitVec 32 := 0#32
  let v85 : BitVec 1 := Scalar.cmpi .ne v84 c0_i32_70
  let v89 : BitVec 1 := Scalar.andi v88 v85
  let v90 : BitVec 32 := Scalar.addi v84 v83
  let v91 : BitVec 32 := Scalar.select v89 v90 v84
  let c128_i32_73 : BitVec 32 := 128#32
  let v92 : BitVec 32 := Scalar.muli v91 c128_i32_73
  let c256_i32 : BitVec 32 := 256#32
  ![v92.toNat, 256]
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_83 : BitVec 32 := 1#32
  let v93 : BitVec 32 := Scalar.muli v24 c1_i32_83
  let v94 : BitVec 32 := Scalar.addi c0_i32_84 v93
  v94.toNat
def k0_off6 (d0 : Dev nD) (c0_i32_87 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v102 : BitVec 32 := Scalar.subi v2 c0_i32_87
  let c16_i32_88 : BitVec 32 := 16#32
  let c0_i32_89 : BitVec 32 := 0#32
  let v103 : BitVec 1 := Scalar.cmpi .eq c16_i32_88 c0_i32_89
  let c1_i32_90 : BitVec 32 := 1#32
  let v104 : BitVec 32 := Scalar.select v103 c1_i32_90 c16_i32_88
  let v105 : BitVec 32 := Scalar.remsi v102 v104
  let c0_i32_92 : BitVec 32 := 0#32
  let v107 : BitVec 1 := Scalar.cmpi .slt v105 c0_i32_92
  let c0_i32_93 : BitVec 32 := 0#32
  let v108 : BitVec 1 := Scalar.cmpi .slt v104 c0_i32_93
  let v109 : BitVec 1 := Scalar.xori v107 v108
  let c0_i32_91 : BitVec 32 := 0#32
  let v106 : BitVec 1 := Scalar.cmpi .ne v105 c0_i32_91
  let v110 : BitVec 1 := Scalar.andi v109 v106
  let v111 : BitVec 32 := Scalar.addi v105 v104
  let v112 : BitVec 32 := Scalar.select v110 v111 v105
  let c128_i32_94 : BitVec 32 := 128#32
  let v113 : BitVec 32 := Scalar.muli v112 c128_i32_94
  let c384_i32 : BitVec 32 := 384#32
  ![v113.toNat, 384]
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_103 : BitVec 32 := 1#32
  let v114 : BitVec 32 := Scalar.muli v24 c1_i32_103
  let v115 : BitVec 32 := Scalar.addi c0_i32_104 v114
  v115.toNat
def k0_off7 (d0 : Dev nD) (c0_i32_107 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v123 : BitVec 32 := Scalar.subi v2 c0_i32_107
  let c16_i32_108 : BitVec 32 := 16#32
  let c0_i32_109 : BitVec 32 := 0#32
  let v124 : BitVec 1 := Scalar.cmpi .eq c16_i32_108 c0_i32_109
  let c1_i32_110 : BitVec 32 := 1#32
  let v125 : BitVec 32 := Scalar.select v124 c1_i32_110 c16_i32_108
  let v126 : BitVec 32 := Scalar.remsi v123 v125
  let c0_i32_112 : BitVec 32 := 0#32
  let v128 : BitVec 1 := Scalar.cmpi .slt v126 c0_i32_112
  let c0_i32_113 : BitVec 32 := 0#32
  let v129 : BitVec 1 := Scalar.cmpi .slt v125 c0_i32_113
  let v130 : BitVec 1 := Scalar.xori v128 v129
  let c0_i32_111 : BitVec 32 := 0#32
  let v127 : BitVec 1 := Scalar.cmpi .ne v126 c0_i32_111
  let v131 : BitVec 1 := Scalar.andi v130 v127
  let v132 : BitVec 32 := Scalar.addi v126 v125
  let v133 : BitVec 32 := Scalar.select v131 v132 v126
  let c128_i32_114 : BitVec 32 := 128#32
  let v134 : BitVec 32 := Scalar.muli v133 c128_i32_114
  let c512_i32 : BitVec 32 := 512#32
  ![v134.toNat, 512]
def k0_dev7 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_123 : BitVec 32 := 1#32
  let v135 : BitVec 32 := Scalar.muli v24 c1_i32_123
  let v136 : BitVec 32 := Scalar.addi c0_i32_124 v135
  v136.toNat
def k0_off8 (d0 : Dev nD) (c0_i32_127 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v144 : BitVec 32 := Scalar.subi v2 c0_i32_127
  let c16_i32_128 : BitVec 32 := 16#32
  let c0_i32_129 : BitVec 32 := 0#32
  let v145 : BitVec 1 := Scalar.cmpi .eq c16_i32_128 c0_i32_129
  let c1_i32_130 : BitVec 32 := 1#32
  let v146 : BitVec 32 := Scalar.select v145 c1_i32_130 c16_i32_128
  let v147 : BitVec 32 := Scalar.remsi v144 v146
  let c0_i32_132 : BitVec 32 := 0#32
  let v149 : BitVec 1 := Scalar.cmpi .slt v147 c0_i32_132
  let c0_i32_133 : BitVec 32 := 0#32
  let v150 : BitVec 1 := Scalar.cmpi .slt v146 c0_i32_133
  let v151 : BitVec 1 := Scalar.xori v149 v150
  let c0_i32_131 : BitVec 32 := 0#32
  let v148 : BitVec 1 := Scalar.cmpi .ne v147 c0_i32_131
  let v152 : BitVec 1 := Scalar.andi v151 v148
  let v153 : BitVec 32 := Scalar.addi v147 v146
  let v154 : BitVec 32 := Scalar.select v152 v153 v147
  let c128_i32_134 : BitVec 32 := 128#32
  let v155 : BitVec 32 := Scalar.muli v154 c128_i32_134
  let c640_i32 : BitVec 32 := 640#32
  ![v155.toNat, 640]
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_143 : BitVec 32 := 1#32
  let v156 : BitVec 32 := Scalar.muli v24 c1_i32_143
  let v157 : BitVec 32 := Scalar.addi c0_i32_144 v156
  v157.toNat
def k0_off9 (d0 : Dev nD) (c0_i32_147 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v165 : BitVec 32 := Scalar.subi v2 c0_i32_147
  let c16_i32_148 : BitVec 32 := 16#32
  let c0_i32_149 : BitVec 32 := 0#32
  let v166 : BitVec 1 := Scalar.cmpi .eq c16_i32_148 c0_i32_149
  let c1_i32_150 : BitVec 32 := 1#32
  let v167 : BitVec 32 := Scalar.select v166 c1_i32_150 c16_i32_148
  let v168 : BitVec 32 := Scalar.remsi v165 v167
  let c0_i32_152 : BitVec 32 := 0#32
  let v170 : BitVec 1 := Scalar.cmpi .slt v168 c0_i32_152
  let c0_i32_153 : BitVec 32 := 0#32
  let v171 : BitVec 1 := Scalar.cmpi .slt v167 c0_i32_153
  let v172 : BitVec 1 := Scalar.xori v170 v171
  let c0_i32_151 : BitVec 32 := 0#32
  let v169 : BitVec 1 := Scalar.cmpi .ne v168 c0_i32_151
  let v173 : BitVec 1 := Scalar.andi v172 v169
  let v174 : BitVec 32 := Scalar.addi v168 v167
  let v175 : BitVec 32 := Scalar.select v173 v174 v168
  let c128_i32_154 : BitVec 32 := 128#32
  let v176 : BitVec 32 := Scalar.muli v175 c128_i32_154
  let c768_i32 : BitVec 32 := 768#32
  ![v176.toNat, 768]
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_163 : BitVec 32 := 1#32
  let v177 : BitVec 32 := Scalar.muli v24 c1_i32_163
  let v178 : BitVec 32 := Scalar.addi c0_i32_164 v177
  v178.toNat
def k0_off10 (d0 : Dev nD) (c0_i32_167 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v186 : BitVec 32 := Scalar.subi v2 c0_i32_167
  let c16_i32_168 : BitVec 32 := 16#32
  let c0_i32_169 : BitVec 32 := 0#32
  let v187 : BitVec 1 := Scalar.cmpi .eq c16_i32_168 c0_i32_169
  let c1_i32_170 : BitVec 32 := 1#32
  let v188 : BitVec 32 := Scalar.select v187 c1_i32_170 c16_i32_168
  let v189 : BitVec 32 := Scalar.remsi v186 v188
  let c0_i32_172 : BitVec 32 := 0#32
  let v191 : BitVec 1 := Scalar.cmpi .slt v189 c0_i32_172
  let c0_i32_173 : BitVec 32 := 0#32
  let v192 : BitVec 1 := Scalar.cmpi .slt v188 c0_i32_173
  let v193 : BitVec 1 := Scalar.xori v191 v192
  let c0_i32_171 : BitVec 32 := 0#32
  let v190 : BitVec 1 := Scalar.cmpi .ne v189 c0_i32_171
  let v194 : BitVec 1 := Scalar.andi v193 v190
  let v195 : BitVec 32 := Scalar.addi v189 v188
  let v196 : BitVec 32 := Scalar.select v194 v195 v189
  let c128_i32_174 : BitVec 32 := 128#32
  let v197 : BitVec 32 := Scalar.muli v196 c128_i32_174
  let c896_i32 : BitVec 32 := 896#32
  ![v197.toNat, 896]
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_183 : BitVec 32 := 1#32
  let v198 : BitVec 32 := Scalar.muli v24 c1_i32_183
  let v199 : BitVec 32 := Scalar.addi c0_i32_184 v198
  v199.toNat
def k0_off11 (d0 : Dev nD) (c0_i32_187 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v207 : BitVec 32 := Scalar.addi v2 c0_i32_187
  let c16_i32_188 : BitVec 32 := 16#32
  let c0_i32_189 : BitVec 32 := 0#32
  let v208 : BitVec 1 := Scalar.cmpi .eq c16_i32_188 c0_i32_189
  let c1_i32_190 : BitVec 32 := 1#32
  let v209 : BitVec 32 := Scalar.select v208 c1_i32_190 c16_i32_188
  let v210 : BitVec 32 := Scalar.remsi v207 v209
  let c0_i32_192 : BitVec 32 := 0#32
  let v212 : BitVec 1 := Scalar.cmpi .slt v210 c0_i32_192
  let c0_i32_193 : BitVec 32 := 0#32
  let v213 : BitVec 1 := Scalar.cmpi .slt v209 c0_i32_193
  let v214 : BitVec 1 := Scalar.xori v212 v213
  let c0_i32_191 : BitVec 32 := 0#32
  let v211 : BitVec 1 := Scalar.cmpi .ne v210 c0_i32_191
  let v215 : BitVec 1 := Scalar.andi v214 v211
  let v216 : BitVec 32 := Scalar.addi v210 v209
  let v217 : BitVec 32 := Scalar.select v215 v216 v210
  let c128_i32_194 : BitVec 32 := 128#32
  let v218 : BitVec 32 := Scalar.muli v217 c128_i32_194
  let c1024_i32 : BitVec 32 := 1024#32
  ![v218.toNat, 1024]
def k0_dev11 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_204 : BitVec 32 := 1#32
  let v219 : BitVec 32 := Scalar.muli v13 c1_i32_204
  let v220 : BitVec 32 := Scalar.addi c0_i32_205 v219
  v220.toNat
def k0_off12 (d0 : Dev nD) (c0_i32_208 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v228 : BitVec 32 := Scalar.addi v2 c0_i32_208
  let c16_i32_209 : BitVec 32 := 16#32
  let c0_i32_210 : BitVec 32 := 0#32
  let v229 : BitVec 1 := Scalar.cmpi .eq c16_i32_209 c0_i32_210
  let c1_i32_211 : BitVec 32 := 1#32
  let v230 : BitVec 32 := Scalar.select v229 c1_i32_211 c16_i32_209
  let v231 : BitVec 32 := Scalar.remsi v228 v230
  let c0_i32_213 : BitVec 32 := 0#32
  let v233 : BitVec 1 := Scalar.cmpi .slt v231 c0_i32_213
  let c0_i32_214 : BitVec 32 := 0#32
  let v234 : BitVec 1 := Scalar.cmpi .slt v230 c0_i32_214
  let v235 : BitVec 1 := Scalar.xori v233 v234
  let c0_i32_212 : BitVec 32 := 0#32
  let v232 : BitVec 1 := Scalar.cmpi .ne v231 c0_i32_212
  let v236 : BitVec 1 := Scalar.andi v235 v232
  let v237 : BitVec 32 := Scalar.addi v231 v230
  let v238 : BitVec 32 := Scalar.select v236 v237 v231
  let c128_i32_215 : BitVec 32 := 128#32
  let v239 : BitVec 32 := Scalar.muli v238 c128_i32_215
  let c1152_i32 : BitVec 32 := 1152#32
  ![v239.toNat, 1152]
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_225 : BitVec 32 := 1#32
  let v240 : BitVec 32 := Scalar.muli v13 c1_i32_225
  let v241 : BitVec 32 := Scalar.addi c0_i32_226 v240
  v241.toNat
def k0_off13 (d0 : Dev nD) (c0_i32_229 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v249 : BitVec 32 := Scalar.addi v2 c0_i32_229
  let c16_i32_230 : BitVec 32 := 16#32
  let c0_i32_231 : BitVec 32 := 0#32
  let v250 : BitVec 1 := Scalar.cmpi .eq c16_i32_230 c0_i32_231
  let c1_i32_232 : BitVec 32 := 1#32
  let v251 : BitVec 32 := Scalar.select v250 c1_i32_232 c16_i32_230
  let v252 : BitVec 32 := Scalar.remsi v249 v251
  let c0_i32_234 : BitVec 32 := 0#32
  let v254 : BitVec 1 := Scalar.cmpi .slt v252 c0_i32_234
  let c0_i32_235 : BitVec 32 := 0#32
  let v255 : BitVec 1 := Scalar.cmpi .slt v251 c0_i32_235
  let v256 : BitVec 1 := Scalar.xori v254 v255
  let c0_i32_233 : BitVec 32 := 0#32
  let v253 : BitVec 1 := Scalar.cmpi .ne v252 c0_i32_233
  let v257 : BitVec 1 := Scalar.andi v256 v253
  let v258 : BitVec 32 := Scalar.addi v252 v251
  let v259 : BitVec 32 := Scalar.select v257 v258 v252
  let c128_i32_236 : BitVec 32 := 128#32
  let v260 : BitVec 32 := Scalar.muli v259 c128_i32_236
  let c1280_i32 : BitVec 32 := 1280#32
  ![v260.toNat, 1280]
def k0_dev13 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_246 : BitVec 32 := 1#32
  let v261 : BitVec 32 := Scalar.muli v13 c1_i32_246
  let v262 : BitVec 32 := Scalar.addi c0_i32_247 v261
  v262.toNat
def k0_off14 (d0 : Dev nD) (c0_i32_250 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v270 : BitVec 32 := Scalar.addi v2 c0_i32_250
  let c16_i32_251 : BitVec 32 := 16#32
  let c0_i32_252 : BitVec 32 := 0#32
  let v271 : BitVec 1 := Scalar.cmpi .eq c16_i32_251 c0_i32_252
  let c1_i32_253 : BitVec 32 := 1#32
  let v272 : BitVec 32 := Scalar.select v271 c1_i32_253 c16_i32_251
  let v273 : BitVec 32 := Scalar.remsi v270 v272
  let c0_i32_255 : BitVec 32 := 0#32
  let v275 : BitVec 1 := Scalar.cmpi .slt v273 c0_i32_255
  let c0_i32_256 : BitVec 32 := 0#32
  let v276 : BitVec 1 := Scalar.cmpi .slt v272 c0_i32_256
  let v277 : BitVec 1 := Scalar.xori v275 v276
  let c0_i32_254 : BitVec 32 := 0#32
  let v274 : BitVec 1 := Scalar.cmpi .ne v273 c0_i32_254
  let v278 : BitVec 1 := Scalar.andi v277 v274
  let v279 : BitVec 32 := Scalar.addi v273 v272
  let v280 : BitVec 32 := Scalar.select v278 v279 v273
  let c128_i32_257 : BitVec 32 := 128#32
  let v281 : BitVec 32 := Scalar.muli v280 c128_i32_257
  let c1408_i32 : BitVec 32 := 1408#32
  ![v281.toNat, 1408]
def k0_dev14 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_267 : BitVec 32 := 1#32
  let v282 : BitVec 32 := Scalar.muli v13 c1_i32_267
  let v283 : BitVec 32 := Scalar.addi c0_i32_268 v282
  v283.toNat
def k0_off15 (d0 : Dev nD) (c0_i32_271 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v291 : BitVec 32 := Scalar.addi v2 c0_i32_271
  let c16_i32_272 : BitVec 32 := 16#32
  let c0_i32_273 : BitVec 32 := 0#32
  let v292 : BitVec 1 := Scalar.cmpi .eq c16_i32_272 c0_i32_273
  let c1_i32_274 : BitVec 32 := 1#32
  let v293 : BitVec 32 := Scalar.select v292 c1_i32_274 c16_i32_272
  let v294 : BitVec 32 := Scalar.remsi v291 v293
  let c0_i32_276 : BitVec 32 := 0#32
  let v296 : BitVec 1 := Scalar.cmpi .slt v294 c0_i32_276
  let c0_i32_277 : BitVec 32 := 0#32
  let v297 : BitVec 1 := Scalar.cmpi .slt v293 c0_i32_277
  let v298 : BitVec 1 := Scalar.xori v296 v297
  let c0_i32_275 : BitVec 32 := 0#32
  let v295 : BitVec 1 := Scalar.cmpi .ne v294 c0_i32_275
  let v299 : BitVec 1 := Scalar.andi v298 v295
  let v300 : BitVec 32 := Scalar.addi v294 v293
  let v301 : BitVec 32 := Scalar.select v299 v300 v294
  let c128_i32_278 : BitVec 32 := 128#32
  let v302 : BitVec 32 := Scalar.muli v301 c128_i32_278
  let c1536_i32 : BitVec 32 := 1536#32
  ![v302.toNat, 1536]
def k0_dev15 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_288 : BitVec 32 := 1#32
  let v303 : BitVec 32 := Scalar.muli v13 c1_i32_288
  let v304 : BitVec 32 := Scalar.addi c0_i32_289 v303
  v304.toNat
def k0_off16 (d0 : Dev nD) (c0_i32_292 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v312 : BitVec 32 := Scalar.addi v2 c0_i32_292
  let c16_i32_293 : BitVec 32 := 16#32
  let c0_i32_294 : BitVec 32 := 0#32
  let v313 : BitVec 1 := Scalar.cmpi .eq c16_i32_293 c0_i32_294
  let c1_i32_295 : BitVec 32 := 1#32
  let v314 : BitVec 32 := Scalar.select v313 c1_i32_295 c16_i32_293
  let v315 : BitVec 32 := Scalar.remsi v312 v314
  let c0_i32_297 : BitVec 32 := 0#32
  let v317 : BitVec 1 := Scalar.cmpi .slt v315 c0_i32_297
  let c0_i32_298 : BitVec 32 := 0#32
  let v318 : BitVec 1 := Scalar.cmpi .slt v314 c0_i32_298
  let v319 : BitVec 1 := Scalar.xori v317 v318
  let c0_i32_296 : BitVec 32 := 0#32
  let v316 : BitVec 1 := Scalar.cmpi .ne v315 c0_i32_296
  let v320 : BitVec 1 := Scalar.andi v319 v316
  let v321 : BitVec 32 := Scalar.addi v315 v314
  let v322 : BitVec 32 := Scalar.select v320 v321 v315
  let c128_i32_299 : BitVec 32 := 128#32
  let v323 : BitVec 32 := Scalar.muli v322 c128_i32_299
  let c1664_i32 : BitVec 32 := 1664#32
  ![v323.toNat, 1664]
def k0_dev16 (d0 : Dev nD) : Nat :=
  let c0_i32_310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_309 : BitVec 32 := 1#32
  let v324 : BitVec 32 := Scalar.muli v13 c1_i32_309
  let v325 : BitVec 32 := Scalar.addi c0_i32_310 v324
  v325.toNat
def k0_off17 (d0 : Dev nD) (c0_i32_313 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v333 : BitVec 32 := Scalar.addi v2 c0_i32_313
  let c16_i32_314 : BitVec 32 := 16#32
  let c0_i32_315 : BitVec 32 := 0#32
  let v334 : BitVec 1 := Scalar.cmpi .eq c16_i32_314 c0_i32_315
  let c1_i32_316 : BitVec 32 := 1#32
  let v335 : BitVec 32 := Scalar.select v334 c1_i32_316 c16_i32_314
  let v336 : BitVec 32 := Scalar.remsi v333 v335
  let c0_i32_318 : BitVec 32 := 0#32
  let v338 : BitVec 1 := Scalar.cmpi .slt v336 c0_i32_318
  let c0_i32_319 : BitVec 32 := 0#32
  let v339 : BitVec 1 := Scalar.cmpi .slt v335 c0_i32_319
  let v340 : BitVec 1 := Scalar.xori v338 v339
  let c0_i32_317 : BitVec 32 := 0#32
  let v337 : BitVec 1 := Scalar.cmpi .ne v336 c0_i32_317
  let v341 : BitVec 1 := Scalar.andi v340 v337
  let v342 : BitVec 32 := Scalar.addi v336 v335
  let v343 : BitVec 32 := Scalar.select v341 v342 v336
  let c128_i32_320 : BitVec 32 := 128#32
  let v344 : BitVec 32 := Scalar.muli v343 c128_i32_320
  let c1792_i32 : BitVec 32 := 1792#32
  ![v344.toNat, 1792]
def k0_dev17 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_330 : BitVec 32 := 1#32
  let v345 : BitVec 32 := Scalar.muli v13 c1_i32_330
  let v346 : BitVec 32 := Scalar.addi c0_i32_331 v345
  v346.toNat
def k0_off18 (d0 : Dev nD) (c0_i32_334 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v354 : BitVec 32 := Scalar.addi v2 c0_i32_334
  let c16_i32_335 : BitVec 32 := 16#32
  let c0_i32_336 : BitVec 32 := 0#32
  let v355 : BitVec 1 := Scalar.cmpi .eq c16_i32_335 c0_i32_336
  let c1_i32_337 : BitVec 32 := 1#32
  let v356 : BitVec 32 := Scalar.select v355 c1_i32_337 c16_i32_335
  let v357 : BitVec 32 := Scalar.remsi v354 v356
  let c0_i32_339 : BitVec 32 := 0#32
  let v359 : BitVec 1 := Scalar.cmpi .slt v357 c0_i32_339
  let c0_i32_340 : BitVec 32 := 0#32
  let v360 : BitVec 1 := Scalar.cmpi .slt v356 c0_i32_340
  let v361 : BitVec 1 := Scalar.xori v359 v360
  let c0_i32_338 : BitVec 32 := 0#32
  let v358 : BitVec 1 := Scalar.cmpi .ne v357 c0_i32_338
  let v362 : BitVec 1 := Scalar.andi v361 v358
  let v363 : BitVec 32 := Scalar.addi v357 v356
  let v364 : BitVec 32 := Scalar.select v362 v363 v357
  let c128_i32_341 : BitVec 32 := 128#32
  let v365 : BitVec 32 := Scalar.muli v364 c128_i32_341
  let c1920_i32 : BitVec 32 := 1920#32
  ![v365.toNat, 1920]
def k0_dev18 (d0 : Dev nD) : Nat :=
  let c0_i32_352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_351 : BitVec 32 := 1#32
  let v366 : BitVec 32 := Scalar.muli v13 c1_i32_351
  let v367 : BitVec 32 := Scalar.addi c0_i32_352 v366
  v367.toNat
def k0_off19 (d0 : Dev nD) (c1_i32_355 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v375 : BitVec 32 := Scalar.subi v2 c1_i32_355
  let c16_i32_356 : BitVec 32 := 16#32
  let c0_i32_357 : BitVec 32 := 0#32
  let v376 : BitVec 1 := Scalar.cmpi .eq c16_i32_356 c0_i32_357
  let c1_i32_358 : BitVec 32 := 1#32
  let v377 : BitVec 32 := Scalar.select v376 c1_i32_358 c16_i32_356
  let v378 : BitVec 32 := Scalar.remsi v375 v377
  let c0_i32_360 : BitVec 32 := 0#32
  let v380 : BitVec 1 := Scalar.cmpi .slt v378 c0_i32_360
  let c0_i32_361 : BitVec 32 := 0#32
  let v381 : BitVec 1 := Scalar.cmpi .slt v377 c0_i32_361
  let v382 : BitVec 1 := Scalar.xori v380 v381
  let c0_i32_359 : BitVec 32 := 0#32
  let v379 : BitVec 1 := Scalar.cmpi .ne v378 c0_i32_359
  let v383 : BitVec 1 := Scalar.andi v382 v379
  let v384 : BitVec 32 := Scalar.addi v378 v377
  let v385 : BitVec 32 := Scalar.select v383 v384 v378
  let c128_i32_362 : BitVec 32 := 128#32
  let v386 : BitVec 32 := Scalar.muli v385 c128_i32_362
  let v387 : Index := Scalar.indexCast v386
  let c0_363 : Index := 0#32
  ![v387.toNat, 0]
def k0_off20 (d0 : Dev nD) (c1_i32_355 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v375 : BitVec 32 := Scalar.subi v2 c1_i32_355
  let c16_i32_356 : BitVec 32 := 16#32
  let c0_i32_357 : BitVec 32 := 0#32
  let v376 : BitVec 1 := Scalar.cmpi .eq c16_i32_356 c0_i32_357
  let c1_i32_358 : BitVec 32 := 1#32
  let v377 : BitVec 32 := Scalar.select v376 c1_i32_358 c16_i32_356
  let v378 : BitVec 32 := Scalar.remsi v375 v377
  let c0_i32_360 : BitVec 32 := 0#32
  let v380 : BitVec 1 := Scalar.cmpi .slt v378 c0_i32_360
  let c0_i32_361 : BitVec 32 := 0#32
  let v381 : BitVec 1 := Scalar.cmpi .slt v377 c0_i32_361
  let v382 : BitVec 1 := Scalar.xori v380 v381
  let c0_i32_359 : BitVec 32 := 0#32
  let v379 : BitVec 1 := Scalar.cmpi .ne v378 c0_i32_359
  let v383 : BitVec 1 := Scalar.andi v382 v379
  let v384 : BitVec 32 := Scalar.addi v378 v377
  let v385 : BitVec 32 := Scalar.select v383 v384 v378
  let c128_i32_362 : BitVec 32 := 128#32
  let v386 : BitVec 32 := Scalar.muli v385 c128_i32_362
  let v393 : Index := Scalar.indexCast v386
  let c0_367 : Index := 0#32
  ![v393.toNat, 0]
def k0_off21 (d0 : Dev nD) (c1_i32_368 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v395 : BitVec 32 := Scalar.addi v2 c1_i32_368
  let c16_i32_369 : BitVec 32 := 16#32
  let c0_i32_370 : BitVec 32 := 0#32
  let v396 : BitVec 1 := Scalar.cmpi .eq c16_i32_369 c0_i32_370
  let c1_i32_371 : BitVec 32 := 1#32
  let v397 : BitVec 32 := Scalar.select v396 c1_i32_371 c16_i32_369
  let v398 : BitVec 32 := Scalar.remsi v395 v397
  let c0_i32_373 : BitVec 32 := 0#32
  let v400 : BitVec 1 := Scalar.cmpi .slt v398 c0_i32_373
  let c0_i32_374 : BitVec 32 := 0#32
  let v401 : BitVec 1 := Scalar.cmpi .slt v397 c0_i32_374
  let v402 : BitVec 1 := Scalar.xori v400 v401
  let c0_i32_372 : BitVec 32 := 0#32
  let v399 : BitVec 1 := Scalar.cmpi .ne v398 c0_i32_372
  let v403 : BitVec 1 := Scalar.andi v402 v399
  let v404 : BitVec 32 := Scalar.addi v398 v397
  let v405 : BitVec 32 := Scalar.select v403 v404 v398
  let c128_i32_375 : BitVec 32 := 128#32
  let v406 : BitVec 32 := Scalar.muli v405 c128_i32_375
  let v407 : Index := Scalar.indexCast v406
  let c0_376 : Index := 0#32
  ![v407.toNat, 0]
def k0_off22 (d0 : Dev nD) (c1_i32_368 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v395 : BitVec 32 := Scalar.addi v2 c1_i32_368
  let c16_i32_369 : BitVec 32 := 16#32
  let c0_i32_370 : BitVec 32 := 0#32
  let v396 : BitVec 1 := Scalar.cmpi .eq c16_i32_369 c0_i32_370
  let c1_i32_371 : BitVec 32 := 1#32
  let v397 : BitVec 32 := Scalar.select v396 c1_i32_371 c16_i32_369
  let v398 : BitVec 32 := Scalar.remsi v395 v397
  let c0_i32_373 : BitVec 32 := 0#32
  let v400 : BitVec 1 := Scalar.cmpi .slt v398 c0_i32_373
  let c0_i32_374 : BitVec 32 := 0#32
  let v401 : BitVec 1 := Scalar.cmpi .slt v397 c0_i32_374
  let v402 : BitVec 1 := Scalar.xori v400 v401
  let c0_i32_372 : BitVec 32 := 0#32
  let v399 : BitVec 1 := Scalar.cmpi .ne v398 c0_i32_372
  let v403 : BitVec 1 := Scalar.andi v402 v399
  let v404 : BitVec 32 := Scalar.addi v398 v397
  let v405 : BitVec 32 := Scalar.select v403 v404 v398
  let c128_i32_375 : BitVec 32 := 128#32
  let v406 : BitVec 32 := Scalar.muli v405 c128_i32_375
  let v413 : Index := Scalar.indexCast v406
  let c0_380 : Index := 0#32
  ![v413.toNat, 0]
def k0_off23 (d0 : Dev nD) (c0_i32_549 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v675 : BitVec 32 := Scalar.subi v2 c0_i32_549
  let c1_i32_550 : BitVec 32 := 1#32
  let v676 : BitVec 32 := Scalar.subi v675 c1_i32_550
  let c16_i32_551 : BitVec 32 := 16#32
  let c0_i32_552 : BitVec 32 := 0#32
  let v677 : BitVec 1 := Scalar.cmpi .eq c16_i32_551 c0_i32_552
  let c1_i32_553 : BitVec 32 := 1#32
  let v678 : BitVec 32 := Scalar.select v677 c1_i32_553 c16_i32_551
  let v679 : BitVec 32 := Scalar.remsi v676 v678
  let c0_i32_555 : BitVec 32 := 0#32
  let v681 : BitVec 1 := Scalar.cmpi .slt v679 c0_i32_555
  let c0_i32_556 : BitVec 32 := 0#32
  let v682 : BitVec 1 := Scalar.cmpi .slt v678 c0_i32_556
  let v683 : BitVec 1 := Scalar.xori v681 v682
  let c0_i32_554 : BitVec 32 := 0#32
  let v680 : BitVec 1 := Scalar.cmpi .ne v679 c0_i32_554
  let v684 : BitVec 1 := Scalar.andi v683 v680
  let v685 : BitVec 32 := Scalar.addi v679 v678
  let v686 : BitVec 32 := Scalar.select v684 v685 v679
  let c128_i32_557 : BitVec 32 := 128#32
  let v687 : BitVec 32 := Scalar.muli v686 c128_i32_557
  let v707 : Index := Scalar.indexCast v687
  let c0_580 : Index := 0#32
  ![v707.toNat, 0]
def k0_dev19 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_604 : BitVec 32 := 1#32
  let v727 : BitVec 32 := Scalar.muli v24 c1_i32_604
  let v728 : BitVec 32 := Scalar.addi c0_i32_605 v727
  v728.toNat
def k0_off24 (d0 : Dev nD) (c0_i32_622 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v741 : BitVec 32 := Scalar.addi v2 c0_i32_622
  let c1_i32_623 : BitVec 32 := 1#32
  let v742 : BitVec 32 := Scalar.addi v741 c1_i32_623
  let c16_i32_624 : BitVec 32 := 16#32
  let c0_i32_625 : BitVec 32 := 0#32
  let v743 : BitVec 1 := Scalar.cmpi .eq c16_i32_624 c0_i32_625
  let c1_i32_626 : BitVec 32 := 1#32
  let v744 : BitVec 32 := Scalar.select v743 c1_i32_626 c16_i32_624
  let v745 : BitVec 32 := Scalar.remsi v742 v744
  let c0_i32_628 : BitVec 32 := 0#32
  let v747 : BitVec 1 := Scalar.cmpi .slt v745 c0_i32_628
  let c0_i32_629 : BitVec 32 := 0#32
  let v748 : BitVec 1 := Scalar.cmpi .slt v744 c0_i32_629
  let v749 : BitVec 1 := Scalar.xori v747 v748
  let c0_i32_627 : BitVec 32 := 0#32
  let v746 : BitVec 1 := Scalar.cmpi .ne v745 c0_i32_627
  let v750 : BitVec 1 := Scalar.andi v749 v746
  let v751 : BitVec 32 := Scalar.addi v745 v744
  let v752 : BitVec 32 := Scalar.select v750 v751 v745
  let c128_i32_630 : BitVec 32 := 128#32
  let v753 : BitVec 32 := Scalar.muli v752 c128_i32_630
  let v773 : Index := Scalar.indexCast v753
  let c1024 : Index := 1024#32
  ![v773.toNat, 1024]
def k0_dev20 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_675 : BitVec 32 := 1#32
  let v793 : BitVec 32 := Scalar.muli v13 c1_i32_675
  let v794 : BitVec 32 := Scalar.addi c0_i32_676 v793
  v794.toNat
def k0_off25 (d0 : Dev nD) (c0_i32_693 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v807 : BitVec 32 := Scalar.subi v2 c0_i32_693
  let c1_i32_694 : BitVec 32 := 1#32
  let v808 : BitVec 32 := Scalar.subi v807 c1_i32_694
  let c16_i32_695 : BitVec 32 := 16#32
  let c0_i32_696 : BitVec 32 := 0#32
  let v809 : BitVec 1 := Scalar.cmpi .eq c16_i32_695 c0_i32_696
  let c1_i32_697 : BitVec 32 := 1#32
  let v810 : BitVec 32 := Scalar.select v809 c1_i32_697 c16_i32_695
  let v811 : BitVec 32 := Scalar.remsi v808 v810
  let c0_i32_699 : BitVec 32 := 0#32
  let v813 : BitVec 1 := Scalar.cmpi .slt v811 c0_i32_699
  let c0_i32_700 : BitVec 32 := 0#32
  let v814 : BitVec 1 := Scalar.cmpi .slt v810 c0_i32_700
  let v815 : BitVec 1 := Scalar.xori v813 v814
  let c0_i32_698 : BitVec 32 := 0#32
  let v812 : BitVec 1 := Scalar.cmpi .ne v811 c0_i32_698
  let v816 : BitVec 1 := Scalar.andi v815 v812
  let v817 : BitVec 32 := Scalar.addi v811 v810
  let v818 : BitVec 32 := Scalar.select v816 v817 v811
  let c128_i32_701 : BitVec 32 := 128#32
  let v819 : BitVec 32 := Scalar.muli v818 c128_i32_701
  let v839 : Index := Scalar.indexCast v819
  let c128 : Index := 128#32
  ![v839.toNat, 128]
def k0_dev21 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_747 : BitVec 32 := 1#32
  let v859 : BitVec 32 := Scalar.muli v24 c1_i32_747
  let v860 : BitVec 32 := Scalar.addi c0_i32_748 v859
  v860.toNat
def k0_off26 (d0 : Dev nD) (c0_i32_765 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v873 : BitVec 32 := Scalar.addi v2 c0_i32_765
  let c1_i32_766 : BitVec 32 := 1#32
  let v874 : BitVec 32 := Scalar.addi v873 c1_i32_766
  let c16_i32_767 : BitVec 32 := 16#32
  let c0_i32_768 : BitVec 32 := 0#32
  let v875 : BitVec 1 := Scalar.cmpi .eq c16_i32_767 c0_i32_768
  let c1_i32_769 : BitVec 32 := 1#32
  let v876 : BitVec 32 := Scalar.select v875 c1_i32_769 c16_i32_767
  let v877 : BitVec 32 := Scalar.remsi v874 v876
  let c0_i32_771 : BitVec 32 := 0#32
  let v879 : BitVec 1 := Scalar.cmpi .slt v877 c0_i32_771
  let c0_i32_772 : BitVec 32 := 0#32
  let v880 : BitVec 1 := Scalar.cmpi .slt v876 c0_i32_772
  let v881 : BitVec 1 := Scalar.xori v879 v880
  let c0_i32_770 : BitVec 32 := 0#32
  let v878 : BitVec 1 := Scalar.cmpi .ne v877 c0_i32_770
  let v882 : BitVec 1 := Scalar.andi v881 v878
  let v883 : BitVec 32 := Scalar.addi v877 v876
  let v884 : BitVec 32 := Scalar.select v882 v883 v877
  let c128_i32_773 : BitVec 32 := 128#32
  let v885 : BitVec 32 := Scalar.muli v884 c128_i32_773
  let v905 : Index := Scalar.indexCast v885
  let c1152 : Index := 1152#32
  ![v905.toNat, 1152]
def k0_dev22 (d0 : Dev nD) : Nat :=
  let c0_i32_820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_819 : BitVec 32 := 1#32
  let v925 : BitVec 32 := Scalar.muli v13 c1_i32_819
  let v926 : BitVec 32 := Scalar.addi c0_i32_820 v925
  v926.toNat
def k0_off27 (d0 : Dev nD) (c0_i32_837 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v939 : BitVec 32 := Scalar.subi v2 c0_i32_837
  let c1_i32_838 : BitVec 32 := 1#32
  let v940 : BitVec 32 := Scalar.subi v939 c1_i32_838
  let c16_i32_839 : BitVec 32 := 16#32
  let c0_i32_840 : BitVec 32 := 0#32
  let v941 : BitVec 1 := Scalar.cmpi .eq c16_i32_839 c0_i32_840
  let c1_i32_841 : BitVec 32 := 1#32
  let v942 : BitVec 32 := Scalar.select v941 c1_i32_841 c16_i32_839
  let v943 : BitVec 32 := Scalar.remsi v940 v942
  let c0_i32_843 : BitVec 32 := 0#32
  let v945 : BitVec 1 := Scalar.cmpi .slt v943 c0_i32_843
  let c0_i32_844 : BitVec 32 := 0#32
  let v946 : BitVec 1 := Scalar.cmpi .slt v942 c0_i32_844
  let v947 : BitVec 1 := Scalar.xori v945 v946
  let c0_i32_842 : BitVec 32 := 0#32
  let v944 : BitVec 1 := Scalar.cmpi .ne v943 c0_i32_842
  let v948 : BitVec 1 := Scalar.andi v947 v944
  let v949 : BitVec 32 := Scalar.addi v943 v942
  let v950 : BitVec 32 := Scalar.select v948 v949 v943
  let c128_i32_845 : BitVec 32 := 128#32
  let v951 : BitVec 32 := Scalar.muli v950 c128_i32_845
  let v971 : Index := Scalar.indexCast v951
  let c256 : Index := 256#32
  ![v971.toNat, 256]
def k0_dev23 (d0 : Dev nD) : Nat :=
  let c0_i32_891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_890 : BitVec 32 := 1#32
  let v991 : BitVec 32 := Scalar.muli v24 c1_i32_890
  let v992 : BitVec 32 := Scalar.addi c0_i32_891 v991
  v992.toNat
def k0_off28 (d0 : Dev nD) (c0_i32_908 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1005 : BitVec 32 := Scalar.addi v2 c0_i32_908
  let c1_i32_909 : BitVec 32 := 1#32
  let v1006 : BitVec 32 := Scalar.addi v1005 c1_i32_909
  let c16_i32_910 : BitVec 32 := 16#32
  let c0_i32_911 : BitVec 32 := 0#32
  let v1007 : BitVec 1 := Scalar.cmpi .eq c16_i32_910 c0_i32_911
  let c1_i32_912 : BitVec 32 := 1#32
  let v1008 : BitVec 32 := Scalar.select v1007 c1_i32_912 c16_i32_910
  let v1009 : BitVec 32 := Scalar.remsi v1006 v1008
  let c0_i32_914 : BitVec 32 := 0#32
  let v1011 : BitVec 1 := Scalar.cmpi .slt v1009 c0_i32_914
  let c0_i32_915 : BitVec 32 := 0#32
  let v1012 : BitVec 1 := Scalar.cmpi .slt v1008 c0_i32_915
  let v1013 : BitVec 1 := Scalar.xori v1011 v1012
  let c0_i32_913 : BitVec 32 := 0#32
  let v1010 : BitVec 1 := Scalar.cmpi .ne v1009 c0_i32_913
  let v1014 : BitVec 1 := Scalar.andi v1013 v1010
  let v1015 : BitVec 32 := Scalar.addi v1009 v1008
  let v1016 : BitVec 32 := Scalar.select v1014 v1015 v1009
  let c128_i32_916 : BitVec 32 := 128#32
  let v1017 : BitVec 32 := Scalar.muli v1016 c128_i32_916
  let v1037 : Index := Scalar.indexCast v1017
  let c1280 : Index := 1280#32
  ![v1037.toNat, 1280]
def k0_dev24 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_962 : BitVec 32 := 1#32
  let v1057 : BitVec 32 := Scalar.muli v13 c1_i32_962
  let v1058 : BitVec 32 := Scalar.addi c0_i32_963 v1057
  v1058.toNat
def k0_off29 (d0 : Dev nD) (c0_i32_980 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1071 : BitVec 32 := Scalar.subi v2 c0_i32_980
  let c1_i32_981 : BitVec 32 := 1#32
  let v1072 : BitVec 32 := Scalar.subi v1071 c1_i32_981
  let c16_i32_982 : BitVec 32 := 16#32
  let c0_i32_983 : BitVec 32 := 0#32
  let v1073 : BitVec 1 := Scalar.cmpi .eq c16_i32_982 c0_i32_983
  let c1_i32_984 : BitVec 32 := 1#32
  let v1074 : BitVec 32 := Scalar.select v1073 c1_i32_984 c16_i32_982
  let v1075 : BitVec 32 := Scalar.remsi v1072 v1074
  let c0_i32_986 : BitVec 32 := 0#32
  let v1077 : BitVec 1 := Scalar.cmpi .slt v1075 c0_i32_986
  let c0_i32_987 : BitVec 32 := 0#32
  let v1078 : BitVec 1 := Scalar.cmpi .slt v1074 c0_i32_987
  let v1079 : BitVec 1 := Scalar.xori v1077 v1078
  let c0_i32_985 : BitVec 32 := 0#32
  let v1076 : BitVec 1 := Scalar.cmpi .ne v1075 c0_i32_985
  let v1080 : BitVec 1 := Scalar.andi v1079 v1076
  let v1081 : BitVec 32 := Scalar.addi v1075 v1074
  let v1082 : BitVec 32 := Scalar.select v1080 v1081 v1075
  let c128_i32_988 : BitVec 32 := 128#32
  let v1083 : BitVec 32 := Scalar.muli v1082 c128_i32_988
  let v1103 : Index := Scalar.indexCast v1083
  let c384 : Index := 384#32
  ![v1103.toNat, 384]
def k0_dev25 (d0 : Dev nD) : Nat :=
  let c0_i32_1034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1033 : BitVec 32 := 1#32
  let v1123 : BitVec 32 := Scalar.muli v24 c1_i32_1033
  let v1124 : BitVec 32 := Scalar.addi c0_i32_1034 v1123
  v1124.toNat
def k0_off30 (d0 : Dev nD) (c0_i32_1051 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1137 : BitVec 32 := Scalar.addi v2 c0_i32_1051
  let c1_i32_1052 : BitVec 32 := 1#32
  let v1138 : BitVec 32 := Scalar.addi v1137 c1_i32_1052
  let c16_i32_1053 : BitVec 32 := 16#32
  let c0_i32_1054 : BitVec 32 := 0#32
  let v1139 : BitVec 1 := Scalar.cmpi .eq c16_i32_1053 c0_i32_1054
  let c1_i32_1055 : BitVec 32 := 1#32
  let v1140 : BitVec 32 := Scalar.select v1139 c1_i32_1055 c16_i32_1053
  let v1141 : BitVec 32 := Scalar.remsi v1138 v1140
  let c0_i32_1057 : BitVec 32 := 0#32
  let v1143 : BitVec 1 := Scalar.cmpi .slt v1141 c0_i32_1057
  let c0_i32_1058 : BitVec 32 := 0#32
  let v1144 : BitVec 1 := Scalar.cmpi .slt v1140 c0_i32_1058
  let v1145 : BitVec 1 := Scalar.xori v1143 v1144
  let c0_i32_1056 : BitVec 32 := 0#32
  let v1142 : BitVec 1 := Scalar.cmpi .ne v1141 c0_i32_1056
  let v1146 : BitVec 1 := Scalar.andi v1145 v1142
  let v1147 : BitVec 32 := Scalar.addi v1141 v1140
  let v1148 : BitVec 32 := Scalar.select v1146 v1147 v1141
  let c128_i32_1059 : BitVec 32 := 128#32
  let v1149 : BitVec 32 := Scalar.muli v1148 c128_i32_1059
  let v1169 : Index := Scalar.indexCast v1149
  let c1408 : Index := 1408#32
  ![v1169.toNat, 1408]
def k0_dev26 (d0 : Dev nD) : Nat :=
  let c0_i32_1106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1105 : BitVec 32 := 1#32
  let v1189 : BitVec 32 := Scalar.muli v13 c1_i32_1105
  let v1190 : BitVec 32 := Scalar.addi c0_i32_1106 v1189
  v1190.toNat
def k0_off31 (d0 : Dev nD) (c0_i32_1123 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1203 : BitVec 32 := Scalar.subi v2 c0_i32_1123
  let c1_i32_1124 : BitVec 32 := 1#32
  let v1204 : BitVec 32 := Scalar.subi v1203 c1_i32_1124
  let c16_i32_1125 : BitVec 32 := 16#32
  let c0_i32_1126 : BitVec 32 := 0#32
  let v1205 : BitVec 1 := Scalar.cmpi .eq c16_i32_1125 c0_i32_1126
  let c1_i32_1127 : BitVec 32 := 1#32
  let v1206 : BitVec 32 := Scalar.select v1205 c1_i32_1127 c16_i32_1125
  let v1207 : BitVec 32 := Scalar.remsi v1204 v1206
  let c0_i32_1129 : BitVec 32 := 0#32
  let v1209 : BitVec 1 := Scalar.cmpi .slt v1207 c0_i32_1129
  let c0_i32_1130 : BitVec 32 := 0#32
  let v1210 : BitVec 1 := Scalar.cmpi .slt v1206 c0_i32_1130
  let v1211 : BitVec 1 := Scalar.xori v1209 v1210
  let c0_i32_1128 : BitVec 32 := 0#32
  let v1208 : BitVec 1 := Scalar.cmpi .ne v1207 c0_i32_1128
  let v1212 : BitVec 1 := Scalar.andi v1211 v1208
  let v1213 : BitVec 32 := Scalar.addi v1207 v1206
  let v1214 : BitVec 32 := Scalar.select v1212 v1213 v1207
  let c128_i32_1131 : BitVec 32 := 128#32
  let v1215 : BitVec 32 := Scalar.muli v1214 c128_i32_1131
  let v1235 : Index := Scalar.indexCast v1215
  let c512 : Index := 512#32
  ![v1235.toNat, 512]
def k0_dev27 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1176 : BitVec 32 := 1#32
  let v1255 : BitVec 32 := Scalar.muli v24 c1_i32_1176
  let v1256 : BitVec 32 := Scalar.addi c0_i32_1177 v1255
  v1256.toNat
def k0_off32 (d0 : Dev nD) (c0_i32_1194 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1269 : BitVec 32 := Scalar.addi v2 c0_i32_1194
  let c1_i32_1195 : BitVec 32 := 1#32
  let v1270 : BitVec 32 := Scalar.addi v1269 c1_i32_1195
  let c16_i32_1196 : BitVec 32 := 16#32
  let c0_i32_1197 : BitVec 32 := 0#32
  let v1271 : BitVec 1 := Scalar.cmpi .eq c16_i32_1196 c0_i32_1197
  let c1_i32_1198 : BitVec 32 := 1#32
  let v1272 : BitVec 32 := Scalar.select v1271 c1_i32_1198 c16_i32_1196
  let v1273 : BitVec 32 := Scalar.remsi v1270 v1272
  let c0_i32_1200 : BitVec 32 := 0#32
  let v1275 : BitVec 1 := Scalar.cmpi .slt v1273 c0_i32_1200
  let c0_i32_1201 : BitVec 32 := 0#32
  let v1276 : BitVec 1 := Scalar.cmpi .slt v1272 c0_i32_1201
  let v1277 : BitVec 1 := Scalar.xori v1275 v1276
  let c0_i32_1199 : BitVec 32 := 0#32
  let v1274 : BitVec 1 := Scalar.cmpi .ne v1273 c0_i32_1199
  let v1278 : BitVec 1 := Scalar.andi v1277 v1274
  let v1279 : BitVec 32 := Scalar.addi v1273 v1272
  let v1280 : BitVec 32 := Scalar.select v1278 v1279 v1273
  let c128_i32_1202 : BitVec 32 := 128#32
  let v1281 : BitVec 32 := Scalar.muli v1280 c128_i32_1202
  let v1301 : Index := Scalar.indexCast v1281
  let c1536 : Index := 1536#32
  ![v1301.toNat, 1536]
def k0_dev28 (d0 : Dev nD) : Nat :=
  let c0_i32_1249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1248 : BitVec 32 := 1#32
  let v1321 : BitVec 32 := Scalar.muli v13 c1_i32_1248
  let v1322 : BitVec 32 := Scalar.addi c0_i32_1249 v1321
  v1322.toNat
def k0_off33 (d0 : Dev nD) (c0_i32_1266 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1335 : BitVec 32 := Scalar.subi v2 c0_i32_1266
  let c1_i32_1267 : BitVec 32 := 1#32
  let v1336 : BitVec 32 := Scalar.subi v1335 c1_i32_1267
  let c16_i32_1268 : BitVec 32 := 16#32
  let c0_i32_1269 : BitVec 32 := 0#32
  let v1337 : BitVec 1 := Scalar.cmpi .eq c16_i32_1268 c0_i32_1269
  let c1_i32_1270 : BitVec 32 := 1#32
  let v1338 : BitVec 32 := Scalar.select v1337 c1_i32_1270 c16_i32_1268
  let v1339 : BitVec 32 := Scalar.remsi v1336 v1338
  let c0_i32_1272 : BitVec 32 := 0#32
  let v1341 : BitVec 1 := Scalar.cmpi .slt v1339 c0_i32_1272
  let c0_i32_1273 : BitVec 32 := 0#32
  let v1342 : BitVec 1 := Scalar.cmpi .slt v1338 c0_i32_1273
  let v1343 : BitVec 1 := Scalar.xori v1341 v1342
  let c0_i32_1271 : BitVec 32 := 0#32
  let v1340 : BitVec 1 := Scalar.cmpi .ne v1339 c0_i32_1271
  let v1344 : BitVec 1 := Scalar.andi v1343 v1340
  let v1345 : BitVec 32 := Scalar.addi v1339 v1338
  let v1346 : BitVec 32 := Scalar.select v1344 v1345 v1339
  let c128_i32_1274 : BitVec 32 := 128#32
  let v1347 : BitVec 32 := Scalar.muli v1346 c128_i32_1274
  let v1367 : Index := Scalar.indexCast v1347
  let c640 : Index := 640#32
  ![v1367.toNat, 640]
def k0_dev29 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1319 : BitVec 32 := 1#32
  let v1387 : BitVec 32 := Scalar.muli v24 c1_i32_1319
  let v1388 : BitVec 32 := Scalar.addi c0_i32_1320 v1387
  v1388.toNat
def k0_off34 (d0 : Dev nD) (c0_i32_1337 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1401 : BitVec 32 := Scalar.addi v2 c0_i32_1337
  let c1_i32_1338 : BitVec 32 := 1#32
  let v1402 : BitVec 32 := Scalar.addi v1401 c1_i32_1338
  let c16_i32_1339 : BitVec 32 := 16#32
  let c0_i32_1340 : BitVec 32 := 0#32
  let v1403 : BitVec 1 := Scalar.cmpi .eq c16_i32_1339 c0_i32_1340
  let c1_i32_1341 : BitVec 32 := 1#32
  let v1404 : BitVec 32 := Scalar.select v1403 c1_i32_1341 c16_i32_1339
  let v1405 : BitVec 32 := Scalar.remsi v1402 v1404
  let c0_i32_1343 : BitVec 32 := 0#32
  let v1407 : BitVec 1 := Scalar.cmpi .slt v1405 c0_i32_1343
  let c0_i32_1344 : BitVec 32 := 0#32
  let v1408 : BitVec 1 := Scalar.cmpi .slt v1404 c0_i32_1344
  let v1409 : BitVec 1 := Scalar.xori v1407 v1408
  let c0_i32_1342 : BitVec 32 := 0#32
  let v1406 : BitVec 1 := Scalar.cmpi .ne v1405 c0_i32_1342
  let v1410 : BitVec 1 := Scalar.andi v1409 v1406
  let v1411 : BitVec 32 := Scalar.addi v1405 v1404
  let v1412 : BitVec 32 := Scalar.select v1410 v1411 v1405
  let c128_i32_1345 : BitVec 32 := 128#32
  let v1413 : BitVec 32 := Scalar.muli v1412 c128_i32_1345
  let v1433 : Index := Scalar.indexCast v1413
  let c1664 : Index := 1664#32
  ![v1433.toNat, 1664]
def k0_dev30 (d0 : Dev nD) : Nat :=
  let c0_i32_1392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1391 : BitVec 32 := 1#32
  let v1453 : BitVec 32 := Scalar.muli v13 c1_i32_1391
  let v1454 : BitVec 32 := Scalar.addi c0_i32_1392 v1453
  v1454.toNat
def k0_off35 (d0 : Dev nD) (c0_i32_1409 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1467 : BitVec 32 := Scalar.subi v2 c0_i32_1409
  let c1_i32_1410 : BitVec 32 := 1#32
  let v1468 : BitVec 32 := Scalar.subi v1467 c1_i32_1410
  let c16_i32_1411 : BitVec 32 := 16#32
  let c0_i32_1412 : BitVec 32 := 0#32
  let v1469 : BitVec 1 := Scalar.cmpi .eq c16_i32_1411 c0_i32_1412
  let c1_i32_1413 : BitVec 32 := 1#32
  let v1470 : BitVec 32 := Scalar.select v1469 c1_i32_1413 c16_i32_1411
  let v1471 : BitVec 32 := Scalar.remsi v1468 v1470
  let c0_i32_1415 : BitVec 32 := 0#32
  let v1473 : BitVec 1 := Scalar.cmpi .slt v1471 c0_i32_1415
  let c0_i32_1416 : BitVec 32 := 0#32
  let v1474 : BitVec 1 := Scalar.cmpi .slt v1470 c0_i32_1416
  let v1475 : BitVec 1 := Scalar.xori v1473 v1474
  let c0_i32_1414 : BitVec 32 := 0#32
  let v1472 : BitVec 1 := Scalar.cmpi .ne v1471 c0_i32_1414
  let v1476 : BitVec 1 := Scalar.andi v1475 v1472
  let v1477 : BitVec 32 := Scalar.addi v1471 v1470
  let v1478 : BitVec 32 := Scalar.select v1476 v1477 v1471
  let c128_i32_1417 : BitVec 32 := 128#32
  let v1479 : BitVec 32 := Scalar.muli v1478 c128_i32_1417
  let v1499 : Index := Scalar.indexCast v1479
  let c768 : Index := 768#32
  ![v1499.toNat, 768]
def k0_dev31 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1462 : BitVec 32 := 1#32
  let v1519 : BitVec 32 := Scalar.muli v24 c1_i32_1462
  let v1520 : BitVec 32 := Scalar.addi c0_i32_1463 v1519
  v1520.toNat
def k0_off36 (d0 : Dev nD) (c0_i32_1480 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1533 : BitVec 32 := Scalar.addi v2 c0_i32_1480
  let c1_i32_1481 : BitVec 32 := 1#32
  let v1534 : BitVec 32 := Scalar.addi v1533 c1_i32_1481
  let c16_i32_1482 : BitVec 32 := 16#32
  let c0_i32_1483 : BitVec 32 := 0#32
  let v1535 : BitVec 1 := Scalar.cmpi .eq c16_i32_1482 c0_i32_1483
  let c1_i32_1484 : BitVec 32 := 1#32
  let v1536 : BitVec 32 := Scalar.select v1535 c1_i32_1484 c16_i32_1482
  let v1537 : BitVec 32 := Scalar.remsi v1534 v1536
  let c0_i32_1486 : BitVec 32 := 0#32
  let v1539 : BitVec 1 := Scalar.cmpi .slt v1537 c0_i32_1486
  let c0_i32_1487 : BitVec 32 := 0#32
  let v1540 : BitVec 1 := Scalar.cmpi .slt v1536 c0_i32_1487
  let v1541 : BitVec 1 := Scalar.xori v1539 v1540
  let c0_i32_1485 : BitVec 32 := 0#32
  let v1538 : BitVec 1 := Scalar.cmpi .ne v1537 c0_i32_1485
  let v1542 : BitVec 1 := Scalar.andi v1541 v1538
  let v1543 : BitVec 32 := Scalar.addi v1537 v1536
  let v1544 : BitVec 32 := Scalar.select v1542 v1543 v1537
  let c128_i32_1488 : BitVec 32 := 128#32
  let v1545 : BitVec 32 := Scalar.muli v1544 c128_i32_1488
  let v1565 : Index := Scalar.indexCast v1545
  let c1792 : Index := 1792#32
  ![v1565.toNat, 1792]
def k0_dev32 (d0 : Dev nD) : Nat :=
  let c0_i32_1535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1534 : BitVec 32 := 1#32
  let v1585 : BitVec 32 := Scalar.muli v13 c1_i32_1534
  let v1586 : BitVec 32 := Scalar.addi c0_i32_1535 v1585
  v1586.toNat
def k0_off37 (d0 : Dev nD) (c0_i32_1552 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1599 : BitVec 32 := Scalar.subi v2 c0_i32_1552
  let c1_i32_1553 : BitVec 32 := 1#32
  let v1600 : BitVec 32 := Scalar.subi v1599 c1_i32_1553
  let c16_i32_1554 : BitVec 32 := 16#32
  let c0_i32_1555 : BitVec 32 := 0#32
  let v1601 : BitVec 1 := Scalar.cmpi .eq c16_i32_1554 c0_i32_1555
  let c1_i32_1556 : BitVec 32 := 1#32
  let v1602 : BitVec 32 := Scalar.select v1601 c1_i32_1556 c16_i32_1554
  let v1603 : BitVec 32 := Scalar.remsi v1600 v1602
  let c0_i32_1558 : BitVec 32 := 0#32
  let v1605 : BitVec 1 := Scalar.cmpi .slt v1603 c0_i32_1558
  let c0_i32_1559 : BitVec 32 := 0#32
  let v1606 : BitVec 1 := Scalar.cmpi .slt v1602 c0_i32_1559
  let v1607 : BitVec 1 := Scalar.xori v1605 v1606
  let c0_i32_1557 : BitVec 32 := 0#32
  let v1604 : BitVec 1 := Scalar.cmpi .ne v1603 c0_i32_1557
  let v1608 : BitVec 1 := Scalar.andi v1607 v1604
  let v1609 : BitVec 32 := Scalar.addi v1603 v1602
  let v1610 : BitVec 32 := Scalar.select v1608 v1609 v1603
  let c128_i32_1560 : BitVec 32 := 128#32
  let v1611 : BitVec 32 := Scalar.muli v1610 c128_i32_1560
  let v1631 : Index := Scalar.indexCast v1611
  let c896 : Index := 896#32
  ![v1631.toNat, 896]
def k0_dev33 (d0 : Dev nD) : Nat :=
  let c0_i32_1606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1605 : BitVec 32 := 1#32
  let v1651 : BitVec 32 := Scalar.muli v24 c1_i32_1605
  let v1652 : BitVec 32 := Scalar.addi c0_i32_1606 v1651
  v1652.toNat
def k0_off38 (d0 : Dev nD) (c0_i32_1623 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1665 : BitVec 32 := Scalar.addi v2 c0_i32_1623
  let c1_i32_1624 : BitVec 32 := 1#32
  let v1666 : BitVec 32 := Scalar.addi v1665 c1_i32_1624
  let c16_i32_1625 : BitVec 32 := 16#32
  let c0_i32_1626 : BitVec 32 := 0#32
  let v1667 : BitVec 1 := Scalar.cmpi .eq c16_i32_1625 c0_i32_1626
  let c1_i32_1627 : BitVec 32 := 1#32
  let v1668 : BitVec 32 := Scalar.select v1667 c1_i32_1627 c16_i32_1625
  let v1669 : BitVec 32 := Scalar.remsi v1666 v1668
  let c0_i32_1629 : BitVec 32 := 0#32
  let v1671 : BitVec 1 := Scalar.cmpi .slt v1669 c0_i32_1629
  let c0_i32_1630 : BitVec 32 := 0#32
  let v1672 : BitVec 1 := Scalar.cmpi .slt v1668 c0_i32_1630
  let v1673 : BitVec 1 := Scalar.xori v1671 v1672
  let c0_i32_1628 : BitVec 32 := 0#32
  let v1670 : BitVec 1 := Scalar.cmpi .ne v1669 c0_i32_1628
  let v1674 : BitVec 1 := Scalar.andi v1673 v1670
  let v1675 : BitVec 32 := Scalar.addi v1669 v1668
  let v1676 : BitVec 32 := Scalar.select v1674 v1675 v1669
  let c128_i32_1631 : BitVec 32 := 128#32
  let v1677 : BitVec 32 := Scalar.muli v1676 c128_i32_1631
  let v1697 : Index := Scalar.indexCast v1677
  let c1920 : Index := 1920#32
  ![v1697.toNat, 1920]
def k0_dev34 (d0 : Dev nD) : Nat :=
  let c0_i32_1678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1677 : BitVec 32 := 1#32
  let v1717 : BitVec 32 := Scalar.muli v13 c1_i32_1677
  let v1718 : BitVec 32 := Scalar.addi c0_i32_1678 v1717
  v1718.toNat
def k0_dev35 (d0 : Dev nD) : Nat :=
  let c0_i32_1751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1750 : BitVec 32 := 1#32
  let v1783 : BitVec 32 := Scalar.muli v24 c1_i32_1750
  let v1784 : BitVec 32 := Scalar.addi c0_i32_1751 v1783
  v1784.toNat
def k0_dev36 (d0 : Dev nD) : Nat :=
  let c0_i32_1824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1823 : BitVec 32 := 1#32
  let v1849 : BitVec 32 := Scalar.muli v13 c1_i32_1823
  let v1850 : BitVec 32 := Scalar.addi c0_i32_1824 v1849
  v1850.toNat
def k0_dev37 (d0 : Dev nD) : Nat :=
  let c0_i32_1897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1896 : BitVec 32 := 1#32
  let v1915 : BitVec 32 := Scalar.muli v24 c1_i32_1896
  let v1916 : BitVec 32 := Scalar.addi c0_i32_1897 v1915
  v1916.toNat
def k0_dev38 (d0 : Dev nD) : Nat :=
  let c0_i32_1970 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1969 : BitVec 32 := 1#32
  let v1981 : BitVec 32 := Scalar.muli v13 c1_i32_1969
  let v1982 : BitVec 32 := Scalar.addi c0_i32_1970 v1981
  v1982.toNat
def k0_dev39 (d0 : Dev nD) : Nat :=
  let c0_i32_2043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2042 : BitVec 32 := 1#32
  let v2047 : BitVec 32 := Scalar.muli v24 c1_i32_2042
  let v2048 : BitVec 32 := Scalar.addi c0_i32_2043 v2047
  v2048.toNat
def k0_dev40 (d0 : Dev nD) : Nat :=
  let c0_i32_2116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2115 : BitVec 32 := 1#32
  let v2113 : BitVec 32 := Scalar.muli v13 c1_i32_2115
  let v2114 : BitVec 32 := Scalar.addi c0_i32_2116 v2113
  v2114.toNat
def k0_dev41 (d0 : Dev nD) : Nat :=
  let c0_i32_2189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2188 : BitVec 32 := 1#32
  let v2179 : BitVec 32 := Scalar.muli v24 c1_i32_2188
  let v2180 : BitVec 32 := Scalar.addi c0_i32_2189 v2179
  v2180.toNat
def k0_dev42 (d0 : Dev nD) : Nat :=
  let c0_i32_2262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2261 : BitVec 32 := 1#32
  let v2245 : BitVec 32 := Scalar.muli v13 c1_i32_2261
  let v2246 : BitVec 32 := Scalar.addi c0_i32_2262 v2245
  v2246.toNat
def k0_dev43 (d0 : Dev nD) : Nat :=
  let c0_i32_2335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2334 : BitVec 32 := 1#32
  let v2311 : BitVec 32 := Scalar.muli v24 c1_i32_2334
  let v2312 : BitVec 32 := Scalar.addi c0_i32_2335 v2311
  v2312.toNat
def k0_dev44 (d0 : Dev nD) : Nat :=
  let c0_i32_2408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2407 : BitVec 32 := 1#32
  let v2377 : BitVec 32 := Scalar.muli v13 c1_i32_2407
  let v2378 : BitVec 32 := Scalar.addi c0_i32_2408 v2377
  v2378.toNat
def k0_dev45 (d0 : Dev nD) : Nat :=
  let c0_i32_2481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2480 : BitVec 32 := 1#32
  let v2443 : BitVec 32 := Scalar.muli v24 c1_i32_2480
  let v2444 : BitVec 32 := Scalar.addi c0_i32_2481 v2443
  v2444.toNat
def k0_dev46 (d0 : Dev nD) : Nat :=
  let c0_i32_2554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2553 : BitVec 32 := 1#32
  let v2509 : BitVec 32 := Scalar.muli v13 c1_i32_2553
  let v2510 : BitVec 32 := Scalar.addi c0_i32_2554 v2509
  v2510.toNat
def k0_dev47 (d0 : Dev nD) : Nat :=
  let c0_i32_2627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2626 : BitVec 32 := 1#32
  let v2575 : BitVec 32 := Scalar.muli v24 c1_i32_2626
  let v2576 : BitVec 32 := Scalar.addi c0_i32_2627 v2575
  v2576.toNat
def k0_dev48 (d0 : Dev nD) : Nat :=
  let c0_i32_2700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2699 : BitVec 32 := 1#32
  let v2641 : BitVec 32 := Scalar.muli v13 c1_i32_2699
  let v2642 : BitVec 32 := Scalar.addi c0_i32_2700 v2641
  v2642.toNat
def k0_dev49 (d0 : Dev nD) : Nat :=
  let c0_i32_2773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2772 : BitVec 32 := 1#32
  let v2707 : BitVec 32 := Scalar.muli v24 c1_i32_2772
  let v2708 : BitVec 32 := Scalar.addi c0_i32_2773 v2707
  v2708.toNat
def k0_dev50 (d0 : Dev nD) : Nat :=
  let c0_i32_2846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2845 : BitVec 32 := 1#32
  let v2773 : BitVec 32 := Scalar.muli v13 c1_i32_2845
  let v2774 : BitVec 32 := Scalar.addi c0_i32_2846 v2773
  v2774.toNat
def k0_dev51 (d0 : Dev nD) : Nat :=
  let c0_i32_2919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2918 : BitVec 32 := 1#32
  let v2839 : BitVec 32 := Scalar.muli v24 c1_i32_2918
  let v2840 : BitVec 32 := Scalar.addi c0_i32_2919 v2839
  v2840.toNat
def k0_dev52 (d0 : Dev nD) : Nat :=
  let c0_i32_2992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2991 : BitVec 32 := 1#32
  let v2905 : BitVec 32 := Scalar.muli v13 c1_i32_2991
  let v2906 : BitVec 32 := Scalar.addi c0_i32_2992 v2905
  v2906.toNat
def k0_dev53 (d0 : Dev nD) : Nat :=
  let c0_i32_3065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3064 : BitVec 32 := 1#32
  let v2971 : BitVec 32 := Scalar.muli v24 c1_i32_3064
  let v2972 : BitVec 32 := Scalar.addi c0_i32_3065 v2971
  v2972.toNat
def k0_dev54 (d0 : Dev nD) : Nat :=
  let c0_i32_3138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3137 : BitVec 32 := 1#32
  let v3037 : BitVec 32 := Scalar.muli v13 c1_i32_3137
  let v3038 : BitVec 32 := Scalar.addi c0_i32_3138 v3037
  v3038.toNat
def k0_dev55 (d0 : Dev nD) : Nat :=
  let c0_i32_3211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3210 : BitVec 32 := 1#32
  let v3103 : BitVec 32 := Scalar.muli v24 c1_i32_3210
  let v3104 : BitVec 32 := Scalar.addi c0_i32_3211 v3103
  v3104.toNat
def k0_dev56 (d0 : Dev nD) : Nat :=
  let c0_i32_3284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3283 : BitVec 32 := 1#32
  let v3169 : BitVec 32 := Scalar.muli v13 c1_i32_3283
  let v3170 : BitVec 32 := Scalar.addi c0_i32_3284 v3169
  v3170.toNat
def k0_dev57 (d0 : Dev nD) : Nat :=
  let c0_i32_3357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3356 : BitVec 32 := 1#32
  let v3235 : BitVec 32 := Scalar.muli v24 c1_i32_3356
  let v3236 : BitVec 32 := Scalar.addi c0_i32_3357 v3235
  v3236.toNat
def k0_dev58 (d0 : Dev nD) : Nat :=
  let c0_i32_3430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3429 : BitVec 32 := 1#32
  let v3301 : BitVec 32 := Scalar.muli v13 c1_i32_3429
  let v3302 : BitVec 32 := Scalar.addi c0_i32_3430 v3301
  v3302.toNat
def k0_dev59 (d0 : Dev nD) : Nat :=
  let c0_i32_3503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3502 : BitVec 32 := 1#32
  let v3367 : BitVec 32 := Scalar.muli v24 c1_i32_3502
  let v3368 : BitVec 32 := Scalar.addi c0_i32_3503 v3367
  v3368.toNat
def k0_dev60 (d0 : Dev nD) : Nat :=
  let c0_i32_3576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3575 : BitVec 32 := 1#32
  let v3433 : BitVec 32 := Scalar.muli v13 c1_i32_3575
  let v3434 : BitVec 32 := Scalar.addi c0_i32_3576 v3433
  v3434.toNat
def k0_dev61 (d0 : Dev nD) : Nat :=
  let c0_i32_3649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3648 : BitVec 32 := 1#32
  let v3499 : BitVec 32 := Scalar.muli v24 c1_i32_3648
  let v3500 : BitVec 32 := Scalar.addi c0_i32_3649 v3499
  v3500.toNat
def k0_dev62 (d0 : Dev nD) : Nat :=
  let c0_i32_3722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3721 : BitVec 32 := 1#32
  let v3565 : BitVec 32 := Scalar.muli v13 c1_i32_3721
  let v3566 : BitVec 32 := Scalar.addi c0_i32_3722 v3565
  v3566.toNat
def k0_dev63 (d0 : Dev nD) : Nat :=
  let c0_i32_3795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3794 : BitVec 32 := 1#32
  let v3631 : BitVec 32 := Scalar.muli v24 c1_i32_3794
  let v3632 : BitVec 32 := Scalar.addi c0_i32_3795 v3631
  v3632.toNat
def k0_dev64 (d0 : Dev nD) : Nat :=
  let c0_i32_3868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3867 : BitVec 32 := 1#32
  let v3697 : BitVec 32 := Scalar.muli v13 c1_i32_3867
  let v3698 : BitVec 32 := Scalar.addi c0_i32_3868 v3697
  v3698.toNat
def k0_dev65 (d0 : Dev nD) : Nat :=
  let c0_i32_3941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3940 : BitVec 32 := 1#32
  let v3763 : BitVec 32 := Scalar.muli v24 c1_i32_3940
  let v3764 : BitVec 32 := Scalar.addi c0_i32_3941 v3763
  v3764.toNat
def k0_dev66 (d0 : Dev nD) : Nat :=
  let c0_i32_4014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4013 : BitVec 32 := 1#32
  let v3829 : BitVec 32 := Scalar.muli v13 c1_i32_4013
  let v3830 : BitVec 32 := Scalar.addi c0_i32_4014 v3829
  v3830.toNat
def k0_dev67 (d0 : Dev nD) : Nat :=
  let c0_i32_4087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4086 : BitVec 32 := 1#32
  let v3895 : BitVec 32 := Scalar.muli v24 c1_i32_4086
  let v3896 : BitVec 32 := Scalar.addi c0_i32_4087 v3895
  v3896.toNat
def k0_dev68 (d0 : Dev nD) : Nat :=
  let c0_i32_4160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4159 : BitVec 32 := 1#32
  let v3961 : BitVec 32 := Scalar.muli v13 c1_i32_4159
  let v3962 : BitVec 32 := Scalar.addi c0_i32_4160 v3961
  v3962.toNat
def k0_dev69 (d0 : Dev nD) : Nat :=
  let c0_i32_4233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4232 : BitVec 32 := 1#32
  let v4027 : BitVec 32 := Scalar.muli v24 c1_i32_4232
  let v4028 : BitVec 32 := Scalar.addi c0_i32_4233 v4027
  v4028.toNat
def k0_dev70 (d0 : Dev nD) : Nat :=
  let c0_i32_4306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4305 : BitVec 32 := 1#32
  let v4093 : BitVec 32 := Scalar.muli v13 c1_i32_4305
  let v4094 : BitVec 32 := Scalar.addi c0_i32_4306 v4093
  v4094.toNat
def k0_dev71 (d0 : Dev nD) : Nat :=
  let c0_i32_4379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4378 : BitVec 32 := 1#32
  let v4159 : BitVec 32 := Scalar.muli v24 c1_i32_4378
  let v4160 : BitVec 32 := Scalar.addi c0_i32_4379 v4159
  v4160.toNat
def k0_dev72 (d0 : Dev nD) : Nat :=
  let c0_i32_4452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4451 : BitVec 32 := 1#32
  let v4225 : BitVec 32 := Scalar.muli v13 c1_i32_4451
  let v4226 : BitVec 32 := Scalar.addi c0_i32_4452 v4225
  v4226.toNat
def k0_dev73 (d0 : Dev nD) : Nat :=
  let c0_i32_4525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4524 : BitVec 32 := 1#32
  let v4291 : BitVec 32 := Scalar.muli v24 c1_i32_4524
  let v4292 : BitVec 32 := Scalar.addi c0_i32_4525 v4291
  v4292.toNat
def k0_dev74 (d0 : Dev nD) : Nat :=
  let c0_i32_4598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4597 : BitVec 32 := 1#32
  let v4357 : BitVec 32 := Scalar.muli v13 c1_i32_4597
  let v4358 : BitVec 32 := Scalar.addi c0_i32_4598 v4357
  v4358.toNat
def k0_dev75 (d0 : Dev nD) : Nat :=
  let c0_i32_4671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4670 : BitVec 32 := 1#32
  let v4423 : BitVec 32 := Scalar.muli v24 c1_i32_4670
  let v4424 : BitVec 32 := Scalar.addi c0_i32_4671 v4423
  v4424.toNat
def k0_dev76 (d0 : Dev nD) : Nat :=
  let c0_i32_4744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4743 : BitVec 32 := 1#32
  let v4489 : BitVec 32 := Scalar.muli v13 c1_i32_4743
  let v4490 : BitVec 32 := Scalar.addi c0_i32_4744 v4489
  v4490.toNat
def k0_dev77 (d0 : Dev nD) : Nat :=
  let c0_i32_4817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4816 : BitVec 32 := 1#32
  let v4555 : BitVec 32 := Scalar.muli v24 c1_i32_4816
  let v4556 : BitVec 32 := Scalar.addi c0_i32_4817 v4555
  v4556.toNat
def k0_dev78 (d0 : Dev nD) : Nat :=
  let c0_i32_4890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4889 : BitVec 32 := 1#32
  let v4621 : BitVec 32 := Scalar.muli v13 c1_i32_4889
  let v4622 : BitVec 32 := Scalar.addi c0_i32_4890 v4621
  v4622.toNat
def k0_dev79 (d0 : Dev nD) : Nat :=
  let c0_i32_4963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4962 : BitVec 32 := 1#32
  let v4687 : BitVec 32 := Scalar.muli v24 c1_i32_4962
  let v4688 : BitVec 32 := Scalar.addi c0_i32_4963 v4687
  v4688.toNat
def k0_dev80 (d0 : Dev nD) : Nat :=
  let c0_i32_5036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5035 : BitVec 32 := 1#32
  let v4753 : BitVec 32 := Scalar.muli v13 c1_i32_5035
  let v4754 : BitVec 32 := Scalar.addi c0_i32_5036 v4753
  v4754.toNat
def k0_dev81 (d0 : Dev nD) : Nat :=
  let c0_i32_5109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5108 : BitVec 32 := 1#32
  let v4819 : BitVec 32 := Scalar.muli v24 c1_i32_5108
  let v4820 : BitVec 32 := Scalar.addi c0_i32_5109 v4819
  v4820.toNat
def k0_dev82 (d0 : Dev nD) : Nat :=
  let c0_i32_5182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5181 : BitVec 32 := 1#32
  let v4885 : BitVec 32 := Scalar.muli v13 c1_i32_5181
  let v4886 : BitVec 32 := Scalar.addi c0_i32_5182 v4885
  v4886.toNat
def k0_dev83 (d0 : Dev nD) : Nat :=
  let c0_i32_5255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5254 : BitVec 32 := 1#32
  let v4951 : BitVec 32 := Scalar.muli v24 c1_i32_5254
  let v4952 : BitVec 32 := Scalar.addi c0_i32_5255 v4951
  v4952.toNat
def k0_dev84 (d0 : Dev nD) : Nat :=
  let c0_i32_5328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5327 : BitVec 32 := 1#32
  let v5017 : BitVec 32 := Scalar.muli v13 c1_i32_5327
  let v5018 : BitVec 32 := Scalar.addi c0_i32_5328 v5017
  v5018.toNat
def k0_dev85 (d0 : Dev nD) : Nat :=
  let c0_i32_5401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5400 : BitVec 32 := 1#32
  let v5083 : BitVec 32 := Scalar.muli v24 c1_i32_5400
  let v5084 : BitVec 32 := Scalar.addi c0_i32_5401 v5083
  v5084.toNat
def k0_dev86 (d0 : Dev nD) : Nat :=
  let c0_i32_5474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5473 : BitVec 32 := 1#32
  let v5149 : BitVec 32 := Scalar.muli v13 c1_i32_5473
  let v5150 : BitVec 32 := Scalar.addi c0_i32_5474 v5149
  v5150.toNat
def k0_dev87 (d0 : Dev nD) : Nat :=
  let c0_i32_5547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5546 : BitVec 32 := 1#32
  let v5215 : BitVec 32 := Scalar.muli v24 c1_i32_5546
  let v5216 : BitVec 32 := Scalar.addi c0_i32_5547 v5215
  v5216.toNat
def k0_dev88 (d0 : Dev nD) : Nat :=
  let c0_i32_5620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5619 : BitVec 32 := 1#32
  let v5281 : BitVec 32 := Scalar.muli v13 c1_i32_5619
  let v5282 : BitVec 32 := Scalar.addi c0_i32_5620 v5281
  v5282.toNat
def k0_dev89 (d0 : Dev nD) : Nat :=
  let c0_i32_5693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5692 : BitVec 32 := 1#32
  let v5347 : BitVec 32 := Scalar.muli v24 c1_i32_5692
  let v5348 : BitVec 32 := Scalar.addi c0_i32_5693 v5347
  v5348.toNat
def k0_dev90 (d0 : Dev nD) : Nat :=
  let c0_i32_5766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5765 : BitVec 32 := 1#32
  let v5413 : BitVec 32 := Scalar.muli v13 c1_i32_5765
  let v5414 : BitVec 32 := Scalar.addi c0_i32_5766 v5413
  v5414.toNat
def k0_dev91 (d0 : Dev nD) : Nat :=
  let c0_i32_5839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5838 : BitVec 32 := 1#32
  let v5479 : BitVec 32 := Scalar.muli v24 c1_i32_5838
  let v5480 : BitVec 32 := Scalar.addi c0_i32_5839 v5479
  v5480.toNat
def k0_dev92 (d0 : Dev nD) : Nat :=
  let c0_i32_5912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5911 : BitVec 32 := 1#32
  let v5545 : BitVec 32 := Scalar.muli v13 c1_i32_5911
  let v5546 : BitVec 32 := Scalar.addi c0_i32_5912 v5545
  v5546.toNat
def k0_dev93 (d0 : Dev nD) : Nat :=
  let c0_i32_5985 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5984 : BitVec 32 := 1#32
  let v5611 : BitVec 32 := Scalar.muli v24 c1_i32_5984
  let v5612 : BitVec 32 := Scalar.addi c0_i32_5985 v5611
  v5612.toNat
def k0_dev94 (d0 : Dev nD) : Nat :=
  let c0_i32_6058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6057 : BitVec 32 := 1#32
  let v5677 : BitVec 32 := Scalar.muli v13 c1_i32_6057
  let v5678 : BitVec 32 := Scalar.addi c0_i32_6058 v5677
  v5678.toNat
def k0_dev95 (d0 : Dev nD) : Nat :=
  let c0_i32_6131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6130 : BitVec 32 := 1#32
  let v5743 : BitVec 32 := Scalar.muli v24 c1_i32_6130
  let v5744 : BitVec 32 := Scalar.addi c0_i32_6131 v5743
  v5744.toNat
def k0_dev96 (d0 : Dev nD) : Nat :=
  let c0_i32_6204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6203 : BitVec 32 := 1#32
  let v5809 : BitVec 32 := Scalar.muli v13 c1_i32_6203
  let v5810 : BitVec 32 := Scalar.addi c0_i32_6204 v5809
  v5810.toNat
def k0_dev97 (d0 : Dev nD) : Nat :=
  let c0_i32_6277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6276 : BitVec 32 := 1#32
  let v5875 : BitVec 32 := Scalar.muli v24 c1_i32_6276
  let v5876 : BitVec 32 := Scalar.addi c0_i32_6277 v5875
  v5876.toNat
def k0_dev98 (d0 : Dev nD) : Nat :=
  let c0_i32_6350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6349 : BitVec 32 := 1#32
  let v5941 : BitVec 32 := Scalar.muli v13 c1_i32_6349
  let v5942 : BitVec 32 := Scalar.addi c0_i32_6350 v5941
  v5942.toNat
def k0_dev99 (d0 : Dev nD) : Nat :=
  let c0_i32_6423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6422 : BitVec 32 := 1#32
  let v6007 : BitVec 32 := Scalar.muli v24 c1_i32_6422
  let v6008 : BitVec 32 := Scalar.addi c0_i32_6423 v6007
  v6008.toNat
def k0_dev100 (d0 : Dev nD) : Nat :=
  let c0_i32_6496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6495 : BitVec 32 := 1#32
  let v6073 : BitVec 32 := Scalar.muli v13 c1_i32_6495
  let v6074 : BitVec 32 := Scalar.addi c0_i32_6496 v6073
  v6074.toNat
def k0_dev101 (d0 : Dev nD) : Nat :=
  let c0_i32_6569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6568 : BitVec 32 := 1#32
  let v6139 : BitVec 32 := Scalar.muli v24 c1_i32_6568
  let v6140 : BitVec 32 := Scalar.addi c0_i32_6569 v6139
  v6140.toNat
def k0_dev102 (d0 : Dev nD) : Nat :=
  let c0_i32_6642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6641 : BitVec 32 := 1#32
  let v6205 : BitVec 32 := Scalar.muli v13 c1_i32_6641
  let v6206 : BitVec 32 := Scalar.addi c0_i32_6642 v6205
  v6206.toNat
def k0_dev103 (d0 : Dev nD) : Nat :=
  let c0_i32_6715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6714 : BitVec 32 := 1#32
  let v6271 : BitVec 32 := Scalar.muli v24 c1_i32_6714
  let v6272 : BitVec 32 := Scalar.addi c0_i32_6715 v6271
  v6272.toNat
def k0_dev104 (d0 : Dev nD) : Nat :=
  let c0_i32_6788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6787 : BitVec 32 := 1#32
  let v6337 : BitVec 32 := Scalar.muli v13 c1_i32_6787
  let v6338 : BitVec 32 := Scalar.addi c0_i32_6788 v6337
  v6338.toNat
def k0_dev105 (d0 : Dev nD) : Nat :=
  let c0_i32_6861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6860 : BitVec 32 := 1#32
  let v6403 : BitVec 32 := Scalar.muli v24 c1_i32_6860
  let v6404 : BitVec 32 := Scalar.addi c0_i32_6861 v6403
  v6404.toNat
def k0_dev106 (d0 : Dev nD) : Nat :=
  let c0_i32_6934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6933 : BitVec 32 := 1#32
  let v6469 : BitVec 32 := Scalar.muli v13 c1_i32_6933
  let v6470 : BitVec 32 := Scalar.addi c0_i32_6934 v6469
  v6470.toNat
def k0_dev107 (d0 : Dev nD) : Nat :=
  let c0_i32_7007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7006 : BitVec 32 := 1#32
  let v6535 : BitVec 32 := Scalar.muli v24 c1_i32_7006
  let v6536 : BitVec 32 := Scalar.addi c0_i32_7007 v6535
  v6536.toNat
def k0_dev108 (d0 : Dev nD) : Nat :=
  let c0_i32_7080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7079 : BitVec 32 := 1#32
  let v6601 : BitVec 32 := Scalar.muli v13 c1_i32_7079
  let v6602 : BitVec 32 := Scalar.addi c0_i32_7080 v6601
  v6602.toNat
def k0_dev109 (d0 : Dev nD) : Nat :=
  let c0_i32_7153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7152 : BitVec 32 := 1#32
  let v6667 : BitVec 32 := Scalar.muli v24 c1_i32_7152
  let v6668 : BitVec 32 := Scalar.addi c0_i32_7153 v6667
  v6668.toNat
def k0_dev110 (d0 : Dev nD) : Nat :=
  let c0_i32_7226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7225 : BitVec 32 := 1#32
  let v6733 : BitVec 32 := Scalar.muli v13 c1_i32_7225
  let v6734 : BitVec 32 := Scalar.addi c0_i32_7226 v6733
  v6734.toNat
def k0_dev111 (d0 : Dev nD) : Nat :=
  let c0_i32_7299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7298 : BitVec 32 := 1#32
  let v6799 : BitVec 32 := Scalar.muli v24 c1_i32_7298
  let v6800 : BitVec 32 := Scalar.addi c0_i32_7299 v6799
  v6800.toNat
def k0_dev112 (d0 : Dev nD) : Nat :=
  let c0_i32_7372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7371 : BitVec 32 := 1#32
  let v6865 : BitVec 32 := Scalar.muli v13 c1_i32_7371
  let v6866 : BitVec 32 := Scalar.addi c0_i32_7372 v6865
  v6866.toNat
def k0_dev113 (d0 : Dev nD) : Nat :=
  let c0_i32_7445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7444 : BitVec 32 := 1#32
  let v6931 : BitVec 32 := Scalar.muli v24 c1_i32_7444
  let v6932 : BitVec 32 := Scalar.addi c0_i32_7445 v6931
  v6932.toNat
def k0_dev114 (d0 : Dev nD) : Nat :=
  let c0_i32_7518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7517 : BitVec 32 := 1#32
  let v6997 : BitVec 32 := Scalar.muli v13 c1_i32_7517
  let v6998 : BitVec 32 := Scalar.addi c0_i32_7518 v6997
  v6998.toNat
def k0_dev115 (d0 : Dev nD) : Nat :=
  let c0_i32_7591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7590 : BitVec 32 := 1#32
  let v7063 : BitVec 32 := Scalar.muli v24 c1_i32_7590
  let v7064 : BitVec 32 := Scalar.addi c0_i32_7591 v7063
  v7064.toNat
def k0_dev116 (d0 : Dev nD) : Nat :=
  let c0_i32_7664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7663 : BitVec 32 := 1#32
  let v7129 : BitVec 32 := Scalar.muli v13 c1_i32_7663
  let v7130 : BitVec 32 := Scalar.addi c0_i32_7664 v7129
  v7130.toNat
def k0_dev117 (d0 : Dev nD) : Nat :=
  let c0_i32_7737 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7736 : BitVec 32 := 1#32
  let v7195 : BitVec 32 := Scalar.muli v24 c1_i32_7736
  let v7196 : BitVec 32 := Scalar.addi c0_i32_7737 v7195
  v7196.toNat
def k0_dev118 (d0 : Dev nD) : Nat :=
  let c0_i32_7810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7809 : BitVec 32 := 1#32
  let v7261 : BitVec 32 := Scalar.muli v13 c1_i32_7809
  let v7262 : BitVec 32 := Scalar.addi c0_i32_7810 v7261
  v7262.toNat
def k0_dev119 (d0 : Dev nD) : Nat :=
  let c0_i32_7883 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7882 : BitVec 32 := 1#32
  let v7327 : BitVec 32 := Scalar.muli v24 c1_i32_7882
  let v7328 : BitVec 32 := Scalar.addi c0_i32_7883 v7327
  v7328.toNat
def k0_dev120 (d0 : Dev nD) : Nat :=
  let c0_i32_7956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7955 : BitVec 32 := 1#32
  let v7393 : BitVec 32 := Scalar.muli v13 c1_i32_7955
  let v7394 : BitVec 32 := Scalar.addi c0_i32_7956 v7393
  v7394.toNat
def k0_dev121 (d0 : Dev nD) : Nat :=
  let c0_i32_8029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8028 : BitVec 32 := 1#32
  let v7459 : BitVec 32 := Scalar.muli v24 c1_i32_8028
  let v7460 : BitVec 32 := Scalar.addi c0_i32_8029 v7459
  v7460.toNat
def k0_dev122 (d0 : Dev nD) : Nat :=
  let c0_i32_8102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8101 : BitVec 32 := 1#32
  let v7525 : BitVec 32 := Scalar.muli v13 c1_i32_8101
  let v7526 : BitVec 32 := Scalar.addi c0_i32_8102 v7525
  v7526.toNat
def k0_dev123 (d0 : Dev nD) : Nat :=
  let c0_i32_8175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8174 : BitVec 32 := 1#32
  let v7591 : BitVec 32 := Scalar.muli v24 c1_i32_8174
  let v7592 : BitVec 32 := Scalar.addi c0_i32_8175 v7591
  v7592.toNat
def k0_dev124 (d0 : Dev nD) : Nat :=
  let c0_i32_8248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8247 : BitVec 32 := 1#32
  let v7657 : BitVec 32 := Scalar.muli v13 c1_i32_8247
  let v7658 : BitVec 32 := Scalar.addi c0_i32_8248 v7657
  v7658.toNat
def k0_dev125 (d0 : Dev nD) : Nat :=
  let c0_i32_8321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8320 : BitVec 32 := 1#32
  let v7723 : BitVec 32 := Scalar.muli v24 c1_i32_8320
  let v7724 : BitVec 32 := Scalar.addi c0_i32_8321 v7723
  v7724.toNat
def k0_dev126 (d0 : Dev nD) : Nat :=
  let c0_i32_8394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8393 : BitVec 32 := 1#32
  let v7789 : BitVec 32 := Scalar.muli v13 c1_i32_8393
  let v7790 : BitVec 32 := Scalar.addi c0_i32_8394 v7789
  v7790.toNat
def k0_dev127 (d0 : Dev nD) : Nat :=
  let c0_i32_8467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8466 : BitVec 32 := 1#32
  let v7855 : BitVec 32 := Scalar.muli v24 c1_i32_8466
  let v7856 : BitVec 32 := Scalar.addi c0_i32_8467 v7855
  v7856.toNat
def k0_dev128 (d0 : Dev nD) : Nat :=
  let c0_i32_8540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8539 : BitVec 32 := 1#32
  let v7921 : BitVec 32 := Scalar.muli v13 c1_i32_8539
  let v7922 : BitVec 32 := Scalar.addi c0_i32_8540 v7921
  v7922.toNat
def k0_dev129 (d0 : Dev nD) : Nat :=
  let c0_i32_8613 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8612 : BitVec 32 := 1#32
  let v7987 : BitVec 32 := Scalar.muli v24 c1_i32_8612
  let v7988 : BitVec 32 := Scalar.addi c0_i32_8613 v7987
  v7988.toNat
def k0_dev130 (d0 : Dev nD) : Nat :=
  let c0_i32_8686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8685 : BitVec 32 := 1#32
  let v8053 : BitVec 32 := Scalar.muli v13 c1_i32_8685
  let v8054 : BitVec 32 := Scalar.addi c0_i32_8686 v8053
  v8054.toNat
def k0_dev131 (d0 : Dev nD) : Nat :=
  let c0_i32_8759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8758 : BitVec 32 := 1#32
  let v8119 : BitVec 32 := Scalar.muli v24 c1_i32_8758
  let v8120 : BitVec 32 := Scalar.addi c0_i32_8759 v8119
  v8120.toNat
def k0_dev132 (d0 : Dev nD) : Nat :=
  let c0_i32_8832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8831 : BitVec 32 := 1#32
  let v8185 : BitVec 32 := Scalar.muli v13 c1_i32_8831
  let v8186 : BitVec 32 := Scalar.addi c0_i32_8832 v8185
  v8186.toNat
def k0_dev133 (d0 : Dev nD) : Nat :=
  let c0_i32_8905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8904 : BitVec 32 := 1#32
  let v8251 : BitVec 32 := Scalar.muli v24 c1_i32_8904
  let v8252 : BitVec 32 := Scalar.addi c0_i32_8905 v8251
  v8252.toNat
def k0_dev134 (d0 : Dev nD) : Nat :=
  let c0_i32_8978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8977 : BitVec 32 := 1#32
  let v8317 : BitVec 32 := Scalar.muli v13 c1_i32_8977
  let v8318 : BitVec 32 := Scalar.addi c0_i32_8978 v8317
  v8318.toNat
def k0_dev135 (d0 : Dev nD) : Nat :=
  let c0_i32_9051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9050 : BitVec 32 := 1#32
  let v8383 : BitVec 32 := Scalar.muli v24 c1_i32_9050
  let v8384 : BitVec 32 := Scalar.addi c0_i32_9051 v8383
  v8384.toNat
def k0_dev136 (d0 : Dev nD) : Nat :=
  let c0_i32_9124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9123 : BitVec 32 := 1#32
  let v8449 : BitVec 32 := Scalar.muli v13 c1_i32_9123
  let v8450 : BitVec 32 := Scalar.addi c0_i32_9124 v8449
  v8450.toNat
def k0_dev137 (d0 : Dev nD) : Nat :=
  let c0_i32_9197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9196 : BitVec 32 := 1#32
  let v8515 : BitVec 32 := Scalar.muli v24 c1_i32_9196
  let v8516 : BitVec 32 := Scalar.addi c0_i32_9197 v8515
  v8516.toNat
def k0_dev138 (d0 : Dev nD) : Nat :=
  let c0_i32_9270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9269 : BitVec 32 := 1#32
  let v8581 : BitVec 32 := Scalar.muli v13 c1_i32_9269
  let v8582 : BitVec 32 := Scalar.addi c0_i32_9270 v8581
  v8582.toNat
def k0_dev139 (d0 : Dev nD) : Nat :=
  let c0_i32_9343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9342 : BitVec 32 := 1#32
  let v8647 : BitVec 32 := Scalar.muli v24 c1_i32_9342
  let v8648 : BitVec 32 := Scalar.addi c0_i32_9343 v8647
  v8648.toNat
def k0_dev140 (d0 : Dev nD) : Nat :=
  let c0_i32_9416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9415 : BitVec 32 := 1#32
  let v8713 : BitVec 32 := Scalar.muli v13 c1_i32_9415
  let v8714 : BitVec 32 := Scalar.addi c0_i32_9416 v8713
  v8714.toNat
def k0_dev141 (d0 : Dev nD) : Nat :=
  let c0_i32_9489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9488 : BitVec 32 := 1#32
  let v8779 : BitVec 32 := Scalar.muli v24 c1_i32_9488
  let v8780 : BitVec 32 := Scalar.addi c0_i32_9489 v8779
  v8780.toNat
def k0_dev142 (d0 : Dev nD) : Nat :=
  let c0_i32_9562 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9561 : BitVec 32 := 1#32
  let v8845 : BitVec 32 := Scalar.muli v13 c1_i32_9561
  let v8846 : BitVec 32 := Scalar.addi c0_i32_9562 v8845
  v8846.toNat
def k0_dev143 (d0 : Dev nD) : Nat :=
  let c0_i32_9635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9634 : BitVec 32 := 1#32
  let v8911 : BitVec 32 := Scalar.muli v24 c1_i32_9634
  let v8912 : BitVec 32 := Scalar.addi c0_i32_9635 v8911
  v8912.toNat
def k0_dev144 (d0 : Dev nD) : Nat :=
  let c0_i32_9708 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9707 : BitVec 32 := 1#32
  let v8977 : BitVec 32 := Scalar.muli v13 c1_i32_9707
  let v8978 : BitVec 32 := Scalar.addi c0_i32_9708 v8977
  v8978.toNat
def k0_dev145 (d0 : Dev nD) : Nat :=
  let c0_i32_9781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9780 : BitVec 32 := 1#32
  let v9043 : BitVec 32 := Scalar.muli v24 c1_i32_9780
  let v9044 : BitVec 32 := Scalar.addi c0_i32_9781 v9043
  v9044.toNat
def k0_dev146 (d0 : Dev nD) : Nat :=
  let c0_i32_9854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9853 : BitVec 32 := 1#32
  let v9109 : BitVec 32 := Scalar.muli v13 c1_i32_9853
  let v9110 : BitVec 32 := Scalar.addi c0_i32_9854 v9109
  v9110.toNat
def k0_dev147 (d0 : Dev nD) : Nat :=
  let c0_i32_9925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_9924 : BitVec 32 := 1#32
  let v9175 : BitVec 32 := Scalar.muli v24 c1_i32_9924
  let v9176 : BitVec 32 := Scalar.addi c0_i32_9925 v9175
  v9176.toNat
def k0_dev148 (d0 : Dev nD) : Nat :=
  let c0_i32_9998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_9997 : BitVec 32 := 1#32
  let v9241 : BitVec 32 := Scalar.muli v13 c1_i32_9997
  let v9242 : BitVec 32 := Scalar.addi c0_i32_9998 v9241
  v9242.toNat
def k0_dev149 (d0 : Dev nD) : Nat :=
  let c0_i32_10071 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10070 : BitVec 32 := 1#32
  let v9307 : BitVec 32 := Scalar.muli v24 c1_i32_10070
  let v9308 : BitVec 32 := Scalar.addi c0_i32_10071 v9307
  v9308.toNat
def k0_dev150 (d0 : Dev nD) : Nat :=
  let c0_i32_10144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10143 : BitVec 32 := 1#32
  let v9373 : BitVec 32 := Scalar.muli v13 c1_i32_10143
  let v9374 : BitVec 32 := Scalar.addi c0_i32_10144 v9373
  v9374.toNat
def k0_dev151 (d0 : Dev nD) : Nat :=
  let c0_i32_10217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10216 : BitVec 32 := 1#32
  let v9439 : BitVec 32 := Scalar.muli v24 c1_i32_10216
  let v9440 : BitVec 32 := Scalar.addi c0_i32_10217 v9439
  v9440.toNat
def k0_dev152 (d0 : Dev nD) : Nat :=
  let c0_i32_10290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10289 : BitVec 32 := 1#32
  let v9505 : BitVec 32 := Scalar.muli v13 c1_i32_10289
  let v9506 : BitVec 32 := Scalar.addi c0_i32_10290 v9505
  v9506.toNat
def k0_dev153 (d0 : Dev nD) : Nat :=
  let c0_i32_10363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10362 : BitVec 32 := 1#32
  let v9571 : BitVec 32 := Scalar.muli v24 c1_i32_10362
  let v9572 : BitVec 32 := Scalar.addi c0_i32_10363 v9571
  v9572.toNat
def k0_dev154 (d0 : Dev nD) : Nat :=
  let c0_i32_10436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10435 : BitVec 32 := 1#32
  let v9637 : BitVec 32 := Scalar.muli v13 c1_i32_10435
  let v9638 : BitVec 32 := Scalar.addi c0_i32_10436 v9637
  v9638.toNat
def k0_dev155 (d0 : Dev nD) : Nat :=
  let c0_i32_10509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10508 : BitVec 32 := 1#32
  let v9703 : BitVec 32 := Scalar.muli v24 c1_i32_10508
  let v9704 : BitVec 32 := Scalar.addi c0_i32_10509 v9703
  v9704.toNat
def k0_dev156 (d0 : Dev nD) : Nat :=
  let c0_i32_10582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10581 : BitVec 32 := 1#32
  let v9769 : BitVec 32 := Scalar.muli v13 c1_i32_10581
  let v9770 : BitVec 32 := Scalar.addi c0_i32_10582 v9769
  v9770.toNat
def k0_dev157 (d0 : Dev nD) : Nat :=
  let c0_i32_10655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10654 : BitVec 32 := 1#32
  let v9835 : BitVec 32 := Scalar.muli v24 c1_i32_10654
  let v9836 : BitVec 32 := Scalar.addi c0_i32_10655 v9835
  v9836.toNat
def k0_dev158 (d0 : Dev nD) : Nat :=
  let c0_i32_10728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10727 : BitVec 32 := 1#32
  let v9901 : BitVec 32 := Scalar.muli v13 c1_i32_10727
  let v9902 : BitVec 32 := Scalar.addi c0_i32_10728 v9901
  v9902.toNat
def k0_dev159 (d0 : Dev nD) : Nat :=
  let c0_i32_10801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10800 : BitVec 32 := 1#32
  let v9967 : BitVec 32 := Scalar.muli v24 c1_i32_10800
  let v9968 : BitVec 32 := Scalar.addi c0_i32_10801 v9967
  v9968.toNat
def k0_dev160 (d0 : Dev nD) : Nat :=
  let c0_i32_10874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_10873 : BitVec 32 := 1#32
  let v10033 : BitVec 32 := Scalar.muli v13 c1_i32_10873
  let v10034 : BitVec 32 := Scalar.addi c0_i32_10874 v10033
  v10034.toNat
def k0_dev161 (d0 : Dev nD) : Nat :=
  let c0_i32_10947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_10946 : BitVec 32 := 1#32
  let v10099 : BitVec 32 := Scalar.muli v24 c1_i32_10946
  let v10100 : BitVec 32 := Scalar.addi c0_i32_10947 v10099
  v10100.toNat
def k0_dev162 (d0 : Dev nD) : Nat :=
  let c0_i32_11020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11019 : BitVec 32 := 1#32
  let v10165 : BitVec 32 := Scalar.muli v13 c1_i32_11019
  let v10166 : BitVec 32 := Scalar.addi c0_i32_11020 v10165
  v10166.toNat
def k0_dev163 (d0 : Dev nD) : Nat :=
  let c0_i32_11091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11090 : BitVec 32 := 1#32
  let v10231 : BitVec 32 := Scalar.muli v24 c1_i32_11090
  let v10232 : BitVec 32 := Scalar.addi c0_i32_11091 v10231
  v10232.toNat
def k0_dev164 (d0 : Dev nD) : Nat :=
  let c0_i32_11164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11163 : BitVec 32 := 1#32
  let v10297 : BitVec 32 := Scalar.muli v13 c1_i32_11163
  let v10298 : BitVec 32 := Scalar.addi c0_i32_11164 v10297
  v10298.toNat
def k0_dev165 (d0 : Dev nD) : Nat :=
  let c0_i32_11237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11236 : BitVec 32 := 1#32
  let v10363 : BitVec 32 := Scalar.muli v24 c1_i32_11236
  let v10364 : BitVec 32 := Scalar.addi c0_i32_11237 v10363
  v10364.toNat
def k0_dev166 (d0 : Dev nD) : Nat :=
  let c0_i32_11310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11309 : BitVec 32 := 1#32
  let v10429 : BitVec 32 := Scalar.muli v13 c1_i32_11309
  let v10430 : BitVec 32 := Scalar.addi c0_i32_11310 v10429
  v10430.toNat
def k0_dev167 (d0 : Dev nD) : Nat :=
  let c0_i32_11383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11382 : BitVec 32 := 1#32
  let v10495 : BitVec 32 := Scalar.muli v24 c1_i32_11382
  let v10496 : BitVec 32 := Scalar.addi c0_i32_11383 v10495
  v10496.toNat
def k0_dev168 (d0 : Dev nD) : Nat :=
  let c0_i32_11456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11455 : BitVec 32 := 1#32
  let v10561 : BitVec 32 := Scalar.muli v13 c1_i32_11455
  let v10562 : BitVec 32 := Scalar.addi c0_i32_11456 v10561
  v10562.toNat
def k0_dev169 (d0 : Dev nD) : Nat :=
  let c0_i32_11529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11528 : BitVec 32 := 1#32
  let v10627 : BitVec 32 := Scalar.muli v24 c1_i32_11528
  let v10628 : BitVec 32 := Scalar.addi c0_i32_11529 v10627
  v10628.toNat
def k0_dev170 (d0 : Dev nD) : Nat :=
  let c0_i32_11602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11601 : BitVec 32 := 1#32
  let v10693 : BitVec 32 := Scalar.muli v13 c1_i32_11601
  let v10694 : BitVec 32 := Scalar.addi c0_i32_11602 v10693
  v10694.toNat
def k0_dev171 (d0 : Dev nD) : Nat :=
  let c0_i32_11675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11674 : BitVec 32 := 1#32
  let v10759 : BitVec 32 := Scalar.muli v24 c1_i32_11674
  let v10760 : BitVec 32 := Scalar.addi c0_i32_11675 v10759
  v10760.toNat
def k0_dev172 (d0 : Dev nD) : Nat :=
  let c0_i32_11748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11747 : BitVec 32 := 1#32
  let v10825 : BitVec 32 := Scalar.muli v13 c1_i32_11747
  let v10826 : BitVec 32 := Scalar.addi c0_i32_11748 v10825
  v10826.toNat
def k0_dev173 (d0 : Dev nD) : Nat :=
  let c0_i32_11821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11820 : BitVec 32 := 1#32
  let v10891 : BitVec 32 := Scalar.muli v24 c1_i32_11820
  let v10892 : BitVec 32 := Scalar.addi c0_i32_11821 v10891
  v10892.toNat
def k0_dev174 (d0 : Dev nD) : Nat :=
  let c0_i32_11894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_11893 : BitVec 32 := 1#32
  let v10957 : BitVec 32 := Scalar.muli v13 c1_i32_11893
  let v10958 : BitVec 32 := Scalar.addi c0_i32_11894 v10957
  v10958.toNat
def k0_dev175 (d0 : Dev nD) : Nat :=
  let c0_i32_11967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_11966 : BitVec 32 := 1#32
  let v11023 : BitVec 32 := Scalar.muli v24 c1_i32_11966
  let v11024 : BitVec 32 := Scalar.addi c0_i32_11967 v11023
  v11024.toNat
def k0_dev176 (d0 : Dev nD) : Nat :=
  let c0_i32_12040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12039 : BitVec 32 := 1#32
  let v11089 : BitVec 32 := Scalar.muli v13 c1_i32_12039
  let v11090 : BitVec 32 := Scalar.addi c0_i32_12040 v11089
  v11090.toNat
def k0_dev177 (d0 : Dev nD) : Nat :=
  let c0_i32_12113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12112 : BitVec 32 := 1#32
  let v11155 : BitVec 32 := Scalar.muli v24 c1_i32_12112
  let v11156 : BitVec 32 := Scalar.addi c0_i32_12113 v11155
  v11156.toNat
def k0_dev178 (d0 : Dev nD) : Nat :=
  let c0_i32_12186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12185 : BitVec 32 := 1#32
  let v11221 : BitVec 32 := Scalar.muli v13 c1_i32_12185
  let v11222 : BitVec 32 := Scalar.addi c0_i32_12186 v11221
  v11222.toNat
def k0_dev179 (d0 : Dev nD) : Nat :=
  let c0_i32_12257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12256 : BitVec 32 := 1#32
  let v11287 : BitVec 32 := Scalar.muli v24 c1_i32_12256
  let v11288 : BitVec 32 := Scalar.addi c0_i32_12257 v11287
  v11288.toNat
def k0_dev180 (d0 : Dev nD) : Nat :=
  let c0_i32_12330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12329 : BitVec 32 := 1#32
  let v11353 : BitVec 32 := Scalar.muli v13 c1_i32_12329
  let v11354 : BitVec 32 := Scalar.addi c0_i32_12330 v11353
  v11354.toNat
def k0_dev181 (d0 : Dev nD) : Nat :=
  let c0_i32_12403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12402 : BitVec 32 := 1#32
  let v11419 : BitVec 32 := Scalar.muli v24 c1_i32_12402
  let v11420 : BitVec 32 := Scalar.addi c0_i32_12403 v11419
  v11420.toNat
def k0_dev182 (d0 : Dev nD) : Nat :=
  let c0_i32_12476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12475 : BitVec 32 := 1#32
  let v11485 : BitVec 32 := Scalar.muli v13 c1_i32_12475
  let v11486 : BitVec 32 := Scalar.addi c0_i32_12476 v11485
  v11486.toNat
def k0_dev183 (d0 : Dev nD) : Nat :=
  let c0_i32_12549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12548 : BitVec 32 := 1#32
  let v11551 : BitVec 32 := Scalar.muli v24 c1_i32_12548
  let v11552 : BitVec 32 := Scalar.addi c0_i32_12549 v11551
  v11552.toNat
def k0_dev184 (d0 : Dev nD) : Nat :=
  let c0_i32_12622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12621 : BitVec 32 := 1#32
  let v11617 : BitVec 32 := Scalar.muli v13 c1_i32_12621
  let v11618 : BitVec 32 := Scalar.addi c0_i32_12622 v11617
  v11618.toNat
def k0_dev185 (d0 : Dev nD) : Nat :=
  let c0_i32_12695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12694 : BitVec 32 := 1#32
  let v11683 : BitVec 32 := Scalar.muli v24 c1_i32_12694
  let v11684 : BitVec 32 := Scalar.addi c0_i32_12695 v11683
  v11684.toNat
def k0_dev186 (d0 : Dev nD) : Nat :=
  let c0_i32_12768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12767 : BitVec 32 := 1#32
  let v11749 : BitVec 32 := Scalar.muli v13 c1_i32_12767
  let v11750 : BitVec 32 := Scalar.addi c0_i32_12768 v11749
  v11750.toNat
def k0_dev187 (d0 : Dev nD) : Nat :=
  let c0_i32_12841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12840 : BitVec 32 := 1#32
  let v11815 : BitVec 32 := Scalar.muli v24 c1_i32_12840
  let v11816 : BitVec 32 := Scalar.addi c0_i32_12841 v11815
  v11816.toNat
def k0_dev188 (d0 : Dev nD) : Nat :=
  let c0_i32_12914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_12913 : BitVec 32 := 1#32
  let v11881 : BitVec 32 := Scalar.muli v13 c1_i32_12913
  let v11882 : BitVec 32 := Scalar.addi c0_i32_12914 v11881
  v11882.toNat
def k0_dev189 (d0 : Dev nD) : Nat :=
  let c0_i32_12987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_12986 : BitVec 32 := 1#32
  let v11947 : BitVec 32 := Scalar.muli v24 c1_i32_12986
  let v11948 : BitVec 32 := Scalar.addi c0_i32_12987 v11947
  v11948.toNat
def k0_dev190 (d0 : Dev nD) : Nat :=
  let c0_i32_13060 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13059 : BitVec 32 := 1#32
  let v12013 : BitVec 32 := Scalar.muli v13 c1_i32_13059
  let v12014 : BitVec 32 := Scalar.addi c0_i32_13060 v12013
  v12014.toNat
def k0_dev191 (d0 : Dev nD) : Nat :=
  let c0_i32_13133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13132 : BitVec 32 := 1#32
  let v12079 : BitVec 32 := Scalar.muli v24 c1_i32_13132
  let v12080 : BitVec 32 := Scalar.addi c0_i32_13133 v12079
  v12080.toNat
def k0_dev192 (d0 : Dev nD) : Nat :=
  let c0_i32_13206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13205 : BitVec 32 := 1#32
  let v12145 : BitVec 32 := Scalar.muli v13 c1_i32_13205
  let v12146 : BitVec 32 := Scalar.addi c0_i32_13206 v12145
  v12146.toNat
def k0_dev193 (d0 : Dev nD) : Nat :=
  let c0_i32_13279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13278 : BitVec 32 := 1#32
  let v12211 : BitVec 32 := Scalar.muli v24 c1_i32_13278
  let v12212 : BitVec 32 := Scalar.addi c0_i32_13279 v12211
  v12212.toNat
def k0_dev194 (d0 : Dev nD) : Nat :=
  let c0_i32_13352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13351 : BitVec 32 := 1#32
  let v12277 : BitVec 32 := Scalar.muli v13 c1_i32_13351
  let v12278 : BitVec 32 := Scalar.addi c0_i32_13352 v12277
  v12278.toNat
def k0_dev195 (d0 : Dev nD) : Nat :=
  let c0_i32_13423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13422 : BitVec 32 := 1#32
  let v12343 : BitVec 32 := Scalar.muli v24 c1_i32_13422
  let v12344 : BitVec 32 := Scalar.addi c0_i32_13423 v12343
  v12344.toNat
def k0_dev196 (d0 : Dev nD) : Nat :=
  let c0_i32_13496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13495 : BitVec 32 := 1#32
  let v12409 : BitVec 32 := Scalar.muli v13 c1_i32_13495
  let v12410 : BitVec 32 := Scalar.addi c0_i32_13496 v12409
  v12410.toNat
def k0_dev197 (d0 : Dev nD) : Nat :=
  let c0_i32_13569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13568 : BitVec 32 := 1#32
  let v12475 : BitVec 32 := Scalar.muli v24 c1_i32_13568
  let v12476 : BitVec 32 := Scalar.addi c0_i32_13569 v12475
  v12476.toNat
def k0_dev198 (d0 : Dev nD) : Nat :=
  let c0_i32_13642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13641 : BitVec 32 := 1#32
  let v12541 : BitVec 32 := Scalar.muli v13 c1_i32_13641
  let v12542 : BitVec 32 := Scalar.addi c0_i32_13642 v12541
  v12542.toNat
def k0_dev199 (d0 : Dev nD) : Nat :=
  let c0_i32_13715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13714 : BitVec 32 := 1#32
  let v12607 : BitVec 32 := Scalar.muli v24 c1_i32_13714
  let v12608 : BitVec 32 := Scalar.addi c0_i32_13715 v12607
  v12608.toNat
def k0_dev200 (d0 : Dev nD) : Nat :=
  let c0_i32_13788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13787 : BitVec 32 := 1#32
  let v12673 : BitVec 32 := Scalar.muli v13 c1_i32_13787
  let v12674 : BitVec 32 := Scalar.addi c0_i32_13788 v12673
  v12674.toNat
def k0_dev201 (d0 : Dev nD) : Nat :=
  let c0_i32_13861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_13860 : BitVec 32 := 1#32
  let v12739 : BitVec 32 := Scalar.muli v24 c1_i32_13860
  let v12740 : BitVec 32 := Scalar.addi c0_i32_13861 v12739
  v12740.toNat
def k0_dev202 (d0 : Dev nD) : Nat :=
  let c0_i32_13934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_13933 : BitVec 32 := 1#32
  let v12805 : BitVec 32 := Scalar.muli v13 c1_i32_13933
  let v12806 : BitVec 32 := Scalar.addi c0_i32_13934 v12805
  v12806.toNat
def k0_dev203 (d0 : Dev nD) : Nat :=
  let c0_i32_14007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14006 : BitVec 32 := 1#32
  let v12871 : BitVec 32 := Scalar.muli v24 c1_i32_14006
  let v12872 : BitVec 32 := Scalar.addi c0_i32_14007 v12871
  v12872.toNat
def k0_dev204 (d0 : Dev nD) : Nat :=
  let c0_i32_14080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14079 : BitVec 32 := 1#32
  let v12937 : BitVec 32 := Scalar.muli v13 c1_i32_14079
  let v12938 : BitVec 32 := Scalar.addi c0_i32_14080 v12937
  v12938.toNat
def k0_dev205 (d0 : Dev nD) : Nat :=
  let c0_i32_14153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14152 : BitVec 32 := 1#32
  let v13003 : BitVec 32 := Scalar.muli v24 c1_i32_14152
  let v13004 : BitVec 32 := Scalar.addi c0_i32_14153 v13003
  v13004.toNat
def k0_dev206 (d0 : Dev nD) : Nat :=
  let c0_i32_14226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14225 : BitVec 32 := 1#32
  let v13069 : BitVec 32 := Scalar.muli v13 c1_i32_14225
  let v13070 : BitVec 32 := Scalar.addi c0_i32_14226 v13069
  v13070.toNat
def k0_dev207 (d0 : Dev nD) : Nat :=
  let c0_i32_14299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14298 : BitVec 32 := 1#32
  let v13135 : BitVec 32 := Scalar.muli v24 c1_i32_14298
  let v13136 : BitVec 32 := Scalar.addi c0_i32_14299 v13135
  v13136.toNat
def k0_dev208 (d0 : Dev nD) : Nat :=
  let c0_i32_14372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14371 : BitVec 32 := 1#32
  let v13201 : BitVec 32 := Scalar.muli v13 c1_i32_14371
  let v13202 : BitVec 32 := Scalar.addi c0_i32_14372 v13201
  v13202.toNat
def k0_dev209 (d0 : Dev nD) : Nat :=
  let c0_i32_14445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14444 : BitVec 32 := 1#32
  let v13267 : BitVec 32 := Scalar.muli v24 c1_i32_14444
  let v13268 : BitVec 32 := Scalar.addi c0_i32_14445 v13267
  v13268.toNat
def k0_dev210 (d0 : Dev nD) : Nat :=
  let c0_i32_14518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14517 : BitVec 32 := 1#32
  let v13333 : BitVec 32 := Scalar.muli v13 c1_i32_14517
  let v13334 : BitVec 32 := Scalar.addi c0_i32_14518 v13333
  v13334.toNat
def k0_dev211 (d0 : Dev nD) : Nat :=
  let c0_i32_14589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14588 : BitVec 32 := 1#32
  let v13399 : BitVec 32 := Scalar.muli v24 c1_i32_14588
  let v13400 : BitVec 32 := Scalar.addi c0_i32_14589 v13399
  v13400.toNat
def k0_dev212 (d0 : Dev nD) : Nat :=
  let c0_i32_14662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14661 : BitVec 32 := 1#32
  let v13465 : BitVec 32 := Scalar.muli v13 c1_i32_14661
  let v13466 : BitVec 32 := Scalar.addi c0_i32_14662 v13465
  v13466.toNat
def k0_dev213 (d0 : Dev nD) : Nat :=
  let c0_i32_14735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14734 : BitVec 32 := 1#32
  let v13531 : BitVec 32 := Scalar.muli v24 c1_i32_14734
  let v13532 : BitVec 32 := Scalar.addi c0_i32_14735 v13531
  v13532.toNat
def k0_dev214 (d0 : Dev nD) : Nat :=
  let c0_i32_14808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14807 : BitVec 32 := 1#32
  let v13597 : BitVec 32 := Scalar.muli v13 c1_i32_14807
  let v13598 : BitVec 32 := Scalar.addi c0_i32_14808 v13597
  v13598.toNat
def k0_dev215 (d0 : Dev nD) : Nat :=
  let c0_i32_14881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14880 : BitVec 32 := 1#32
  let v13663 : BitVec 32 := Scalar.muli v24 c1_i32_14880
  let v13664 : BitVec 32 := Scalar.addi c0_i32_14881 v13663
  v13664.toNat
def k0_dev216 (d0 : Dev nD) : Nat :=
  let c0_i32_14954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14953 : BitVec 32 := 1#32
  let v13729 : BitVec 32 := Scalar.muli v13 c1_i32_14953
  let v13730 : BitVec 32 := Scalar.addi c0_i32_14954 v13729
  v13730.toNat
def k0_dev217 (d0 : Dev nD) : Nat :=
  let c0_i32_15027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15026 : BitVec 32 := 1#32
  let v13795 : BitVec 32 := Scalar.muli v24 c1_i32_15026
  let v13796 : BitVec 32 := Scalar.addi c0_i32_15027 v13795
  v13796.toNat
def k0_dev218 (d0 : Dev nD) : Nat :=
  let c0_i32_15100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15099 : BitVec 32 := 1#32
  let v13861 : BitVec 32 := Scalar.muli v13 c1_i32_15099
  let v13862 : BitVec 32 := Scalar.addi c0_i32_15100 v13861
  v13862.toNat
def k0_dev219 (d0 : Dev nD) : Nat :=
  let c0_i32_15173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15172 : BitVec 32 := 1#32
  let v13927 : BitVec 32 := Scalar.muli v24 c1_i32_15172
  let v13928 : BitVec 32 := Scalar.addi c0_i32_15173 v13927
  v13928.toNat
def k0_dev220 (d0 : Dev nD) : Nat :=
  let c0_i32_15246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15245 : BitVec 32 := 1#32
  let v13993 : BitVec 32 := Scalar.muli v13 c1_i32_15245
  let v13994 : BitVec 32 := Scalar.addi c0_i32_15246 v13993
  v13994.toNat
def k0_dev221 (d0 : Dev nD) : Nat :=
  let c0_i32_15319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15318 : BitVec 32 := 1#32
  let v14059 : BitVec 32 := Scalar.muli v24 c1_i32_15318
  let v14060 : BitVec 32 := Scalar.addi c0_i32_15319 v14059
  v14060.toNat
def k0_dev222 (d0 : Dev nD) : Nat :=
  let c0_i32_15392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15391 : BitVec 32 := 1#32
  let v14125 : BitVec 32 := Scalar.muli v13 c1_i32_15391
  let v14126 : BitVec 32 := Scalar.addi c0_i32_15392 v14125
  v14126.toNat
def k0_dev223 (d0 : Dev nD) : Nat :=
  let c0_i32_15465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15464 : BitVec 32 := 1#32
  let v14191 : BitVec 32 := Scalar.muli v24 c1_i32_15464
  let v14192 : BitVec 32 := Scalar.addi c0_i32_15465 v14191
  v14192.toNat
def k0_dev224 (d0 : Dev nD) : Nat :=
  let c0_i32_15538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15537 : BitVec 32 := 1#32
  let v14257 : BitVec 32 := Scalar.muli v13 c1_i32_15537
  let v14258 : BitVec 32 := Scalar.addi c0_i32_15538 v14257
  v14258.toNat
def k0_dev225 (d0 : Dev nD) : Nat :=
  let c0_i32_15611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15610 : BitVec 32 := 1#32
  let v14323 : BitVec 32 := Scalar.muli v24 c1_i32_15610
  let v14324 : BitVec 32 := Scalar.addi c0_i32_15611 v14323
  v14324.toNat
def k0_dev226 (d0 : Dev nD) : Nat :=
  let c0_i32_15684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15683 : BitVec 32 := 1#32
  let v14389 : BitVec 32 := Scalar.muli v13 c1_i32_15683
  let v14390 : BitVec 32 := Scalar.addi c0_i32_15684 v14389
  v14390.toNat
def k0_dev227 (d0 : Dev nD) : Nat :=
  let c0_i32_15755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15754 : BitVec 32 := 1#32
  let v14455 : BitVec 32 := Scalar.muli v24 c1_i32_15754
  let v14456 : BitVec 32 := Scalar.addi c0_i32_15755 v14455
  v14456.toNat
def k0_dev228 (d0 : Dev nD) : Nat :=
  let c0_i32_15828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15827 : BitVec 32 := 1#32
  let v14521 : BitVec 32 := Scalar.muli v13 c1_i32_15827
  let v14522 : BitVec 32 := Scalar.addi c0_i32_15828 v14521
  v14522.toNat
def k0_dev229 (d0 : Dev nD) : Nat :=
  let c0_i32_15901 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_15900 : BitVec 32 := 1#32
  let v14587 : BitVec 32 := Scalar.muli v24 c1_i32_15900
  let v14588 : BitVec 32 := Scalar.addi c0_i32_15901 v14587
  v14588.toNat
def k0_dev230 (d0 : Dev nD) : Nat :=
  let c0_i32_15974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_15973 : BitVec 32 := 1#32
  let v14653 : BitVec 32 := Scalar.muli v13 c1_i32_15973
  let v14654 : BitVec 32 := Scalar.addi c0_i32_15974 v14653
  v14654.toNat
def k0_dev231 (d0 : Dev nD) : Nat :=
  let c0_i32_16047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16046 : BitVec 32 := 1#32
  let v14719 : BitVec 32 := Scalar.muli v24 c1_i32_16046
  let v14720 : BitVec 32 := Scalar.addi c0_i32_16047 v14719
  v14720.toNat
def k0_dev232 (d0 : Dev nD) : Nat :=
  let c0_i32_16120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16119 : BitVec 32 := 1#32
  let v14785 : BitVec 32 := Scalar.muli v13 c1_i32_16119
  let v14786 : BitVec 32 := Scalar.addi c0_i32_16120 v14785
  v14786.toNat
def k0_dev233 (d0 : Dev nD) : Nat :=
  let c0_i32_16193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16192 : BitVec 32 := 1#32
  let v14851 : BitVec 32 := Scalar.muli v24 c1_i32_16192
  let v14852 : BitVec 32 := Scalar.addi c0_i32_16193 v14851
  v14852.toNat
def k0_dev234 (d0 : Dev nD) : Nat :=
  let c0_i32_16266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16265 : BitVec 32 := 1#32
  let v14917 : BitVec 32 := Scalar.muli v13 c1_i32_16265
  let v14918 : BitVec 32 := Scalar.addi c0_i32_16266 v14917
  v14918.toNat
def k0_dev235 (d0 : Dev nD) : Nat :=
  let c0_i32_16339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16338 : BitVec 32 := 1#32
  let v14983 : BitVec 32 := Scalar.muli v24 c1_i32_16338
  let v14984 : BitVec 32 := Scalar.addi c0_i32_16339 v14983
  v14984.toNat
def k0_dev236 (d0 : Dev nD) : Nat :=
  let c0_i32_16412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16411 : BitVec 32 := 1#32
  let v15049 : BitVec 32 := Scalar.muli v13 c1_i32_16411
  let v15050 : BitVec 32 := Scalar.addi c0_i32_16412 v15049
  v15050.toNat
def k0_dev237 (d0 : Dev nD) : Nat :=
  let c0_i32_16485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16484 : BitVec 32 := 1#32
  let v15115 : BitVec 32 := Scalar.muli v24 c1_i32_16484
  let v15116 : BitVec 32 := Scalar.addi c0_i32_16485 v15115
  v15116.toNat
def k0_dev238 (d0 : Dev nD) : Nat :=
  let c0_i32_16558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16557 : BitVec 32 := 1#32
  let v15181 : BitVec 32 := Scalar.muli v13 c1_i32_16557
  let v15182 : BitVec 32 := Scalar.addi c0_i32_16558 v15181
  v15182.toNat
def k0_dev239 (d0 : Dev nD) : Nat :=
  let c0_i32_16631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16630 : BitVec 32 := 1#32
  let v15247 : BitVec 32 := Scalar.muli v24 c1_i32_16630
  let v15248 : BitVec 32 := Scalar.addi c0_i32_16631 v15247
  v15248.toNat
def k0_dev240 (d0 : Dev nD) : Nat :=
  let c0_i32_16704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16703 : BitVec 32 := 1#32
  let v15313 : BitVec 32 := Scalar.muli v13 c1_i32_16703
  let v15314 : BitVec 32 := Scalar.addi c0_i32_16704 v15313
  v15314.toNat
def k0_dev241 (d0 : Dev nD) : Nat :=
  let c0_i32_16777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16776 : BitVec 32 := 1#32
  let v15379 : BitVec 32 := Scalar.muli v24 c1_i32_16776
  let v15380 : BitVec 32 := Scalar.addi c0_i32_16777 v15379
  v15380.toNat
def k0_dev242 (d0 : Dev nD) : Nat :=
  let c0_i32_16850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16849 : BitVec 32 := 1#32
  let v15445 : BitVec 32 := Scalar.muli v13 c1_i32_16849
  let v15446 : BitVec 32 := Scalar.addi c0_i32_16850 v15445
  v15446.toNat
def k0_off39 (d0 : Dev nD) (c0_i32_16909 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16908 : BitVec 32 := 1#32
  let v15512 : BitVec 32 := Scalar.addi v2 c1_i32_16908
  let v15513 : BitVec 32 := Scalar.subi v15512 c0_i32_16909
  let c16_i32_16910 : BitVec 32 := 16#32
  let c0_i32_16911 : BitVec 32 := 0#32
  let v15514 : BitVec 1 := Scalar.cmpi .eq c16_i32_16910 c0_i32_16911
  let c1_i32_16912 : BitVec 32 := 1#32
  let v15515 : BitVec 32 := Scalar.select v15514 c1_i32_16912 c16_i32_16910
  let v15516 : BitVec 32 := Scalar.remsi v15513 v15515
  let c0_i32_16914 : BitVec 32 := 0#32
  let v15518 : BitVec 1 := Scalar.cmpi .slt v15516 c0_i32_16914
  let c0_i32_16915 : BitVec 32 := 0#32
  let v15519 : BitVec 1 := Scalar.cmpi .slt v15515 c0_i32_16915
  let v15520 : BitVec 1 := Scalar.xori v15518 v15519
  let c0_i32_16913 : BitVec 32 := 0#32
  let v15517 : BitVec 1 := Scalar.cmpi .ne v15516 c0_i32_16913
  let v15521 : BitVec 1 := Scalar.andi v15520 v15517
  let v15522 : BitVec 32 := Scalar.addi v15516 v15515
  let v15523 : BitVec 32 := Scalar.select v15521 v15522 v15516
  let c128_i32_16916 : BitVec 32 := 128#32
  let v15524 : BitVec 32 := Scalar.muli v15523 c128_i32_16916
  let c0_i32_16925 : BitVec 32 := 0#32
  ![v15524.toNat, 0]
def k0_dev243 (d0 : Dev nD) : Nat :=
  let c0_i32_16924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_16923 : BitVec 32 := 1#32
  let v15525 : BitVec 32 := Scalar.muli v24 c1_i32_16923
  let v15526 : BitVec 32 := Scalar.addi c0_i32_16924 v15525
  v15526.toNat
def k0_off40 (d0 : Dev nD) (c0_i32_16983 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_16982 : BitVec 32 := 1#32
  let v15591 : BitVec 32 := Scalar.subi v2 c1_i32_16982
  let v15592 : BitVec 32 := Scalar.addi v15591 c0_i32_16983
  let c16_i32_16984 : BitVec 32 := 16#32
  let c0_i32_16985 : BitVec 32 := 0#32
  let v15593 : BitVec 1 := Scalar.cmpi .eq c16_i32_16984 c0_i32_16985
  let c1_i32_16986 : BitVec 32 := 1#32
  let v15594 : BitVec 32 := Scalar.select v15593 c1_i32_16986 c16_i32_16984
  let v15595 : BitVec 32 := Scalar.remsi v15592 v15594
  let c0_i32_16988 : BitVec 32 := 0#32
  let v15597 : BitVec 1 := Scalar.cmpi .slt v15595 c0_i32_16988
  let c0_i32_16989 : BitVec 32 := 0#32
  let v15598 : BitVec 1 := Scalar.cmpi .slt v15594 c0_i32_16989
  let v15599 : BitVec 1 := Scalar.xori v15597 v15598
  let c0_i32_16987 : BitVec 32 := 0#32
  let v15596 : BitVec 1 := Scalar.cmpi .ne v15595 c0_i32_16987
  let v15600 : BitVec 1 := Scalar.andi v15599 v15596
  let v15601 : BitVec 32 := Scalar.addi v15595 v15594
  let v15602 : BitVec 32 := Scalar.select v15600 v15601 v15595
  let c128_i32_16990 : BitVec 32 := 128#32
  let v15603 : BitVec 32 := Scalar.muli v15602 c128_i32_16990
  let c1024_i32_16999 : BitVec 32 := 1024#32
  ![v15603.toNat, 1024]
def k0_dev244 (d0 : Dev nD) : Nat :=
  let c0_i32_16998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16997 : BitVec 32 := 1#32
  let v15604 : BitVec 32 := Scalar.muli v13 c1_i32_16997
  let v15605 : BitVec 32 := Scalar.addi c0_i32_16998 v15604
  v15605.toNat
def k0_off41 (d0 : Dev nD) (c0_i32_17057 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17056 : BitVec 32 := 1#32
  let v15670 : BitVec 32 := Scalar.addi v2 c1_i32_17056
  let v15671 : BitVec 32 := Scalar.subi v15670 c0_i32_17057
  let c16_i32_17058 : BitVec 32 := 16#32
  let c0_i32_17059 : BitVec 32 := 0#32
  let v15672 : BitVec 1 := Scalar.cmpi .eq c16_i32_17058 c0_i32_17059
  let c1_i32_17060 : BitVec 32 := 1#32
  let v15673 : BitVec 32 := Scalar.select v15672 c1_i32_17060 c16_i32_17058
  let v15674 : BitVec 32 := Scalar.remsi v15671 v15673
  let c0_i32_17062 : BitVec 32 := 0#32
  let v15676 : BitVec 1 := Scalar.cmpi .slt v15674 c0_i32_17062
  let c0_i32_17063 : BitVec 32 := 0#32
  let v15677 : BitVec 1 := Scalar.cmpi .slt v15673 c0_i32_17063
  let v15678 : BitVec 1 := Scalar.xori v15676 v15677
  let c0_i32_17061 : BitVec 32 := 0#32
  let v15675 : BitVec 1 := Scalar.cmpi .ne v15674 c0_i32_17061
  let v15679 : BitVec 1 := Scalar.andi v15678 v15675
  let v15680 : BitVec 32 := Scalar.addi v15674 v15673
  let v15681 : BitVec 32 := Scalar.select v15679 v15680 v15674
  let c128_i32_17064 : BitVec 32 := 128#32
  let v15682 : BitVec 32 := Scalar.muli v15681 c128_i32_17064
  let c128_i32_17073 : BitVec 32 := 128#32
  ![v15682.toNat, 128]
def k0_dev245 (d0 : Dev nD) : Nat :=
  let c0_i32_17072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17071 : BitVec 32 := 1#32
  let v15683 : BitVec 32 := Scalar.muli v24 c1_i32_17071
  let v15684 : BitVec 32 := Scalar.addi c0_i32_17072 v15683
  v15684.toNat
def k0_off42 (d0 : Dev nD) (c0_i32_17131 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17130 : BitVec 32 := 1#32
  let v15749 : BitVec 32 := Scalar.subi v2 c1_i32_17130
  let v15750 : BitVec 32 := Scalar.addi v15749 c0_i32_17131
  let c16_i32_17132 : BitVec 32 := 16#32
  let c0_i32_17133 : BitVec 32 := 0#32
  let v15751 : BitVec 1 := Scalar.cmpi .eq c16_i32_17132 c0_i32_17133
  let c1_i32_17134 : BitVec 32 := 1#32
  let v15752 : BitVec 32 := Scalar.select v15751 c1_i32_17134 c16_i32_17132
  let v15753 : BitVec 32 := Scalar.remsi v15750 v15752
  let c0_i32_17136 : BitVec 32 := 0#32
  let v15755 : BitVec 1 := Scalar.cmpi .slt v15753 c0_i32_17136
  let c0_i32_17137 : BitVec 32 := 0#32
  let v15756 : BitVec 1 := Scalar.cmpi .slt v15752 c0_i32_17137
  let v15757 : BitVec 1 := Scalar.xori v15755 v15756
  let c0_i32_17135 : BitVec 32 := 0#32
  let v15754 : BitVec 1 := Scalar.cmpi .ne v15753 c0_i32_17135
  let v15758 : BitVec 1 := Scalar.andi v15757 v15754
  let v15759 : BitVec 32 := Scalar.addi v15753 v15752
  let v15760 : BitVec 32 := Scalar.select v15758 v15759 v15753
  let c128_i32_17138 : BitVec 32 := 128#32
  let v15761 : BitVec 32 := Scalar.muli v15760 c128_i32_17138
  let c1152_i32_17147 : BitVec 32 := 1152#32
  ![v15761.toNat, 1152]
def k0_dev246 (d0 : Dev nD) : Nat :=
  let c0_i32_17146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17145 : BitVec 32 := 1#32
  let v15762 : BitVec 32 := Scalar.muli v13 c1_i32_17145
  let v15763 : BitVec 32 := Scalar.addi c0_i32_17146 v15762
  v15763.toNat
def k0_off43 (d0 : Dev nD) (c0_i32_17205 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17204 : BitVec 32 := 1#32
  let v15828 : BitVec 32 := Scalar.addi v2 c1_i32_17204
  let v15829 : BitVec 32 := Scalar.subi v15828 c0_i32_17205
  let c16_i32_17206 : BitVec 32 := 16#32
  let c0_i32_17207 : BitVec 32 := 0#32
  let v15830 : BitVec 1 := Scalar.cmpi .eq c16_i32_17206 c0_i32_17207
  let c1_i32_17208 : BitVec 32 := 1#32
  let v15831 : BitVec 32 := Scalar.select v15830 c1_i32_17208 c16_i32_17206
  let v15832 : BitVec 32 := Scalar.remsi v15829 v15831
  let c0_i32_17210 : BitVec 32 := 0#32
  let v15834 : BitVec 1 := Scalar.cmpi .slt v15832 c0_i32_17210
  let c0_i32_17211 : BitVec 32 := 0#32
  let v15835 : BitVec 1 := Scalar.cmpi .slt v15831 c0_i32_17211
  let v15836 : BitVec 1 := Scalar.xori v15834 v15835
  let c0_i32_17209 : BitVec 32 := 0#32
  let v15833 : BitVec 1 := Scalar.cmpi .ne v15832 c0_i32_17209
  let v15837 : BitVec 1 := Scalar.andi v15836 v15833
  let v15838 : BitVec 32 := Scalar.addi v15832 v15831
  let v15839 : BitVec 32 := Scalar.select v15837 v15838 v15832
  let c128_i32_17212 : BitVec 32 := 128#32
  let v15840 : BitVec 32 := Scalar.muli v15839 c128_i32_17212
  let c256_i32_17221 : BitVec 32 := 256#32
  ![v15840.toNat, 256]
def k0_dev247 (d0 : Dev nD) : Nat :=
  let c0_i32_17220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17219 : BitVec 32 := 1#32
  let v15841 : BitVec 32 := Scalar.muli v24 c1_i32_17219
  let v15842 : BitVec 32 := Scalar.addi c0_i32_17220 v15841
  v15842.toNat
def k0_off44 (d0 : Dev nD) (c0_i32_17279 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17278 : BitVec 32 := 1#32
  let v15907 : BitVec 32 := Scalar.subi v2 c1_i32_17278
  let v15908 : BitVec 32 := Scalar.addi v15907 c0_i32_17279
  let c16_i32_17280 : BitVec 32 := 16#32
  let c0_i32_17281 : BitVec 32 := 0#32
  let v15909 : BitVec 1 := Scalar.cmpi .eq c16_i32_17280 c0_i32_17281
  let c1_i32_17282 : BitVec 32 := 1#32
  let v15910 : BitVec 32 := Scalar.select v15909 c1_i32_17282 c16_i32_17280
  let v15911 : BitVec 32 := Scalar.remsi v15908 v15910
  let c0_i32_17284 : BitVec 32 := 0#32
  let v15913 : BitVec 1 := Scalar.cmpi .slt v15911 c0_i32_17284
  let c0_i32_17285 : BitVec 32 := 0#32
  let v15914 : BitVec 1 := Scalar.cmpi .slt v15910 c0_i32_17285
  let v15915 : BitVec 1 := Scalar.xori v15913 v15914
  let c0_i32_17283 : BitVec 32 := 0#32
  let v15912 : BitVec 1 := Scalar.cmpi .ne v15911 c0_i32_17283
  let v15916 : BitVec 1 := Scalar.andi v15915 v15912
  let v15917 : BitVec 32 := Scalar.addi v15911 v15910
  let v15918 : BitVec 32 := Scalar.select v15916 v15917 v15911
  let c128_i32_17286 : BitVec 32 := 128#32
  let v15919 : BitVec 32 := Scalar.muli v15918 c128_i32_17286
  let c1280_i32_17295 : BitVec 32 := 1280#32
  ![v15919.toNat, 1280]
def k0_dev248 (d0 : Dev nD) : Nat :=
  let c0_i32_17294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17293 : BitVec 32 := 1#32
  let v15920 : BitVec 32 := Scalar.muli v13 c1_i32_17293
  let v15921 : BitVec 32 := Scalar.addi c0_i32_17294 v15920
  v15921.toNat
def k0_off45 (d0 : Dev nD) (c0_i32_17353 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17352 : BitVec 32 := 1#32
  let v15986 : BitVec 32 := Scalar.addi v2 c1_i32_17352
  let v15987 : BitVec 32 := Scalar.subi v15986 c0_i32_17353
  let c16_i32_17354 : BitVec 32 := 16#32
  let c0_i32_17355 : BitVec 32 := 0#32
  let v15988 : BitVec 1 := Scalar.cmpi .eq c16_i32_17354 c0_i32_17355
  let c1_i32_17356 : BitVec 32 := 1#32
  let v15989 : BitVec 32 := Scalar.select v15988 c1_i32_17356 c16_i32_17354
  let v15990 : BitVec 32 := Scalar.remsi v15987 v15989
  let c0_i32_17358 : BitVec 32 := 0#32
  let v15992 : BitVec 1 := Scalar.cmpi .slt v15990 c0_i32_17358
  let c0_i32_17359 : BitVec 32 := 0#32
  let v15993 : BitVec 1 := Scalar.cmpi .slt v15989 c0_i32_17359
  let v15994 : BitVec 1 := Scalar.xori v15992 v15993
  let c0_i32_17357 : BitVec 32 := 0#32
  let v15991 : BitVec 1 := Scalar.cmpi .ne v15990 c0_i32_17357
  let v15995 : BitVec 1 := Scalar.andi v15994 v15991
  let v15996 : BitVec 32 := Scalar.addi v15990 v15989
  let v15997 : BitVec 32 := Scalar.select v15995 v15996 v15990
  let c128_i32_17360 : BitVec 32 := 128#32
  let v15998 : BitVec 32 := Scalar.muli v15997 c128_i32_17360
  let c384_i32_17369 : BitVec 32 := 384#32
  ![v15998.toNat, 384]
def k0_dev249 (d0 : Dev nD) : Nat :=
  let c0_i32_17368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17367 : BitVec 32 := 1#32
  let v15999 : BitVec 32 := Scalar.muli v24 c1_i32_17367
  let v16000 : BitVec 32 := Scalar.addi c0_i32_17368 v15999
  v16000.toNat
def k0_off46 (d0 : Dev nD) (c0_i32_17427 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17426 : BitVec 32 := 1#32
  let v16065 : BitVec 32 := Scalar.subi v2 c1_i32_17426
  let v16066 : BitVec 32 := Scalar.addi v16065 c0_i32_17427
  let c16_i32_17428 : BitVec 32 := 16#32
  let c0_i32_17429 : BitVec 32 := 0#32
  let v16067 : BitVec 1 := Scalar.cmpi .eq c16_i32_17428 c0_i32_17429
  let c1_i32_17430 : BitVec 32 := 1#32
  let v16068 : BitVec 32 := Scalar.select v16067 c1_i32_17430 c16_i32_17428
  let v16069 : BitVec 32 := Scalar.remsi v16066 v16068
  let c0_i32_17432 : BitVec 32 := 0#32
  let v16071 : BitVec 1 := Scalar.cmpi .slt v16069 c0_i32_17432
  let c0_i32_17433 : BitVec 32 := 0#32
  let v16072 : BitVec 1 := Scalar.cmpi .slt v16068 c0_i32_17433
  let v16073 : BitVec 1 := Scalar.xori v16071 v16072
  let c0_i32_17431 : BitVec 32 := 0#32
  let v16070 : BitVec 1 := Scalar.cmpi .ne v16069 c0_i32_17431
  let v16074 : BitVec 1 := Scalar.andi v16073 v16070
  let v16075 : BitVec 32 := Scalar.addi v16069 v16068
  let v16076 : BitVec 32 := Scalar.select v16074 v16075 v16069
  let c128_i32_17434 : BitVec 32 := 128#32
  let v16077 : BitVec 32 := Scalar.muli v16076 c128_i32_17434
  let c1408_i32_17443 : BitVec 32 := 1408#32
  ![v16077.toNat, 1408]
def k0_dev250 (d0 : Dev nD) : Nat :=
  let c0_i32_17442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17441 : BitVec 32 := 1#32
  let v16078 : BitVec 32 := Scalar.muli v13 c1_i32_17441
  let v16079 : BitVec 32 := Scalar.addi c0_i32_17442 v16078
  v16079.toNat
def k0_off47 (d0 : Dev nD) (c0_i32_17501 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17500 : BitVec 32 := 1#32
  let v16144 : BitVec 32 := Scalar.addi v2 c1_i32_17500
  let v16145 : BitVec 32 := Scalar.subi v16144 c0_i32_17501
  let c16_i32_17502 : BitVec 32 := 16#32
  let c0_i32_17503 : BitVec 32 := 0#32
  let v16146 : BitVec 1 := Scalar.cmpi .eq c16_i32_17502 c0_i32_17503
  let c1_i32_17504 : BitVec 32 := 1#32
  let v16147 : BitVec 32 := Scalar.select v16146 c1_i32_17504 c16_i32_17502
  let v16148 : BitVec 32 := Scalar.remsi v16145 v16147
  let c0_i32_17506 : BitVec 32 := 0#32
  let v16150 : BitVec 1 := Scalar.cmpi .slt v16148 c0_i32_17506
  let c0_i32_17507 : BitVec 32 := 0#32
  let v16151 : BitVec 1 := Scalar.cmpi .slt v16147 c0_i32_17507
  let v16152 : BitVec 1 := Scalar.xori v16150 v16151
  let c0_i32_17505 : BitVec 32 := 0#32
  let v16149 : BitVec 1 := Scalar.cmpi .ne v16148 c0_i32_17505
  let v16153 : BitVec 1 := Scalar.andi v16152 v16149
  let v16154 : BitVec 32 := Scalar.addi v16148 v16147
  let v16155 : BitVec 32 := Scalar.select v16153 v16154 v16148
  let c128_i32_17508 : BitVec 32 := 128#32
  let v16156 : BitVec 32 := Scalar.muli v16155 c128_i32_17508
  let c512_i32_17517 : BitVec 32 := 512#32
  ![v16156.toNat, 512]
def k0_dev251 (d0 : Dev nD) : Nat :=
  let c0_i32_17516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17515 : BitVec 32 := 1#32
  let v16157 : BitVec 32 := Scalar.muli v24 c1_i32_17515
  let v16158 : BitVec 32 := Scalar.addi c0_i32_17516 v16157
  v16158.toNat
def k0_off48 (d0 : Dev nD) (c0_i32_17575 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17574 : BitVec 32 := 1#32
  let v16223 : BitVec 32 := Scalar.subi v2 c1_i32_17574
  let v16224 : BitVec 32 := Scalar.addi v16223 c0_i32_17575
  let c16_i32_17576 : BitVec 32 := 16#32
  let c0_i32_17577 : BitVec 32 := 0#32
  let v16225 : BitVec 1 := Scalar.cmpi .eq c16_i32_17576 c0_i32_17577
  let c1_i32_17578 : BitVec 32 := 1#32
  let v16226 : BitVec 32 := Scalar.select v16225 c1_i32_17578 c16_i32_17576
  let v16227 : BitVec 32 := Scalar.remsi v16224 v16226
  let c0_i32_17580 : BitVec 32 := 0#32
  let v16229 : BitVec 1 := Scalar.cmpi .slt v16227 c0_i32_17580
  let c0_i32_17581 : BitVec 32 := 0#32
  let v16230 : BitVec 1 := Scalar.cmpi .slt v16226 c0_i32_17581
  let v16231 : BitVec 1 := Scalar.xori v16229 v16230
  let c0_i32_17579 : BitVec 32 := 0#32
  let v16228 : BitVec 1 := Scalar.cmpi .ne v16227 c0_i32_17579
  let v16232 : BitVec 1 := Scalar.andi v16231 v16228
  let v16233 : BitVec 32 := Scalar.addi v16227 v16226
  let v16234 : BitVec 32 := Scalar.select v16232 v16233 v16227
  let c128_i32_17582 : BitVec 32 := 128#32
  let v16235 : BitVec 32 := Scalar.muli v16234 c128_i32_17582
  let c1536_i32_17591 : BitVec 32 := 1536#32
  ![v16235.toNat, 1536]
def k0_dev252 (d0 : Dev nD) : Nat :=
  let c0_i32_17590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17589 : BitVec 32 := 1#32
  let v16236 : BitVec 32 := Scalar.muli v13 c1_i32_17589
  let v16237 : BitVec 32 := Scalar.addi c0_i32_17590 v16236
  v16237.toNat
def k0_off49 (d0 : Dev nD) (c0_i32_17649 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17648 : BitVec 32 := 1#32
  let v16302 : BitVec 32 := Scalar.addi v2 c1_i32_17648
  let v16303 : BitVec 32 := Scalar.subi v16302 c0_i32_17649
  let c16_i32_17650 : BitVec 32 := 16#32
  let c0_i32_17651 : BitVec 32 := 0#32
  let v16304 : BitVec 1 := Scalar.cmpi .eq c16_i32_17650 c0_i32_17651
  let c1_i32_17652 : BitVec 32 := 1#32
  let v16305 : BitVec 32 := Scalar.select v16304 c1_i32_17652 c16_i32_17650
  let v16306 : BitVec 32 := Scalar.remsi v16303 v16305
  let c0_i32_17654 : BitVec 32 := 0#32
  let v16308 : BitVec 1 := Scalar.cmpi .slt v16306 c0_i32_17654
  let c0_i32_17655 : BitVec 32 := 0#32
  let v16309 : BitVec 1 := Scalar.cmpi .slt v16305 c0_i32_17655
  let v16310 : BitVec 1 := Scalar.xori v16308 v16309
  let c0_i32_17653 : BitVec 32 := 0#32
  let v16307 : BitVec 1 := Scalar.cmpi .ne v16306 c0_i32_17653
  let v16311 : BitVec 1 := Scalar.andi v16310 v16307
  let v16312 : BitVec 32 := Scalar.addi v16306 v16305
  let v16313 : BitVec 32 := Scalar.select v16311 v16312 v16306
  let c128_i32_17656 : BitVec 32 := 128#32
  let v16314 : BitVec 32 := Scalar.muli v16313 c128_i32_17656
  let c640_i32_17665 : BitVec 32 := 640#32
  ![v16314.toNat, 640]
def k0_dev253 (d0 : Dev nD) : Nat :=
  let c0_i32_17664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17663 : BitVec 32 := 1#32
  let v16315 : BitVec 32 := Scalar.muli v24 c1_i32_17663
  let v16316 : BitVec 32 := Scalar.addi c0_i32_17664 v16315
  v16316.toNat
def k0_off50 (d0 : Dev nD) (c0_i32_17723 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17722 : BitVec 32 := 1#32
  let v16381 : BitVec 32 := Scalar.subi v2 c1_i32_17722
  let v16382 : BitVec 32 := Scalar.addi v16381 c0_i32_17723
  let c16_i32_17724 : BitVec 32 := 16#32
  let c0_i32_17725 : BitVec 32 := 0#32
  let v16383 : BitVec 1 := Scalar.cmpi .eq c16_i32_17724 c0_i32_17725
  let c1_i32_17726 : BitVec 32 := 1#32
  let v16384 : BitVec 32 := Scalar.select v16383 c1_i32_17726 c16_i32_17724
  let v16385 : BitVec 32 := Scalar.remsi v16382 v16384
  let c0_i32_17728 : BitVec 32 := 0#32
  let v16387 : BitVec 1 := Scalar.cmpi .slt v16385 c0_i32_17728
  let c0_i32_17729 : BitVec 32 := 0#32
  let v16388 : BitVec 1 := Scalar.cmpi .slt v16384 c0_i32_17729
  let v16389 : BitVec 1 := Scalar.xori v16387 v16388
  let c0_i32_17727 : BitVec 32 := 0#32
  let v16386 : BitVec 1 := Scalar.cmpi .ne v16385 c0_i32_17727
  let v16390 : BitVec 1 := Scalar.andi v16389 v16386
  let v16391 : BitVec 32 := Scalar.addi v16385 v16384
  let v16392 : BitVec 32 := Scalar.select v16390 v16391 v16385
  let c128_i32_17730 : BitVec 32 := 128#32
  let v16393 : BitVec 32 := Scalar.muli v16392 c128_i32_17730
  let c1664_i32_17739 : BitVec 32 := 1664#32
  ![v16393.toNat, 1664]
def k0_dev254 (d0 : Dev nD) : Nat :=
  let c0_i32_17738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17737 : BitVec 32 := 1#32
  let v16394 : BitVec 32 := Scalar.muli v13 c1_i32_17737
  let v16395 : BitVec 32 := Scalar.addi c0_i32_17738 v16394
  v16395.toNat
def k0_off51 (d0 : Dev nD) (c0_i32_17797 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17796 : BitVec 32 := 1#32
  let v16460 : BitVec 32 := Scalar.addi v2 c1_i32_17796
  let v16461 : BitVec 32 := Scalar.subi v16460 c0_i32_17797
  let c16_i32_17798 : BitVec 32 := 16#32
  let c0_i32_17799 : BitVec 32 := 0#32
  let v16462 : BitVec 1 := Scalar.cmpi .eq c16_i32_17798 c0_i32_17799
  let c1_i32_17800 : BitVec 32 := 1#32
  let v16463 : BitVec 32 := Scalar.select v16462 c1_i32_17800 c16_i32_17798
  let v16464 : BitVec 32 := Scalar.remsi v16461 v16463
  let c0_i32_17802 : BitVec 32 := 0#32
  let v16466 : BitVec 1 := Scalar.cmpi .slt v16464 c0_i32_17802
  let c0_i32_17803 : BitVec 32 := 0#32
  let v16467 : BitVec 1 := Scalar.cmpi .slt v16463 c0_i32_17803
  let v16468 : BitVec 1 := Scalar.xori v16466 v16467
  let c0_i32_17801 : BitVec 32 := 0#32
  let v16465 : BitVec 1 := Scalar.cmpi .ne v16464 c0_i32_17801
  let v16469 : BitVec 1 := Scalar.andi v16468 v16465
  let v16470 : BitVec 32 := Scalar.addi v16464 v16463
  let v16471 : BitVec 32 := Scalar.select v16469 v16470 v16464
  let c128_i32_17804 : BitVec 32 := 128#32
  let v16472 : BitVec 32 := Scalar.muli v16471 c128_i32_17804
  let c768_i32_17813 : BitVec 32 := 768#32
  ![v16472.toNat, 768]
def k0_dev255 (d0 : Dev nD) : Nat :=
  let c0_i32_17812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17811 : BitVec 32 := 1#32
  let v16473 : BitVec 32 := Scalar.muli v24 c1_i32_17811
  let v16474 : BitVec 32 := Scalar.addi c0_i32_17812 v16473
  v16474.toNat
def k0_off52 (d0 : Dev nD) (c0_i32_17871 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17870 : BitVec 32 := 1#32
  let v16539 : BitVec 32 := Scalar.subi v2 c1_i32_17870
  let v16540 : BitVec 32 := Scalar.addi v16539 c0_i32_17871
  let c16_i32_17872 : BitVec 32 := 16#32
  let c0_i32_17873 : BitVec 32 := 0#32
  let v16541 : BitVec 1 := Scalar.cmpi .eq c16_i32_17872 c0_i32_17873
  let c1_i32_17874 : BitVec 32 := 1#32
  let v16542 : BitVec 32 := Scalar.select v16541 c1_i32_17874 c16_i32_17872
  let v16543 : BitVec 32 := Scalar.remsi v16540 v16542
  let c0_i32_17876 : BitVec 32 := 0#32
  let v16545 : BitVec 1 := Scalar.cmpi .slt v16543 c0_i32_17876
  let c0_i32_17877 : BitVec 32 := 0#32
  let v16546 : BitVec 1 := Scalar.cmpi .slt v16542 c0_i32_17877
  let v16547 : BitVec 1 := Scalar.xori v16545 v16546
  let c0_i32_17875 : BitVec 32 := 0#32
  let v16544 : BitVec 1 := Scalar.cmpi .ne v16543 c0_i32_17875
  let v16548 : BitVec 1 := Scalar.andi v16547 v16544
  let v16549 : BitVec 32 := Scalar.addi v16543 v16542
  let v16550 : BitVec 32 := Scalar.select v16548 v16549 v16543
  let c128_i32_17878 : BitVec 32 := 128#32
  let v16551 : BitVec 32 := Scalar.muli v16550 c128_i32_17878
  let c1792_i32_17887 : BitVec 32 := 1792#32
  ![v16551.toNat, 1792]
def k0_dev256 (d0 : Dev nD) : Nat :=
  let c0_i32_17886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17885 : BitVec 32 := 1#32
  let v16552 : BitVec 32 := Scalar.muli v13 c1_i32_17885
  let v16553 : BitVec 32 := Scalar.addi c0_i32_17886 v16552
  v16553.toNat
def k0_off53 (d0 : Dev nD) (c0_i32_17945 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17944 : BitVec 32 := 1#32
  let v16618 : BitVec 32 := Scalar.addi v2 c1_i32_17944
  let v16619 : BitVec 32 := Scalar.subi v16618 c0_i32_17945
  let c16_i32_17946 : BitVec 32 := 16#32
  let c0_i32_17947 : BitVec 32 := 0#32
  let v16620 : BitVec 1 := Scalar.cmpi .eq c16_i32_17946 c0_i32_17947
  let c1_i32_17948 : BitVec 32 := 1#32
  let v16621 : BitVec 32 := Scalar.select v16620 c1_i32_17948 c16_i32_17946
  let v16622 : BitVec 32 := Scalar.remsi v16619 v16621
  let c0_i32_17950 : BitVec 32 := 0#32
  let v16624 : BitVec 1 := Scalar.cmpi .slt v16622 c0_i32_17950
  let c0_i32_17951 : BitVec 32 := 0#32
  let v16625 : BitVec 1 := Scalar.cmpi .slt v16621 c0_i32_17951
  let v16626 : BitVec 1 := Scalar.xori v16624 v16625
  let c0_i32_17949 : BitVec 32 := 0#32
  let v16623 : BitVec 1 := Scalar.cmpi .ne v16622 c0_i32_17949
  let v16627 : BitVec 1 := Scalar.andi v16626 v16623
  let v16628 : BitVec 32 := Scalar.addi v16622 v16621
  let v16629 : BitVec 32 := Scalar.select v16627 v16628 v16622
  let c128_i32_17952 : BitVec 32 := 128#32
  let v16630 : BitVec 32 := Scalar.muli v16629 c128_i32_17952
  let c896_i32_17961 : BitVec 32 := 896#32
  ![v16630.toNat, 896]
def k0_dev257 (d0 : Dev nD) : Nat :=
  let c0_i32_17960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17959 : BitVec 32 := 1#32
  let v16631 : BitVec 32 := Scalar.muli v24 c1_i32_17959
  let v16632 : BitVec 32 := Scalar.addi c0_i32_17960 v16631
  v16632.toNat
def k0_off54 (d0 : Dev nD) (c0_i32_18019 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_18018 : BitVec 32 := 1#32
  let v16697 : BitVec 32 := Scalar.subi v2 c1_i32_18018
  let v16698 : BitVec 32 := Scalar.addi v16697 c0_i32_18019
  let c16_i32_18020 : BitVec 32 := 16#32
  let c0_i32_18021 : BitVec 32 := 0#32
  let v16699 : BitVec 1 := Scalar.cmpi .eq c16_i32_18020 c0_i32_18021
  let c1_i32_18022 : BitVec 32 := 1#32
  let v16700 : BitVec 32 := Scalar.select v16699 c1_i32_18022 c16_i32_18020
  let v16701 : BitVec 32 := Scalar.remsi v16698 v16700
  let c0_i32_18024 : BitVec 32 := 0#32
  let v16703 : BitVec 1 := Scalar.cmpi .slt v16701 c0_i32_18024
  let c0_i32_18025 : BitVec 32 := 0#32
  let v16704 : BitVec 1 := Scalar.cmpi .slt v16700 c0_i32_18025
  let v16705 : BitVec 1 := Scalar.xori v16703 v16704
  let c0_i32_18023 : BitVec 32 := 0#32
  let v16702 : BitVec 1 := Scalar.cmpi .ne v16701 c0_i32_18023
  let v16706 : BitVec 1 := Scalar.andi v16705 v16702
  let v16707 : BitVec 32 := Scalar.addi v16701 v16700
  let v16708 : BitVec 32 := Scalar.select v16706 v16707 v16701
  let c128_i32_18026 : BitVec 32 := 128#32
  let v16709 : BitVec 32 := Scalar.muli v16708 c128_i32_18026
  let c1920_i32_18035 : BitVec 32 := 1920#32
  ![v16709.toNat, 1920]
def k0_dev258 (d0 : Dev nD) : Nat :=
  let c0_i32_18034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18033 : BitVec 32 := 1#32
  let v16710 : BitVec 32 := Scalar.muli v13 c1_i32_18033
  let v16711 : BitVec 32 := Scalar.addi c0_i32_18034 v16710
  v16711.toNat
def k0_dev259 (d0 : Dev nD) : Nat :=
  let c0_i32_18085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18084 : BitVec 32 := 1#32
  let v16755 : BitVec 32 := Scalar.muli v24 c1_i32_18084
  let v16756 : BitVec 32 := Scalar.addi c0_i32_18085 v16755
  v16756.toNat
def k0_dev260 (d0 : Dev nD) : Nat :=
  let c0_i32_18132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18131 : BitVec 32 := 1#32
  let v16799 : BitVec 32 := Scalar.muli v13 c1_i32_18131
  let v16800 : BitVec 32 := Scalar.addi c0_i32_18132 v16799
  v16800.toNat
def k0_dev261 (d0 : Dev nD) : Nat :=
  let c0_i32_18179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18178 : BitVec 32 := 1#32
  let v16843 : BitVec 32 := Scalar.muli v24 c1_i32_18178
  let v16844 : BitVec 32 := Scalar.addi c0_i32_18179 v16843
  v16844.toNat
def k0_dev262 (d0 : Dev nD) : Nat :=
  let c0_i32_18226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18225 : BitVec 32 := 1#32
  let v16887 : BitVec 32 := Scalar.muli v13 c1_i32_18225
  let v16888 : BitVec 32 := Scalar.addi c0_i32_18226 v16887
  v16888.toNat
def k0_dev263 (d0 : Dev nD) : Nat :=
  let c0_i32_18273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18272 : BitVec 32 := 1#32
  let v16931 : BitVec 32 := Scalar.muli v24 c1_i32_18272
  let v16932 : BitVec 32 := Scalar.addi c0_i32_18273 v16931
  v16932.toNat
def k0_dev264 (d0 : Dev nD) : Nat :=
  let c0_i32_18320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18319 : BitVec 32 := 1#32
  let v16975 : BitVec 32 := Scalar.muli v13 c1_i32_18319
  let v16976 : BitVec 32 := Scalar.addi c0_i32_18320 v16975
  v16976.toNat
def k0_dev265 (d0 : Dev nD) : Nat :=
  let c0_i32_18367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18366 : BitVec 32 := 1#32
  let v17019 : BitVec 32 := Scalar.muli v24 c1_i32_18366
  let v17020 : BitVec 32 := Scalar.addi c0_i32_18367 v17019
  v17020.toNat
def k0_dev266 (d0 : Dev nD) : Nat :=
  let c0_i32_18414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18413 : BitVec 32 := 1#32
  let v17063 : BitVec 32 := Scalar.muli v13 c1_i32_18413
  let v17064 : BitVec 32 := Scalar.addi c0_i32_18414 v17063
  v17064.toNat
def k0_dev267 (d0 : Dev nD) : Nat :=
  let c0_i32_18461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18460 : BitVec 32 := 1#32
  let v17107 : BitVec 32 := Scalar.muli v24 c1_i32_18460
  let v17108 : BitVec 32 := Scalar.addi c0_i32_18461 v17107
  v17108.toNat
def k0_dev268 (d0 : Dev nD) : Nat :=
  let c0_i32_18508 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18507 : BitVec 32 := 1#32
  let v17151 : BitVec 32 := Scalar.muli v13 c1_i32_18507
  let v17152 : BitVec 32 := Scalar.addi c0_i32_18508 v17151
  v17152.toNat
def k0_dev269 (d0 : Dev nD) : Nat :=
  let c0_i32_18555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18554 : BitVec 32 := 1#32
  let v17195 : BitVec 32 := Scalar.muli v24 c1_i32_18554
  let v17196 : BitVec 32 := Scalar.addi c0_i32_18555 v17195
  v17196.toNat
def k0_dev270 (d0 : Dev nD) : Nat :=
  let c0_i32_18602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18601 : BitVec 32 := 1#32
  let v17239 : BitVec 32 := Scalar.muli v13 c1_i32_18601
  let v17240 : BitVec 32 := Scalar.addi c0_i32_18602 v17239
  v17240.toNat
def k0_dev271 (d0 : Dev nD) : Nat :=
  let c0_i32_18649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18648 : BitVec 32 := 1#32
  let v17283 : BitVec 32 := Scalar.muli v24 c1_i32_18648
  let v17284 : BitVec 32 := Scalar.addi c0_i32_18649 v17283
  v17284.toNat
def k0_dev272 (d0 : Dev nD) : Nat :=
  let c0_i32_18696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18695 : BitVec 32 := 1#32
  let v17327 : BitVec 32 := Scalar.muli v13 c1_i32_18695
  let v17328 : BitVec 32 := Scalar.addi c0_i32_18696 v17327
  v17328.toNat
def k0_dev273 (d0 : Dev nD) : Nat :=
  let c0_i32_18743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18742 : BitVec 32 := 1#32
  let v17371 : BitVec 32 := Scalar.muli v24 c1_i32_18742
  let v17372 : BitVec 32 := Scalar.addi c0_i32_18743 v17371
  v17372.toNat
def k0_dev274 (d0 : Dev nD) : Nat :=
  let c0_i32_18790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18789 : BitVec 32 := 1#32
  let v17415 : BitVec 32 := Scalar.muli v13 c1_i32_18789
  let v17416 : BitVec 32 := Scalar.addi c0_i32_18790 v17415
  v17416.toNat
def k0_dev275 (d0 : Dev nD) : Nat :=
  let c0_i32_18837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18836 : BitVec 32 := 1#32
  let v17459 : BitVec 32 := Scalar.muli v24 c1_i32_18836
  let v17460 : BitVec 32 := Scalar.addi c0_i32_18837 v17459
  v17460.toNat
def k0_dev276 (d0 : Dev nD) : Nat :=
  let c0_i32_18884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18883 : BitVec 32 := 1#32
  let v17503 : BitVec 32 := Scalar.muli v13 c1_i32_18883
  let v17504 : BitVec 32 := Scalar.addi c0_i32_18884 v17503
  v17504.toNat
def k0_dev277 (d0 : Dev nD) : Nat :=
  let c0_i32_18931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_18930 : BitVec 32 := 1#32
  let v17547 : BitVec 32 := Scalar.muli v24 c1_i32_18930
  let v17548 : BitVec 32 := Scalar.addi c0_i32_18931 v17547
  v17548.toNat
def k0_dev278 (d0 : Dev nD) : Nat :=
  let c0_i32_18978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_18977 : BitVec 32 := 1#32
  let v17591 : BitVec 32 := Scalar.muli v13 c1_i32_18977
  let v17592 : BitVec 32 := Scalar.addi c0_i32_18978 v17591
  v17592.toNat
def k0_dev279 (d0 : Dev nD) : Nat :=
  let c0_i32_19025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19024 : BitVec 32 := 1#32
  let v17635 : BitVec 32 := Scalar.muli v24 c1_i32_19024
  let v17636 : BitVec 32 := Scalar.addi c0_i32_19025 v17635
  v17636.toNat
def k0_dev280 (d0 : Dev nD) : Nat :=
  let c0_i32_19072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19071 : BitVec 32 := 1#32
  let v17679 : BitVec 32 := Scalar.muli v13 c1_i32_19071
  let v17680 : BitVec 32 := Scalar.addi c0_i32_19072 v17679
  v17680.toNat
def k0_dev281 (d0 : Dev nD) : Nat :=
  let c0_i32_19119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19118 : BitVec 32 := 1#32
  let v17723 : BitVec 32 := Scalar.muli v24 c1_i32_19118
  let v17724 : BitVec 32 := Scalar.addi c0_i32_19119 v17723
  v17724.toNat
def k0_dev282 (d0 : Dev nD) : Nat :=
  let c0_i32_19166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19165 : BitVec 32 := 1#32
  let v17767 : BitVec 32 := Scalar.muli v13 c1_i32_19165
  let v17768 : BitVec 32 := Scalar.addi c0_i32_19166 v17767
  v17768.toNat
def k0_dev283 (d0 : Dev nD) : Nat :=
  let c0_i32_19213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19212 : BitVec 32 := 1#32
  let v17811 : BitVec 32 := Scalar.muli v24 c1_i32_19212
  let v17812 : BitVec 32 := Scalar.addi c0_i32_19213 v17811
  v17812.toNat
def k0_dev284 (d0 : Dev nD) : Nat :=
  let c0_i32_19260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19259 : BitVec 32 := 1#32
  let v17855 : BitVec 32 := Scalar.muli v13 c1_i32_19259
  let v17856 : BitVec 32 := Scalar.addi c0_i32_19260 v17855
  v17856.toNat
def k0_dev285 (d0 : Dev nD) : Nat :=
  let c0_i32_19307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19306 : BitVec 32 := 1#32
  let v17899 : BitVec 32 := Scalar.muli v24 c1_i32_19306
  let v17900 : BitVec 32 := Scalar.addi c0_i32_19307 v17899
  v17900.toNat
def k0_dev286 (d0 : Dev nD) : Nat :=
  let c0_i32_19354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19353 : BitVec 32 := 1#32
  let v17943 : BitVec 32 := Scalar.muli v13 c1_i32_19353
  let v17944 : BitVec 32 := Scalar.addi c0_i32_19354 v17943
  v17944.toNat
def k0_dev287 (d0 : Dev nD) : Nat :=
  let c0_i32_19401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19400 : BitVec 32 := 1#32
  let v17987 : BitVec 32 := Scalar.muli v24 c1_i32_19400
  let v17988 : BitVec 32 := Scalar.addi c0_i32_19401 v17987
  v17988.toNat
def k0_dev288 (d0 : Dev nD) : Nat :=
  let c0_i32_19448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19447 : BitVec 32 := 1#32
  let v18031 : BitVec 32 := Scalar.muli v13 c1_i32_19447
  let v18032 : BitVec 32 := Scalar.addi c0_i32_19448 v18031
  v18032.toNat
def k0_dev289 (d0 : Dev nD) : Nat :=
  let c0_i32_19495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19494 : BitVec 32 := 1#32
  let v18075 : BitVec 32 := Scalar.muli v24 c1_i32_19494
  let v18076 : BitVec 32 := Scalar.addi c0_i32_19495 v18075
  v18076.toNat
def k0_dev290 (d0 : Dev nD) : Nat :=
  let c0_i32_19542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19541 : BitVec 32 := 1#32
  let v18119 : BitVec 32 := Scalar.muli v13 c1_i32_19541
  let v18120 : BitVec 32 := Scalar.addi c0_i32_19542 v18119
  v18120.toNat
def k0_dev291 (d0 : Dev nD) : Nat :=
  let c0_i32_19589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19588 : BitVec 32 := 1#32
  let v18163 : BitVec 32 := Scalar.muli v24 c1_i32_19588
  let v18164 : BitVec 32 := Scalar.addi c0_i32_19589 v18163
  v18164.toNat
def k0_dev292 (d0 : Dev nD) : Nat :=
  let c0_i32_19636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19635 : BitVec 32 := 1#32
  let v18207 : BitVec 32 := Scalar.muli v13 c1_i32_19635
  let v18208 : BitVec 32 := Scalar.addi c0_i32_19636 v18207
  v18208.toNat
def k0_dev293 (d0 : Dev nD) : Nat :=
  let c0_i32_19683 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19682 : BitVec 32 := 1#32
  let v18251 : BitVec 32 := Scalar.muli v24 c1_i32_19682
  let v18252 : BitVec 32 := Scalar.addi c0_i32_19683 v18251
  v18252.toNat
def k0_dev294 (d0 : Dev nD) : Nat :=
  let c0_i32_19730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19729 : BitVec 32 := 1#32
  let v18295 : BitVec 32 := Scalar.muli v13 c1_i32_19729
  let v18296 : BitVec 32 := Scalar.addi c0_i32_19730 v18295
  v18296.toNat
def k0_dev295 (d0 : Dev nD) : Nat :=
  let c0_i32_19777 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19776 : BitVec 32 := 1#32
  let v18339 : BitVec 32 := Scalar.muli v24 c1_i32_19776
  let v18340 : BitVec 32 := Scalar.addi c0_i32_19777 v18339
  v18340.toNat
def k0_dev296 (d0 : Dev nD) : Nat :=
  let c0_i32_19824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19823 : BitVec 32 := 1#32
  let v18383 : BitVec 32 := Scalar.muli v13 c1_i32_19823
  let v18384 : BitVec 32 := Scalar.addi c0_i32_19824 v18383
  v18384.toNat
def k0_dev297 (d0 : Dev nD) : Nat :=
  let c0_i32_19871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19870 : BitVec 32 := 1#32
  let v18427 : BitVec 32 := Scalar.muli v24 c1_i32_19870
  let v18428 : BitVec 32 := Scalar.addi c0_i32_19871 v18427
  v18428.toNat
def k0_dev298 (d0 : Dev nD) : Nat :=
  let c0_i32_19918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_19917 : BitVec 32 := 1#32
  let v18471 : BitVec 32 := Scalar.muli v13 c1_i32_19917
  let v18472 : BitVec 32 := Scalar.addi c0_i32_19918 v18471
  v18472.toNat
def k0_dev299 (d0 : Dev nD) : Nat :=
  let c0_i32_19965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19964 : BitVec 32 := 1#32
  let v18515 : BitVec 32 := Scalar.muli v24 c1_i32_19964
  let v18516 : BitVec 32 := Scalar.addi c0_i32_19965 v18515
  v18516.toNat
def k0_dev300 (d0 : Dev nD) : Nat :=
  let c0_i32_20012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20011 : BitVec 32 := 1#32
  let v18559 : BitVec 32 := Scalar.muli v13 c1_i32_20011
  let v18560 : BitVec 32 := Scalar.addi c0_i32_20012 v18559
  v18560.toNat
def k0_dev301 (d0 : Dev nD) : Nat :=
  let c0_i32_20059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20058 : BitVec 32 := 1#32
  let v18603 : BitVec 32 := Scalar.muli v24 c1_i32_20058
  let v18604 : BitVec 32 := Scalar.addi c0_i32_20059 v18603
  v18604.toNat
def k0_dev302 (d0 : Dev nD) : Nat :=
  let c0_i32_20106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20105 : BitVec 32 := 1#32
  let v18647 : BitVec 32 := Scalar.muli v13 c1_i32_20105
  let v18648 : BitVec 32 := Scalar.addi c0_i32_20106 v18647
  v18648.toNat
def k0_dev303 (d0 : Dev nD) : Nat :=
  let c0_i32_20153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20152 : BitVec 32 := 1#32
  let v18691 : BitVec 32 := Scalar.muli v24 c1_i32_20152
  let v18692 : BitVec 32 := Scalar.addi c0_i32_20153 v18691
  v18692.toNat
def k0_dev304 (d0 : Dev nD) : Nat :=
  let c0_i32_20200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20199 : BitVec 32 := 1#32
  let v18735 : BitVec 32 := Scalar.muli v13 c1_i32_20199
  let v18736 : BitVec 32 := Scalar.addi c0_i32_20200 v18735
  v18736.toNat
def k0_dev305 (d0 : Dev nD) : Nat :=
  let c0_i32_20247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20246 : BitVec 32 := 1#32
  let v18779 : BitVec 32 := Scalar.muli v24 c1_i32_20246
  let v18780 : BitVec 32 := Scalar.addi c0_i32_20247 v18779
  v18780.toNat
def k0_dev306 (d0 : Dev nD) : Nat :=
  let c0_i32_20294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20293 : BitVec 32 := 1#32
  let v18823 : BitVec 32 := Scalar.muli v13 c1_i32_20293
  let v18824 : BitVec 32 := Scalar.addi c0_i32_20294 v18823
  v18824.toNat
def k0_dev307 (d0 : Dev nD) : Nat :=
  let c0_i32_20341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20340 : BitVec 32 := 1#32
  let v18867 : BitVec 32 := Scalar.muli v24 c1_i32_20340
  let v18868 : BitVec 32 := Scalar.addi c0_i32_20341 v18867
  v18868.toNat
def k0_dev308 (d0 : Dev nD) : Nat :=
  let c0_i32_20388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20387 : BitVec 32 := 1#32
  let v18911 : BitVec 32 := Scalar.muli v13 c1_i32_20387
  let v18912 : BitVec 32 := Scalar.addi c0_i32_20388 v18911
  v18912.toNat
def k0_dev309 (d0 : Dev nD) : Nat :=
  let c0_i32_20435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20434 : BitVec 32 := 1#32
  let v18955 : BitVec 32 := Scalar.muli v24 c1_i32_20434
  let v18956 : BitVec 32 := Scalar.addi c0_i32_20435 v18955
  v18956.toNat
def k0_dev310 (d0 : Dev nD) : Nat :=
  let c0_i32_20482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20481 : BitVec 32 := 1#32
  let v18999 : BitVec 32 := Scalar.muli v13 c1_i32_20481
  let v19000 : BitVec 32 := Scalar.addi c0_i32_20482 v18999
  v19000.toNat
def k0_dev311 (d0 : Dev nD) : Nat :=
  let c0_i32_20529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20528 : BitVec 32 := 1#32
  let v19043 : BitVec 32 := Scalar.muli v24 c1_i32_20528
  let v19044 : BitVec 32 := Scalar.addi c0_i32_20529 v19043
  v19044.toNat
def k0_dev312 (d0 : Dev nD) : Nat :=
  let c0_i32_20576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20575 : BitVec 32 := 1#32
  let v19087 : BitVec 32 := Scalar.muli v13 c1_i32_20575
  let v19088 : BitVec 32 := Scalar.addi c0_i32_20576 v19087
  v19088.toNat
def k0_dev313 (d0 : Dev nD) : Nat :=
  let c0_i32_20623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20622 : BitVec 32 := 1#32
  let v19131 : BitVec 32 := Scalar.muli v24 c1_i32_20622
  let v19132 : BitVec 32 := Scalar.addi c0_i32_20623 v19131
  v19132.toNat
def k0_dev314 (d0 : Dev nD) : Nat :=
  let c0_i32_20670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20669 : BitVec 32 := 1#32
  let v19175 : BitVec 32 := Scalar.muli v13 c1_i32_20669
  let v19176 : BitVec 32 := Scalar.addi c0_i32_20670 v19175
  v19176.toNat
def k0_dev315 (d0 : Dev nD) : Nat :=
  let c0_i32_20717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20716 : BitVec 32 := 1#32
  let v19219 : BitVec 32 := Scalar.muli v24 c1_i32_20716
  let v19220 : BitVec 32 := Scalar.addi c0_i32_20717 v19219
  v19220.toNat
def k0_dev316 (d0 : Dev nD) : Nat :=
  let c0_i32_20764 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20763 : BitVec 32 := 1#32
  let v19263 : BitVec 32 := Scalar.muli v13 c1_i32_20763
  let v19264 : BitVec 32 := Scalar.addi c0_i32_20764 v19263
  v19264.toNat
def k0_dev317 (d0 : Dev nD) : Nat :=
  let c0_i32_20811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20810 : BitVec 32 := 1#32
  let v19307 : BitVec 32 := Scalar.muli v24 c1_i32_20810
  let v19308 : BitVec 32 := Scalar.addi c0_i32_20811 v19307
  v19308.toNat
def k0_dev318 (d0 : Dev nD) : Nat :=
  let c0_i32_20858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20857 : BitVec 32 := 1#32
  let v19351 : BitVec 32 := Scalar.muli v13 c1_i32_20857
  let v19352 : BitVec 32 := Scalar.addi c0_i32_20858 v19351
  v19352.toNat
def k0_dev319 (d0 : Dev nD) : Nat :=
  let c0_i32_20905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20904 : BitVec 32 := 1#32
  let v19395 : BitVec 32 := Scalar.muli v24 c1_i32_20904
  let v19396 : BitVec 32 := Scalar.addi c0_i32_20905 v19395
  v19396.toNat
def k0_dev320 (d0 : Dev nD) : Nat :=
  let c0_i32_20952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20951 : BitVec 32 := 1#32
  let v19439 : BitVec 32 := Scalar.muli v13 c1_i32_20951
  let v19440 : BitVec 32 := Scalar.addi c0_i32_20952 v19439
  v19440.toNat
def k0_dev321 (d0 : Dev nD) : Nat :=
  let c0_i32_20999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_20998 : BitVec 32 := 1#32
  let v19483 : BitVec 32 := Scalar.muli v24 c1_i32_20998
  let v19484 : BitVec 32 := Scalar.addi c0_i32_20999 v19483
  v19484.toNat
def k0_dev322 (d0 : Dev nD) : Nat :=
  let c0_i32_21046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21045 : BitVec 32 := 1#32
  let v19527 : BitVec 32 := Scalar.muli v13 c1_i32_21045
  let v19528 : BitVec 32 := Scalar.addi c0_i32_21046 v19527
  v19528.toNat
def k0_dev323 (d0 : Dev nD) : Nat :=
  let c0_i32_21093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21092 : BitVec 32 := 1#32
  let v19571 : BitVec 32 := Scalar.muli v24 c1_i32_21092
  let v19572 : BitVec 32 := Scalar.addi c0_i32_21093 v19571
  v19572.toNat
def k0_dev324 (d0 : Dev nD) : Nat :=
  let c0_i32_21140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21139 : BitVec 32 := 1#32
  let v19615 : BitVec 32 := Scalar.muli v13 c1_i32_21139
  let v19616 : BitVec 32 := Scalar.addi c0_i32_21140 v19615
  v19616.toNat
def k0_dev325 (d0 : Dev nD) : Nat :=
  let c0_i32_21187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21186 : BitVec 32 := 1#32
  let v19659 : BitVec 32 := Scalar.muli v24 c1_i32_21186
  let v19660 : BitVec 32 := Scalar.addi c0_i32_21187 v19659
  v19660.toNat
def k0_dev326 (d0 : Dev nD) : Nat :=
  let c0_i32_21234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21233 : BitVec 32 := 1#32
  let v19703 : BitVec 32 := Scalar.muli v13 c1_i32_21233
  let v19704 : BitVec 32 := Scalar.addi c0_i32_21234 v19703
  v19704.toNat
def k0_dev327 (d0 : Dev nD) : Nat :=
  let c0_i32_21281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21280 : BitVec 32 := 1#32
  let v19747 : BitVec 32 := Scalar.muli v24 c1_i32_21280
  let v19748 : BitVec 32 := Scalar.addi c0_i32_21281 v19747
  v19748.toNat
def k0_dev328 (d0 : Dev nD) : Nat :=
  let c0_i32_21328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21327 : BitVec 32 := 1#32
  let v19791 : BitVec 32 := Scalar.muli v13 c1_i32_21327
  let v19792 : BitVec 32 := Scalar.addi c0_i32_21328 v19791
  v19792.toNat
def k0_dev329 (d0 : Dev nD) : Nat :=
  let c0_i32_21375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21374 : BitVec 32 := 1#32
  let v19835 : BitVec 32 := Scalar.muli v24 c1_i32_21374
  let v19836 : BitVec 32 := Scalar.addi c0_i32_21375 v19835
  v19836.toNat
def k0_dev330 (d0 : Dev nD) : Nat :=
  let c0_i32_21422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21421 : BitVec 32 := 1#32
  let v19879 : BitVec 32 := Scalar.muli v13 c1_i32_21421
  let v19880 : BitVec 32 := Scalar.addi c0_i32_21422 v19879
  v19880.toNat
def k0_dev331 (d0 : Dev nD) : Nat :=
  let c0_i32_21469 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21468 : BitVec 32 := 1#32
  let v19923 : BitVec 32 := Scalar.muli v24 c1_i32_21468
  let v19924 : BitVec 32 := Scalar.addi c0_i32_21469 v19923
  v19924.toNat
def k0_dev332 (d0 : Dev nD) : Nat :=
  let c0_i32_21516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21515 : BitVec 32 := 1#32
  let v19967 : BitVec 32 := Scalar.muli v13 c1_i32_21515
  let v19968 : BitVec 32 := Scalar.addi c0_i32_21516 v19967
  v19968.toNat
def k0_dev333 (d0 : Dev nD) : Nat :=
  let c0_i32_21563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21562 : BitVec 32 := 1#32
  let v20011 : BitVec 32 := Scalar.muli v24 c1_i32_21562
  let v20012 : BitVec 32 := Scalar.addi c0_i32_21563 v20011
  v20012.toNat
def k0_dev334 (d0 : Dev nD) : Nat :=
  let c0_i32_21610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21609 : BitVec 32 := 1#32
  let v20055 : BitVec 32 := Scalar.muli v13 c1_i32_21609
  let v20056 : BitVec 32 := Scalar.addi c0_i32_21610 v20055
  v20056.toNat
def k0_dev335 (d0 : Dev nD) : Nat :=
  let c0_i32_21657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21656 : BitVec 32 := 1#32
  let v20099 : BitVec 32 := Scalar.muli v24 c1_i32_21656
  let v20100 : BitVec 32 := Scalar.addi c0_i32_21657 v20099
  v20100.toNat
def k0_dev336 (d0 : Dev nD) : Nat :=
  let c0_i32_21704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21703 : BitVec 32 := 1#32
  let v20143 : BitVec 32 := Scalar.muli v13 c1_i32_21703
  let v20144 : BitVec 32 := Scalar.addi c0_i32_21704 v20143
  v20144.toNat
def k0_dev337 (d0 : Dev nD) : Nat :=
  let c0_i32_21751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21750 : BitVec 32 := 1#32
  let v20187 : BitVec 32 := Scalar.muli v24 c1_i32_21750
  let v20188 : BitVec 32 := Scalar.addi c0_i32_21751 v20187
  v20188.toNat
def k0_dev338 (d0 : Dev nD) : Nat :=
  let c0_i32_21798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21797 : BitVec 32 := 1#32
  let v20231 : BitVec 32 := Scalar.muli v13 c1_i32_21797
  let v20232 : BitVec 32 := Scalar.addi c0_i32_21798 v20231
  v20232.toNat
def k0_dev339 (d0 : Dev nD) : Nat :=
  let c0_i32_21845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21844 : BitVec 32 := 1#32
  let v20275 : BitVec 32 := Scalar.muli v24 c1_i32_21844
  let v20276 : BitVec 32 := Scalar.addi c0_i32_21845 v20275
  v20276.toNat
def k0_dev340 (d0 : Dev nD) : Nat :=
  let c0_i32_21892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21891 : BitVec 32 := 1#32
  let v20319 : BitVec 32 := Scalar.muli v13 c1_i32_21891
  let v20320 : BitVec 32 := Scalar.addi c0_i32_21892 v20319
  v20320.toNat
def k0_dev341 (d0 : Dev nD) : Nat :=
  let c0_i32_21939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_21938 : BitVec 32 := 1#32
  let v20363 : BitVec 32 := Scalar.muli v24 c1_i32_21938
  let v20364 : BitVec 32 := Scalar.addi c0_i32_21939 v20363
  v20364.toNat
def k0_dev342 (d0 : Dev nD) : Nat :=
  let c0_i32_21986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_21985 : BitVec 32 := 1#32
  let v20407 : BitVec 32 := Scalar.muli v13 c1_i32_21985
  let v20408 : BitVec 32 := Scalar.addi c0_i32_21986 v20407
  v20408.toNat
def k0_dev343 (d0 : Dev nD) : Nat :=
  let c0_i32_22033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22032 : BitVec 32 := 1#32
  let v20451 : BitVec 32 := Scalar.muli v24 c1_i32_22032
  let v20452 : BitVec 32 := Scalar.addi c0_i32_22033 v20451
  v20452.toNat
def k0_dev344 (d0 : Dev nD) : Nat :=
  let c0_i32_22080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22079 : BitVec 32 := 1#32
  let v20495 : BitVec 32 := Scalar.muli v13 c1_i32_22079
  let v20496 : BitVec 32 := Scalar.addi c0_i32_22080 v20495
  v20496.toNat
def k0_dev345 (d0 : Dev nD) : Nat :=
  let c0_i32_22127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22126 : BitVec 32 := 1#32
  let v20539 : BitVec 32 := Scalar.muli v24 c1_i32_22126
  let v20540 : BitVec 32 := Scalar.addi c0_i32_22127 v20539
  v20540.toNat
def k0_dev346 (d0 : Dev nD) : Nat :=
  let c0_i32_22174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22173 : BitVec 32 := 1#32
  let v20583 : BitVec 32 := Scalar.muli v13 c1_i32_22173
  let v20584 : BitVec 32 := Scalar.addi c0_i32_22174 v20583
  v20584.toNat
def k0_dev347 (d0 : Dev nD) : Nat :=
  let c0_i32_22221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22220 : BitVec 32 := 1#32
  let v20627 : BitVec 32 := Scalar.muli v24 c1_i32_22220
  let v20628 : BitVec 32 := Scalar.addi c0_i32_22221 v20627
  v20628.toNat
def k0_dev348 (d0 : Dev nD) : Nat :=
  let c0_i32_22268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22267 : BitVec 32 := 1#32
  let v20671 : BitVec 32 := Scalar.muli v13 c1_i32_22267
  let v20672 : BitVec 32 := Scalar.addi c0_i32_22268 v20671
  v20672.toNat
def k0_dev349 (d0 : Dev nD) : Nat :=
  let c0_i32_22315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22314 : BitVec 32 := 1#32
  let v20715 : BitVec 32 := Scalar.muli v24 c1_i32_22314
  let v20716 : BitVec 32 := Scalar.addi c0_i32_22315 v20715
  v20716.toNat
def k0_dev350 (d0 : Dev nD) : Nat :=
  let c0_i32_22362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22361 : BitVec 32 := 1#32
  let v20759 : BitVec 32 := Scalar.muli v13 c1_i32_22361
  let v20760 : BitVec 32 := Scalar.addi c0_i32_22362 v20759
  v20760.toNat
def k0_dev351 (d0 : Dev nD) : Nat :=
  let c0_i32_22409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22408 : BitVec 32 := 1#32
  let v20803 : BitVec 32 := Scalar.muli v24 c1_i32_22408
  let v20804 : BitVec 32 := Scalar.addi c0_i32_22409 v20803
  v20804.toNat
def k0_dev352 (d0 : Dev nD) : Nat :=
  let c0_i32_22456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22455 : BitVec 32 := 1#32
  let v20847 : BitVec 32 := Scalar.muli v13 c1_i32_22455
  let v20848 : BitVec 32 := Scalar.addi c0_i32_22456 v20847
  v20848.toNat
def k0_dev353 (d0 : Dev nD) : Nat :=
  let c0_i32_22503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22502 : BitVec 32 := 1#32
  let v20891 : BitVec 32 := Scalar.muli v24 c1_i32_22502
  let v20892 : BitVec 32 := Scalar.addi c0_i32_22503 v20891
  v20892.toNat
def k0_dev354 (d0 : Dev nD) : Nat :=
  let c0_i32_22550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22549 : BitVec 32 := 1#32
  let v20935 : BitVec 32 := Scalar.muli v13 c1_i32_22549
  let v20936 : BitVec 32 := Scalar.addi c0_i32_22550 v20935
  v20936.toNat
def k0_dev355 (d0 : Dev nD) : Nat :=
  let c0_i32_22597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22596 : BitVec 32 := 1#32
  let v20979 : BitVec 32 := Scalar.muli v24 c1_i32_22596
  let v20980 : BitVec 32 := Scalar.addi c0_i32_22597 v20979
  v20980.toNat
def k0_dev356 (d0 : Dev nD) : Nat :=
  let c0_i32_22644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22643 : BitVec 32 := 1#32
  let v21023 : BitVec 32 := Scalar.muli v13 c1_i32_22643
  let v21024 : BitVec 32 := Scalar.addi c0_i32_22644 v21023
  v21024.toNat
def k0_dev357 (d0 : Dev nD) : Nat :=
  let c0_i32_22691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22690 : BitVec 32 := 1#32
  let v21067 : BitVec 32 := Scalar.muli v24 c1_i32_22690
  let v21068 : BitVec 32 := Scalar.addi c0_i32_22691 v21067
  v21068.toNat
def k0_dev358 (d0 : Dev nD) : Nat :=
  let c0_i32_22738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22737 : BitVec 32 := 1#32
  let v21111 : BitVec 32 := Scalar.muli v13 c1_i32_22737
  let v21112 : BitVec 32 := Scalar.addi c0_i32_22738 v21111
  v21112.toNat
def k0_dev359 (d0 : Dev nD) : Nat :=
  let c0_i32_22785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22784 : BitVec 32 := 1#32
  let v21155 : BitVec 32 := Scalar.muli v24 c1_i32_22784
  let v21156 : BitVec 32 := Scalar.addi c0_i32_22785 v21155
  v21156.toNat
def k0_dev360 (d0 : Dev nD) : Nat :=
  let c0_i32_22832 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22831 : BitVec 32 := 1#32
  let v21199 : BitVec 32 := Scalar.muli v13 c1_i32_22831
  let v21200 : BitVec 32 := Scalar.addi c0_i32_22832 v21199
  v21200.toNat
def k0_dev361 (d0 : Dev nD) : Nat :=
  let c0_i32_22879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22878 : BitVec 32 := 1#32
  let v21243 : BitVec 32 := Scalar.muli v24 c1_i32_22878
  let v21244 : BitVec 32 := Scalar.addi c0_i32_22879 v21243
  v21244.toNat
def k0_dev362 (d0 : Dev nD) : Nat :=
  let c0_i32_22926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_22925 : BitVec 32 := 1#32
  let v21287 : BitVec 32 := Scalar.muli v13 c1_i32_22925
  let v21288 : BitVec 32 := Scalar.addi c0_i32_22926 v21287
  v21288.toNat
def k0_dev363 (d0 : Dev nD) : Nat :=
  let c0_i32_22973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_22972 : BitVec 32 := 1#32
  let v21331 : BitVec 32 := Scalar.muli v24 c1_i32_22972
  let v21332 : BitVec 32 := Scalar.addi c0_i32_22973 v21331
  v21332.toNat
def k0_dev364 (d0 : Dev nD) : Nat :=
  let c0_i32_23020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23019 : BitVec 32 := 1#32
  let v21375 : BitVec 32 := Scalar.muli v13 c1_i32_23019
  let v21376 : BitVec 32 := Scalar.addi c0_i32_23020 v21375
  v21376.toNat
def k0_dev365 (d0 : Dev nD) : Nat :=
  let c0_i32_23067 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23066 : BitVec 32 := 1#32
  let v21419 : BitVec 32 := Scalar.muli v24 c1_i32_23066
  let v21420 : BitVec 32 := Scalar.addi c0_i32_23067 v21419
  v21420.toNat
def k0_dev366 (d0 : Dev nD) : Nat :=
  let c0_i32_23114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23113 : BitVec 32 := 1#32
  let v21463 : BitVec 32 := Scalar.muli v13 c1_i32_23113
  let v21464 : BitVec 32 := Scalar.addi c0_i32_23114 v21463
  v21464.toNat
def k0_dev367 (d0 : Dev nD) : Nat :=
  let c0_i32_23161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23160 : BitVec 32 := 1#32
  let v21507 : BitVec 32 := Scalar.muli v24 c1_i32_23160
  let v21508 : BitVec 32 := Scalar.addi c0_i32_23161 v21507
  v21508.toNat
def k0_dev368 (d0 : Dev nD) : Nat :=
  let c0_i32_23208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23207 : BitVec 32 := 1#32
  let v21551 : BitVec 32 := Scalar.muli v13 c1_i32_23207
  let v21552 : BitVec 32 := Scalar.addi c0_i32_23208 v21551
  v21552.toNat
def k0_dev369 (d0 : Dev nD) : Nat :=
  let c0_i32_23255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23254 : BitVec 32 := 1#32
  let v21595 : BitVec 32 := Scalar.muli v24 c1_i32_23254
  let v21596 : BitVec 32 := Scalar.addi c0_i32_23255 v21595
  v21596.toNat
def k0_dev370 (d0 : Dev nD) : Nat :=
  let c0_i32_23302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23301 : BitVec 32 := 1#32
  let v21639 : BitVec 32 := Scalar.muli v13 c1_i32_23301
  let v21640 : BitVec 32 := Scalar.addi c0_i32_23302 v21639
  v21640.toNat
def k0_dev371 (d0 : Dev nD) : Nat :=
  let c0_i32_23349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23348 : BitVec 32 := 1#32
  let v21683 : BitVec 32 := Scalar.muli v24 c1_i32_23348
  let v21684 : BitVec 32 := Scalar.addi c0_i32_23349 v21683
  v21684.toNat
def k0_dev372 (d0 : Dev nD) : Nat :=
  let c0_i32_23396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23395 : BitVec 32 := 1#32
  let v21727 : BitVec 32 := Scalar.muli v13 c1_i32_23395
  let v21728 : BitVec 32 := Scalar.addi c0_i32_23396 v21727
  v21728.toNat
def k0_dev373 (d0 : Dev nD) : Nat :=
  let c0_i32_23443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23442 : BitVec 32 := 1#32
  let v21771 : BitVec 32 := Scalar.muli v24 c1_i32_23442
  let v21772 : BitVec 32 := Scalar.addi c0_i32_23443 v21771
  v21772.toNat
def k0_dev374 (d0 : Dev nD) : Nat :=
  let c0_i32_23490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23489 : BitVec 32 := 1#32
  let v21815 : BitVec 32 := Scalar.muli v13 c1_i32_23489
  let v21816 : BitVec 32 := Scalar.addi c0_i32_23490 v21815
  v21816.toNat
def k0_dev375 (d0 : Dev nD) : Nat :=
  let c0_i32_23537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23536 : BitVec 32 := 1#32
  let v21859 : BitVec 32 := Scalar.muli v24 c1_i32_23536
  let v21860 : BitVec 32 := Scalar.addi c0_i32_23537 v21859
  v21860.toNat
def k0_dev376 (d0 : Dev nD) : Nat :=
  let c0_i32_23584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23583 : BitVec 32 := 1#32
  let v21903 : BitVec 32 := Scalar.muli v13 c1_i32_23583
  let v21904 : BitVec 32 := Scalar.addi c0_i32_23584 v21903
  v21904.toNat
def k0_dev377 (d0 : Dev nD) : Nat :=
  let c0_i32_23631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23630 : BitVec 32 := 1#32
  let v21947 : BitVec 32 := Scalar.muli v24 c1_i32_23630
  let v21948 : BitVec 32 := Scalar.addi c0_i32_23631 v21947
  v21948.toNat
def k0_dev378 (d0 : Dev nD) : Nat :=
  let c0_i32_23678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23677 : BitVec 32 := 1#32
  let v21991 : BitVec 32 := Scalar.muli v13 c1_i32_23677
  let v21992 : BitVec 32 := Scalar.addi c0_i32_23678 v21991
  v21992.toNat
def k0_dev379 (d0 : Dev nD) : Nat :=
  let c0_i32_23725 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23724 : BitVec 32 := 1#32
  let v22035 : BitVec 32 := Scalar.muli v24 c1_i32_23724
  let v22036 : BitVec 32 := Scalar.addi c0_i32_23725 v22035
  v22036.toNat
def k0_dev380 (d0 : Dev nD) : Nat :=
  let c0_i32_23772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23771 : BitVec 32 := 1#32
  let v22079 : BitVec 32 := Scalar.muli v13 c1_i32_23771
  let v22080 : BitVec 32 := Scalar.addi c0_i32_23772 v22079
  v22080.toNat
def k0_dev381 (d0 : Dev nD) : Nat :=
  let c0_i32_23819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23818 : BitVec 32 := 1#32
  let v22123 : BitVec 32 := Scalar.muli v24 c1_i32_23818
  let v22124 : BitVec 32 := Scalar.addi c0_i32_23819 v22123
  v22124.toNat
def k0_dev382 (d0 : Dev nD) : Nat :=
  let c0_i32_23866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23865 : BitVec 32 := 1#32
  let v22167 : BitVec 32 := Scalar.muli v13 c1_i32_23865
  let v22168 : BitVec 32 := Scalar.addi c0_i32_23866 v22167
  v22168.toNat
def k0_dev383 (d0 : Dev nD) : Nat :=
  let c0_i32_23913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23912 : BitVec 32 := 1#32
  let v22211 : BitVec 32 := Scalar.muli v24 c1_i32_23912
  let v22212 : BitVec 32 := Scalar.addi c0_i32_23913 v22211
  v22212.toNat
def k0_dev384 (d0 : Dev nD) : Nat :=
  let c0_i32_23960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23959 : BitVec 32 := 1#32
  let v22255 : BitVec 32 := Scalar.muli v13 c1_i32_23959
  let v22256 : BitVec 32 := Scalar.addi c0_i32_23960 v22255
  v22256.toNat
def k0_dev385 (d0 : Dev nD) : Nat :=
  let c0_i32_24007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24006 : BitVec 32 := 1#32
  let v22299 : BitVec 32 := Scalar.muli v24 c1_i32_24006
  let v22300 : BitVec 32 := Scalar.addi c0_i32_24007 v22299
  v22300.toNat
def k0_dev386 (d0 : Dev nD) : Nat :=
  let c0_i32_24054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24053 : BitVec 32 := 1#32
  let v22343 : BitVec 32 := Scalar.muli v13 c1_i32_24053
  let v22344 : BitVec 32 := Scalar.addi c0_i32_24054 v22343
  v22344.toNat
def k0_dev387 (d0 : Dev nD) : Nat :=
  let c0_i32_24101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24100 : BitVec 32 := 1#32
  let v22387 : BitVec 32 := Scalar.muli v24 c1_i32_24100
  let v22388 : BitVec 32 := Scalar.addi c0_i32_24101 v22387
  v22388.toNat
def k0_dev388 (d0 : Dev nD) : Nat :=
  let c0_i32_24148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24147 : BitVec 32 := 1#32
  let v22431 : BitVec 32 := Scalar.muli v13 c1_i32_24147
  let v22432 : BitVec 32 := Scalar.addi c0_i32_24148 v22431
  v22432.toNat
def k0_dev389 (d0 : Dev nD) : Nat :=
  let c0_i32_24195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24194 : BitVec 32 := 1#32
  let v22475 : BitVec 32 := Scalar.muli v24 c1_i32_24194
  let v22476 : BitVec 32 := Scalar.addi c0_i32_24195 v22475
  v22476.toNat
def k0_dev390 (d0 : Dev nD) : Nat :=
  let c0_i32_24242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24241 : BitVec 32 := 1#32
  let v22519 : BitVec 32 := Scalar.muli v13 c1_i32_24241
  let v22520 : BitVec 32 := Scalar.addi c0_i32_24242 v22519
  v22520.toNat
def k0_dev391 (d0 : Dev nD) : Nat :=
  let c0_i32_24289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24288 : BitVec 32 := 1#32
  let v22563 : BitVec 32 := Scalar.muli v24 c1_i32_24288
  let v22564 : BitVec 32 := Scalar.addi c0_i32_24289 v22563
  v22564.toNat
def k0_dev392 (d0 : Dev nD) : Nat :=
  let c0_i32_24336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24335 : BitVec 32 := 1#32
  let v22607 : BitVec 32 := Scalar.muli v13 c1_i32_24335
  let v22608 : BitVec 32 := Scalar.addi c0_i32_24336 v22607
  v22608.toNat
def k0_dev393 (d0 : Dev nD) : Nat :=
  let c0_i32_24383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24382 : BitVec 32 := 1#32
  let v22651 : BitVec 32 := Scalar.muli v24 c1_i32_24382
  let v22652 : BitVec 32 := Scalar.addi c0_i32_24383 v22651
  v22652.toNat
def k0_dev394 (d0 : Dev nD) : Nat :=
  let c0_i32_24430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24429 : BitVec 32 := 1#32
  let v22695 : BitVec 32 := Scalar.muli v13 c1_i32_24429
  let v22696 : BitVec 32 := Scalar.addi c0_i32_24430 v22695
  v22696.toNat
def k0_dev395 (d0 : Dev nD) : Nat :=
  let c0_i32_24477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24476 : BitVec 32 := 1#32
  let v22739 : BitVec 32 := Scalar.muli v24 c1_i32_24476
  let v22740 : BitVec 32 := Scalar.addi c0_i32_24477 v22739
  v22740.toNat
def k0_dev396 (d0 : Dev nD) : Nat :=
  let c0_i32_24524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24523 : BitVec 32 := 1#32
  let v22783 : BitVec 32 := Scalar.muli v13 c1_i32_24523
  let v22784 : BitVec 32 := Scalar.addi c0_i32_24524 v22783
  v22784.toNat
def k0_dev397 (d0 : Dev nD) : Nat :=
  let c0_i32_24571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24570 : BitVec 32 := 1#32
  let v22827 : BitVec 32 := Scalar.muli v24 c1_i32_24570
  let v22828 : BitVec 32 := Scalar.addi c0_i32_24571 v22827
  v22828.toNat
def k0_dev398 (d0 : Dev nD) : Nat :=
  let c0_i32_24618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24617 : BitVec 32 := 1#32
  let v22871 : BitVec 32 := Scalar.muli v13 c1_i32_24617
  let v22872 : BitVec 32 := Scalar.addi c0_i32_24618 v22871
  v22872.toNat
def k0_dev399 (d0 : Dev nD) : Nat :=
  let c0_i32_24665 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24664 : BitVec 32 := 1#32
  let v22915 : BitVec 32 := Scalar.muli v24 c1_i32_24664
  let v22916 : BitVec 32 := Scalar.addi c0_i32_24665 v22915
  v22916.toNat
def k0_dev400 (d0 : Dev nD) : Nat :=
  let c0_i32_24712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24711 : BitVec 32 := 1#32
  let v22959 : BitVec 32 := Scalar.muli v13 c1_i32_24711
  let v22960 : BitVec 32 := Scalar.addi c0_i32_24712 v22959
  v22960.toNat
def k0_dev401 (d0 : Dev nD) : Nat :=
  let c0_i32_24759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24758 : BitVec 32 := 1#32
  let v23003 : BitVec 32 := Scalar.muli v24 c1_i32_24758
  let v23004 : BitVec 32 := Scalar.addi c0_i32_24759 v23003
  v23004.toNat
def k0_dev402 (d0 : Dev nD) : Nat :=
  let c0_i32_24806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24805 : BitVec 32 := 1#32
  let v23047 : BitVec 32 := Scalar.muli v13 c1_i32_24805
  let v23048 : BitVec 32 := Scalar.addi c0_i32_24806 v23047
  v23048.toNat
def k0_dev403 (d0 : Dev nD) : Nat :=
  let c0_i32_24853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24852 : BitVec 32 := 1#32
  let v23091 : BitVec 32 := Scalar.muli v24 c1_i32_24852
  let v23092 : BitVec 32 := Scalar.addi c0_i32_24853 v23091
  v23092.toNat
def k0_dev404 (d0 : Dev nD) : Nat :=
  let c0_i32_24900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24899 : BitVec 32 := 1#32
  let v23135 : BitVec 32 := Scalar.muli v13 c1_i32_24899
  let v23136 : BitVec 32 := Scalar.addi c0_i32_24900 v23135
  v23136.toNat
def k0_dev405 (d0 : Dev nD) : Nat :=
  let c0_i32_24947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_24946 : BitVec 32 := 1#32
  let v23179 : BitVec 32 := Scalar.muli v24 c1_i32_24946
  let v23180 : BitVec 32 := Scalar.addi c0_i32_24947 v23179
  v23180.toNat
def k0_dev406 (d0 : Dev nD) : Nat :=
  let c0_i32_24994 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24993 : BitVec 32 := 1#32
  let v23223 : BitVec 32 := Scalar.muli v13 c1_i32_24993
  let v23224 : BitVec 32 := Scalar.addi c0_i32_24994 v23223
  v23224.toNat
def k0_dev407 (d0 : Dev nD) : Nat :=
  let c0_i32_25041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25040 : BitVec 32 := 1#32
  let v23267 : BitVec 32 := Scalar.muli v24 c1_i32_25040
  let v23268 : BitVec 32 := Scalar.addi c0_i32_25041 v23267
  v23268.toNat
def k0_dev408 (d0 : Dev nD) : Nat :=
  let c0_i32_25088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25087 : BitVec 32 := 1#32
  let v23311 : BitVec 32 := Scalar.muli v13 c1_i32_25087
  let v23312 : BitVec 32 := Scalar.addi c0_i32_25088 v23311
  v23312.toNat
def k0_dev409 (d0 : Dev nD) : Nat :=
  let c0_i32_25135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25134 : BitVec 32 := 1#32
  let v23355 : BitVec 32 := Scalar.muli v24 c1_i32_25134
  let v23356 : BitVec 32 := Scalar.addi c0_i32_25135 v23355
  v23356.toNat
def k0_dev410 (d0 : Dev nD) : Nat :=
  let c0_i32_25182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25181 : BitVec 32 := 1#32
  let v23399 : BitVec 32 := Scalar.muli v13 c1_i32_25181
  let v23400 : BitVec 32 := Scalar.addi c0_i32_25182 v23399
  v23400.toNat
def k0_dev411 (d0 : Dev nD) : Nat :=
  let c0_i32_25229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25228 : BitVec 32 := 1#32
  let v23443 : BitVec 32 := Scalar.muli v24 c1_i32_25228
  let v23444 : BitVec 32 := Scalar.addi c0_i32_25229 v23443
  v23444.toNat
def k0_dev412 (d0 : Dev nD) : Nat :=
  let c0_i32_25276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25275 : BitVec 32 := 1#32
  let v23487 : BitVec 32 := Scalar.muli v13 c1_i32_25275
  let v23488 : BitVec 32 := Scalar.addi c0_i32_25276 v23487
  v23488.toNat
def k0_dev413 (d0 : Dev nD) : Nat :=
  let c0_i32_25323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25322 : BitVec 32 := 1#32
  let v23531 : BitVec 32 := Scalar.muli v24 c1_i32_25322
  let v23532 : BitVec 32 := Scalar.addi c0_i32_25323 v23531
  v23532.toNat
def k0_dev414 (d0 : Dev nD) : Nat :=
  let c0_i32_25370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25369 : BitVec 32 := 1#32
  let v23575 : BitVec 32 := Scalar.muli v13 c1_i32_25369
  let v23576 : BitVec 32 := Scalar.addi c0_i32_25370 v23575
  v23576.toNat
def k0_dev415 (d0 : Dev nD) : Nat :=
  let c0_i32_25417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25416 : BitVec 32 := 1#32
  let v23619 : BitVec 32 := Scalar.muli v24 c1_i32_25416
  let v23620 : BitVec 32 := Scalar.addi c0_i32_25417 v23619
  v23620.toNat
def k0_dev416 (d0 : Dev nD) : Nat :=
  let c0_i32_25464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25463 : BitVec 32 := 1#32
  let v23663 : BitVec 32 := Scalar.muli v13 c1_i32_25463
  let v23664 : BitVec 32 := Scalar.addi c0_i32_25464 v23663
  v23664.toNat
def k0_dev417 (d0 : Dev nD) : Nat :=
  let c0_i32_25511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25510 : BitVec 32 := 1#32
  let v23707 : BitVec 32 := Scalar.muli v24 c1_i32_25510
  let v23708 : BitVec 32 := Scalar.addi c0_i32_25511 v23707
  v23708.toNat
def k0_dev418 (d0 : Dev nD) : Nat :=
  let c0_i32_25558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25557 : BitVec 32 := 1#32
  let v23751 : BitVec 32 := Scalar.muli v13 c1_i32_25557
  let v23752 : BitVec 32 := Scalar.addi c0_i32_25558 v23751
  v23752.toNat
def k0_dev419 (d0 : Dev nD) : Nat :=
  let c0_i32_25605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25604 : BitVec 32 := 1#32
  let v23795 : BitVec 32 := Scalar.muli v24 c1_i32_25604
  let v23796 : BitVec 32 := Scalar.addi c0_i32_25605 v23795
  v23796.toNat
def k0_dev420 (d0 : Dev nD) : Nat :=
  let c0_i32_25652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25651 : BitVec 32 := 1#32
  let v23839 : BitVec 32 := Scalar.muli v13 c1_i32_25651
  let v23840 : BitVec 32 := Scalar.addi c0_i32_25652 v23839
  v23840.toNat
def k0_dev421 (d0 : Dev nD) : Nat :=
  let c0_i32_25699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25698 : BitVec 32 := 1#32
  let v23883 : BitVec 32 := Scalar.muli v24 c1_i32_25698
  let v23884 : BitVec 32 := Scalar.addi c0_i32_25699 v23883
  v23884.toNat
def k0_dev422 (d0 : Dev nD) : Nat :=
  let c0_i32_25746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25745 : BitVec 32 := 1#32
  let v23927 : BitVec 32 := Scalar.muli v13 c1_i32_25745
  let v23928 : BitVec 32 := Scalar.addi c0_i32_25746 v23927
  v23928.toNat
def k0_dev423 (d0 : Dev nD) : Nat :=
  let c0_i32_25793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25792 : BitVec 32 := 1#32
  let v23971 : BitVec 32 := Scalar.muli v24 c1_i32_25792
  let v23972 : BitVec 32 := Scalar.addi c0_i32_25793 v23971
  v23972.toNat
def k0_dev424 (d0 : Dev nD) : Nat :=
  let c0_i32_25840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25839 : BitVec 32 := 1#32
  let v24015 : BitVec 32 := Scalar.muli v13 c1_i32_25839
  let v24016 : BitVec 32 := Scalar.addi c0_i32_25840 v24015
  v24016.toNat
def k0_dev425 (d0 : Dev nD) : Nat :=
  let c0_i32_25887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25886 : BitVec 32 := 1#32
  let v24059 : BitVec 32 := Scalar.muli v24 c1_i32_25886
  let v24060 : BitVec 32 := Scalar.addi c0_i32_25887 v24059
  v24060.toNat
def k0_dev426 (d0 : Dev nD) : Nat :=
  let c0_i32_25934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_25933 : BitVec 32 := 1#32
  let v24103 : BitVec 32 := Scalar.muli v13 c1_i32_25933
  let v24104 : BitVec 32 := Scalar.addi c0_i32_25934 v24103
  v24104.toNat
def k0_dev427 (d0 : Dev nD) : Nat :=
  let c0_i32_25981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_25980 : BitVec 32 := 1#32
  let v24147 : BitVec 32 := Scalar.muli v24 c1_i32_25980
  let v24148 : BitVec 32 := Scalar.addi c0_i32_25981 v24147
  v24148.toNat
def k0_dev428 (d0 : Dev nD) : Nat :=
  let c0_i32_26028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26027 : BitVec 32 := 1#32
  let v24191 : BitVec 32 := Scalar.muli v13 c1_i32_26027
  let v24192 : BitVec 32 := Scalar.addi c0_i32_26028 v24191
  v24192.toNat
def k0_dev429 (d0 : Dev nD) : Nat :=
  let c0_i32_26075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26074 : BitVec 32 := 1#32
  let v24235 : BitVec 32 := Scalar.muli v24 c1_i32_26074
  let v24236 : BitVec 32 := Scalar.addi c0_i32_26075 v24235
  v24236.toNat
def k0_dev430 (d0 : Dev nD) : Nat :=
  let c0_i32_26122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26121 : BitVec 32 := 1#32
  let v24279 : BitVec 32 := Scalar.muli v13 c1_i32_26121
  let v24280 : BitVec 32 := Scalar.addi c0_i32_26122 v24279
  v24280.toNat
def k0_dev431 (d0 : Dev nD) : Nat :=
  let c0_i32_26169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26168 : BitVec 32 := 1#32
  let v24323 : BitVec 32 := Scalar.muli v24 c1_i32_26168
  let v24324 : BitVec 32 := Scalar.addi c0_i32_26169 v24323
  v24324.toNat
def k0_dev432 (d0 : Dev nD) : Nat :=
  let c0_i32_26216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26215 : BitVec 32 := 1#32
  let v24367 : BitVec 32 := Scalar.muli v13 c1_i32_26215
  let v24368 : BitVec 32 := Scalar.addi c0_i32_26216 v24367
  v24368.toNat
def k0_dev433 (d0 : Dev nD) : Nat :=
  let c0_i32_26263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26262 : BitVec 32 := 1#32
  let v24411 : BitVec 32 := Scalar.muli v24 c1_i32_26262
  let v24412 : BitVec 32 := Scalar.addi c0_i32_26263 v24411
  v24412.toNat
def k0_dev434 (d0 : Dev nD) : Nat :=
  let c0_i32_26310 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26309 : BitVec 32 := 1#32
  let v24455 : BitVec 32 := Scalar.muli v13 c1_i32_26309
  let v24456 : BitVec 32 := Scalar.addi c0_i32_26310 v24455
  v24456.toNat
def k0_dev435 (d0 : Dev nD) : Nat :=
  let c0_i32_26357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26356 : BitVec 32 := 1#32
  let v24499 : BitVec 32 := Scalar.muli v24 c1_i32_26356
  let v24500 : BitVec 32 := Scalar.addi c0_i32_26357 v24499
  v24500.toNat
def k0_dev436 (d0 : Dev nD) : Nat :=
  let c0_i32_26404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26403 : BitVec 32 := 1#32
  let v24543 : BitVec 32 := Scalar.muli v13 c1_i32_26403
  let v24544 : BitVec 32 := Scalar.addi c0_i32_26404 v24543
  v24544.toNat
def k0_dev437 (d0 : Dev nD) : Nat :=
  let c0_i32_26451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26450 : BitVec 32 := 1#32
  let v24587 : BitVec 32 := Scalar.muli v24 c1_i32_26450
  let v24588 : BitVec 32 := Scalar.addi c0_i32_26451 v24587
  v24588.toNat
def k0_dev438 (d0 : Dev nD) : Nat :=
  let c0_i32_26498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26497 : BitVec 32 := 1#32
  let v24631 : BitVec 32 := Scalar.muli v13 c1_i32_26497
  let v24632 : BitVec 32 := Scalar.addi c0_i32_26498 v24631
  v24632.toNat
def k0_dev439 (d0 : Dev nD) : Nat :=
  let c0_i32_26545 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26544 : BitVec 32 := 1#32
  let v24675 : BitVec 32 := Scalar.muli v24 c1_i32_26544
  let v24676 : BitVec 32 := Scalar.addi c0_i32_26545 v24675
  v24676.toNat
def k0_dev440 (d0 : Dev nD) : Nat :=
  let c0_i32_26592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26591 : BitVec 32 := 1#32
  let v24719 : BitVec 32 := Scalar.muli v13 c1_i32_26591
  let v24720 : BitVec 32 := Scalar.addi c0_i32_26592 v24719
  v24720.toNat
def k0_dev441 (d0 : Dev nD) : Nat :=
  let c0_i32_26639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26638 : BitVec 32 := 1#32
  let v24763 : BitVec 32 := Scalar.muli v24 c1_i32_26638
  let v24764 : BitVec 32 := Scalar.addi c0_i32_26639 v24763
  v24764.toNat
def k0_dev442 (d0 : Dev nD) : Nat :=
  let c0_i32_26686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26685 : BitVec 32 := 1#32
  let v24807 : BitVec 32 := Scalar.muli v13 c1_i32_26685
  let v24808 : BitVec 32 := Scalar.addi c0_i32_26686 v24807
  v24808.toNat
def k0_dev443 (d0 : Dev nD) : Nat :=
  let c0_i32_26733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26732 : BitVec 32 := 1#32
  let v24851 : BitVec 32 := Scalar.muli v24 c1_i32_26732
  let v24852 : BitVec 32 := Scalar.addi c0_i32_26733 v24851
  v24852.toNat
def k0_dev444 (d0 : Dev nD) : Nat :=
  let c0_i32_26780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26779 : BitVec 32 := 1#32
  let v24895 : BitVec 32 := Scalar.muli v13 c1_i32_26779
  let v24896 : BitVec 32 := Scalar.addi c0_i32_26780 v24895
  v24896.toNat
def k0_dev445 (d0 : Dev nD) : Nat :=
  let c0_i32_26827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26826 : BitVec 32 := 1#32
  let v24939 : BitVec 32 := Scalar.muli v24 c1_i32_26826
  let v24940 : BitVec 32 := Scalar.addi c0_i32_26827 v24939
  v24940.toNat
def k0_dev446 (d0 : Dev nD) : Nat :=
  let c0_i32_26874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26873 : BitVec 32 := 1#32
  let v24983 : BitVec 32 := Scalar.muli v13 c1_i32_26873
  let v24984 : BitVec 32 := Scalar.addi c0_i32_26874 v24983
  v24984.toNat
def k0_dev447 (d0 : Dev nD) : Nat :=
  let c0_i32_26921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_26920 : BitVec 32 := 1#32
  let v25027 : BitVec 32 := Scalar.muli v24 c1_i32_26920
  let v25028 : BitVec 32 := Scalar.addi c0_i32_26921 v25027
  v25028.toNat
def k0_dev448 (d0 : Dev nD) : Nat :=
  let c0_i32_26968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_26967 : BitVec 32 := 1#32
  let v25071 : BitVec 32 := Scalar.muli v13 c1_i32_26967
  let v25072 : BitVec 32 := Scalar.addi c0_i32_26968 v25071
  v25072.toNat
def k0_dev449 (d0 : Dev nD) : Nat :=
  let c0_i32_27015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27014 : BitVec 32 := 1#32
  let v25115 : BitVec 32 := Scalar.muli v24 c1_i32_27014
  let v25116 : BitVec 32 := Scalar.addi c0_i32_27015 v25115
  v25116.toNat
def k0_dev450 (d0 : Dev nD) : Nat :=
  let c0_i32_27062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27061 : BitVec 32 := 1#32
  let v25159 : BitVec 32 := Scalar.muli v13 c1_i32_27061
  let v25160 : BitVec 32 := Scalar.addi c0_i32_27062 v25159
  v25160.toNat
def k0_dev451 (d0 : Dev nD) : Nat :=
  let c0_i32_27109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27108 : BitVec 32 := 1#32
  let v25203 : BitVec 32 := Scalar.muli v24 c1_i32_27108
  let v25204 : BitVec 32 := Scalar.addi c0_i32_27109 v25203
  v25204.toNat
def k0_dev452 (d0 : Dev nD) : Nat :=
  let c0_i32_27156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27155 : BitVec 32 := 1#32
  let v25247 : BitVec 32 := Scalar.muli v13 c1_i32_27155
  let v25248 : BitVec 32 := Scalar.addi c0_i32_27156 v25247
  v25248.toNat
def k0_dev453 (d0 : Dev nD) : Nat :=
  let c0_i32_27203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27202 : BitVec 32 := 1#32
  let v25291 : BitVec 32 := Scalar.muli v24 c1_i32_27202
  let v25292 : BitVec 32 := Scalar.addi c0_i32_27203 v25291
  v25292.toNat
def k0_dev454 (d0 : Dev nD) : Nat :=
  let c0_i32_27250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27249 : BitVec 32 := 1#32
  let v25335 : BitVec 32 := Scalar.muli v13 c1_i32_27249
  let v25336 : BitVec 32 := Scalar.addi c0_i32_27250 v25335
  v25336.toNat
def k0_dev455 (d0 : Dev nD) : Nat :=
  let c0_i32_27297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27296 : BitVec 32 := 1#32
  let v25379 : BitVec 32 := Scalar.muli v24 c1_i32_27296
  let v25380 : BitVec 32 := Scalar.addi c0_i32_27297 v25379
  v25380.toNat
def k0_dev456 (d0 : Dev nD) : Nat :=
  let c0_i32_27344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27343 : BitVec 32 := 1#32
  let v25423 : BitVec 32 := Scalar.muli v13 c1_i32_27343
  let v25424 : BitVec 32 := Scalar.addi c0_i32_27344 v25423
  v25424.toNat
def k0_dev457 (d0 : Dev nD) : Nat :=
  let c0_i32_27391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27390 : BitVec 32 := 1#32
  let v25467 : BitVec 32 := Scalar.muli v24 c1_i32_27390
  let v25468 : BitVec 32 := Scalar.addi c0_i32_27391 v25467
  v25468.toNat
def k0_dev458 (d0 : Dev nD) : Nat :=
  let c0_i32_27438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27437 : BitVec 32 := 1#32
  let v25511 : BitVec 32 := Scalar.muli v13 c1_i32_27437
  let v25512 : BitVec 32 := Scalar.addi c0_i32_27438 v25511
  v25512.toNat
def k0_dev459 (d0 : Dev nD) : Nat :=
  let c0_i32_27485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27484 : BitVec 32 := 1#32
  let v25555 : BitVec 32 := Scalar.muli v24 c1_i32_27484
  let v25556 : BitVec 32 := Scalar.addi c0_i32_27485 v25555
  v25556.toNat
def k0_dev460 (d0 : Dev nD) : Nat :=
  let c0_i32_27532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27531 : BitVec 32 := 1#32
  let v25599 : BitVec 32 := Scalar.muli v13 c1_i32_27531
  let v25600 : BitVec 32 := Scalar.addi c0_i32_27532 v25599
  v25600.toNat
def k0_dev461 (d0 : Dev nD) : Nat :=
  let c0_i32_27579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27578 : BitVec 32 := 1#32
  let v25643 : BitVec 32 := Scalar.muli v24 c1_i32_27578
  let v25644 : BitVec 32 := Scalar.addi c0_i32_27579 v25643
  v25644.toNat
def k0_dev462 (d0 : Dev nD) : Nat :=
  let c0_i32_27626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27625 : BitVec 32 := 1#32
  let v25687 : BitVec 32 := Scalar.muli v13 c1_i32_27625
  let v25688 : BitVec 32 := Scalar.addi c0_i32_27626 v25687
  v25688.toNat
def k0_dev463 (d0 : Dev nD) : Nat :=
  let c0_i32_27673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27672 : BitVec 32 := 1#32
  let v25731 : BitVec 32 := Scalar.muli v24 c1_i32_27672
  let v25732 : BitVec 32 := Scalar.addi c0_i32_27673 v25731
  v25732.toNat
def k0_dev464 (d0 : Dev nD) : Nat :=
  let c0_i32_27720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27719 : BitVec 32 := 1#32
  let v25775 : BitVec 32 := Scalar.muli v13 c1_i32_27719
  let v25776 : BitVec 32 := Scalar.addi c0_i32_27720 v25775
  v25776.toNat
def k0_dev465 (d0 : Dev nD) : Nat :=
  let c0_i32_27767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27766 : BitVec 32 := 1#32
  let v25819 : BitVec 32 := Scalar.muli v24 c1_i32_27766
  let v25820 : BitVec 32 := Scalar.addi c0_i32_27767 v25819
  v25820.toNat
def k0_dev466 (d0 : Dev nD) : Nat :=
  let c0_i32_27814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27813 : BitVec 32 := 1#32
  let v25863 : BitVec 32 := Scalar.muli v13 c1_i32_27813
  let v25864 : BitVec 32 := Scalar.addi c0_i32_27814 v25863
  v25864.toNat
def k0_dev467 (d0 : Dev nD) : Nat :=
  let c0_i32_27861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27860 : BitVec 32 := 1#32
  let v25907 : BitVec 32 := Scalar.muli v24 c1_i32_27860
  let v25908 : BitVec 32 := Scalar.addi c0_i32_27861 v25907
  v25908.toNat
def k0_dev468 (d0 : Dev nD) : Nat :=
  let c0_i32_27908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27907 : BitVec 32 := 1#32
  let v25951 : BitVec 32 := Scalar.muli v13 c1_i32_27907
  let v25952 : BitVec 32 := Scalar.addi c0_i32_27908 v25951
  v25952.toNat
def k0_dev469 (d0 : Dev nD) : Nat :=
  let c0_i32_27955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27954 : BitVec 32 := 1#32
  let v25995 : BitVec 32 := Scalar.muli v24 c1_i32_27954
  let v25996 : BitVec 32 := Scalar.addi c0_i32_27955 v25995
  v25996.toNat
def k0_dev470 (d0 : Dev nD) : Nat :=
  let c0_i32_28002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28001 : BitVec 32 := 1#32
  let v26039 : BitVec 32 := Scalar.muli v13 c1_i32_28001
  let v26040 : BitVec 32 := Scalar.addi c0_i32_28002 v26039
  v26040.toNat
def k0_dev471 (d0 : Dev nD) : Nat :=
  let c0_i32_28049 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28048 : BitVec 32 := 1#32
  let v26083 : BitVec 32 := Scalar.muli v24 c1_i32_28048
  let v26084 : BitVec 32 := Scalar.addi c0_i32_28049 v26083
  v26084.toNat
def k0_dev472 (d0 : Dev nD) : Nat :=
  let c0_i32_28096 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28095 : BitVec 32 := 1#32
  let v26127 : BitVec 32 := Scalar.muli v13 c1_i32_28095
  let v26128 : BitVec 32 := Scalar.addi c0_i32_28096 v26127
  v26128.toNat
def k0_dev473 (d0 : Dev nD) : Nat :=
  let c0_i32_28143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28142 : BitVec 32 := 1#32
  let v26171 : BitVec 32 := Scalar.muli v24 c1_i32_28142
  let v26172 : BitVec 32 := Scalar.addi c0_i32_28143 v26171
  v26172.toNat
def k0_dev474 (d0 : Dev nD) : Nat :=
  let c0_i32_28190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28189 : BitVec 32 := 1#32
  let v26215 : BitVec 32 := Scalar.muli v13 c1_i32_28189
  let v26216 : BitVec 32 := Scalar.addi c0_i32_28190 v26215
  v26216.toNat
def k0_dev475 (d0 : Dev nD) : Nat :=
  let c0_i32_28237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28236 : BitVec 32 := 1#32
  let v26259 : BitVec 32 := Scalar.muli v24 c1_i32_28236
  let v26260 : BitVec 32 := Scalar.addi c0_i32_28237 v26259
  v26260.toNat
def k0_dev476 (d0 : Dev nD) : Nat :=
  let c0_i32_28284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28283 : BitVec 32 := 1#32
  let v26303 : BitVec 32 := Scalar.muli v13 c1_i32_28283
  let v26304 : BitVec 32 := Scalar.addi c0_i32_28284 v26303
  v26304.toNat
def k0_dev477 (d0 : Dev nD) : Nat :=
  let c0_i32_28331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28330 : BitVec 32 := 1#32
  let v26347 : BitVec 32 := Scalar.muli v24 c1_i32_28330
  let v26348 : BitVec 32 := Scalar.addi c0_i32_28331 v26347
  v26348.toNat
def k0_dev478 (d0 : Dev nD) : Nat :=
  let c0_i32_28378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28377 : BitVec 32 := 1#32
  let v26391 : BitVec 32 := Scalar.muli v13 c1_i32_28377
  let v26392 : BitVec 32 := Scalar.addi c0_i32_28378 v26391
  v26392.toNat
def k0_dev479 (d0 : Dev nD) : Nat :=
  let c0_i32_28425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28424 : BitVec 32 := 1#32
  let v26435 : BitVec 32 := Scalar.muli v24 c1_i32_28424
  let v26436 : BitVec 32 := Scalar.addi c0_i32_28425 v26435
  v26436.toNat
def k0_dev480 (d0 : Dev nD) : Nat :=
  let c0_i32_28472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28471 : BitVec 32 := 1#32
  let v26479 : BitVec 32 := Scalar.muli v13 c1_i32_28471
  let v26480 : BitVec 32 := Scalar.addi c0_i32_28472 v26479
  v26480.toNat
def k0_dev481 (d0 : Dev nD) : Nat :=
  let c0_i32_28519 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_28518 : BitVec 32 := 1#32
  let v26523 : BitVec 32 := Scalar.muli v24 c1_i32_28518
  let v26524 : BitVec 32 := Scalar.addi c0_i32_28519 v26523
  v26524.toNat
def k0_dev482 (d0 : Dev nD) : Nat :=
  let c0_i32_28566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28565 : BitVec 32 := 1#32
  let v26567 : BitVec 32 := Scalar.muli v13 c1_i32_28565
  let v26568 : BitVec 32 := Scalar.addi c0_i32_28566 v26567
  v26568.toNat
abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Text.lean ====
module

public import proofs.«01_k».proof.Proof.Gen.KernelIdeal
public import Idealize.ShloMosaic.Lib.Pipeline.Regions

@[expose] public section

/-! The kernel's body as a list of a few kinds of items — a partial product, a send, a wait, an addition —
in the words the printed program uses, and the equation between the two. -/

noncomputable section

namespace Cert.KernelIdeal.Ring

open Idealize.ShloMosaic Idealize.SL.Sem
open Cert.KernelIdeal.Shapes1.Facts₀ Cert.KernelIdeal.K0.Facts₀ Cert.KernelIdeal.Facts₀

universe v

variable {F : FTy → Type} [FloatOps F]

/-! ## The words of the addresses -/

/-- The device's position on the ring, as a word. -/
def pw (d : Dev nD) : BitVec 32 := Scalar.remsi (Scalar.divsi (Dev.word d) 1#32) 16#32

/-- The remainder by 16 rounded towards minus infinity, as the program spells it. -/
def fm (u : BitVec 32) : BitVec 32 :=
  Scalar.select
    (Scalar.andi
      (Scalar.xori
        (Scalar.cmpi .slt (Scalar.remsi u (Scalar.select (Scalar.cmpi .eq 16#32 0#32) 1#32 16#32)) 0#32)
        (Scalar.cmpi .slt (Scalar.select (Scalar.cmpi .eq 16#32 0#32) 1#32 16#32) 0#32))
      (Scalar.cmpi .ne (Scalar.remsi u (Scalar.select (Scalar.cmpi .eq 16#32 0#32) 1#32 16#32)) 0#32))
    (Scalar.addi (Scalar.remsi u (Scalar.select (Scalar.cmpi .eq 16#32 0#32) 1#32 16#32))
      (Scalar.select (Scalar.cmpi .eq 16#32 0#32) 1#32 16#32))
    (Scalar.remsi u (Scalar.select (Scalar.cmpi .eq 16#32 0#32) 1#32 16#32))

/-- One step of a position: backwards in direction 0, forwards in direction 1. -/
def mv (b : Fin 2) (u k : BitVec 32) : BitVec 32 := bif b.val == 0 then Scalar.subi u k else Scalar.addi u k

/-- The neighbour direction `b` sends to: the next device in direction 0, the one before in direction 1. -/
def tgtN (d : Dev nD) (b : Fin 2) : Nat :=
  bif b.val == 0 then (Scalar.addi 0#32 (Scalar.muli (fm (Scalar.addi (pw d) 1#32)) 1#32)).toNat
  else (Scalar.addi 0#32 (Scalar.muli (fm (Scalar.subi (pw d) 1#32)) 1#32)).toNat

theorem tgtN_lt (d : Dev nD) (b : Fin 2) : tgtN d b < nD := by revert d b; decide +kernel

/-- The neighbour direction `b` sends to. -/
def tgtW (d : Dev nD) (b : Fin 2) : Dev nD := ⟨tgtN d b, tgtN_lt d b⟩

/-- The first column of sub-block `s` of direction `b`. -/
def col (b : Fin 2) (s : Fin 8) : Nat := 1024 * b.val + 128 * s.val

theorem col_le (b : Fin 2) (s : Fin 8) : col b s + 128 ≤ 2048 := by unfold col; omega

/-- The rows hop `h` of the first phase sends, in direction `b`. -/
def rowS (d : Dev nD) (b : Fin 2) (h : Fin 15) : Nat :=
  (Scalar.muli (fm (mv b (pw d) (BitVec.ofNat 32 h.val))) 128#32).toNat
/-- The rows hop `h` of the first phase adds to, in direction `b`. -/
def rowA (d : Dev nD) (b : Fin 2) (h : Fin 15) : Nat :=
  (Scalar.indexCast (Scalar.muli (fm (mv b (mv b (pw d) (BitVec.ofNat 32 h.val)) 1#32)) 128#32)).toNat
/-- The rows hop `t` of the second phase sends, in direction `b`. -/
def rowG (d : Dev nD) (b : Fin 2) (t : Fin 15) : Nat :=
  (Scalar.muli (fm (mv b (bif b.val == 0 then Scalar.addi (pw d) 1#32 else Scalar.subi (pw d) 1#32)
    (BitVec.ofNat 32 t.val))) 128#32).toNat
/-- The rows of partial product `j`, in direction `b`. -/
def rowP (d : Dev nD) (b : Fin 2) (j : Fin 15) : Nat :=
  (Scalar.indexCast (Scalar.muli (fm (mv b (pw d) (BitVec.ofNat 32 j.val))) 128#32)).toNat
/-- The rows of the first partial product: the device's own. -/
def row0 (d : Dev nD) : Nat := (Scalar.indexCast (Scalar.muli (pw d) 128#32)).toNat

theorem rowS_le : ∀ (d : Dev nD) (b : Fin 2) (h : Fin 15), rowS d b h + 128 ≤ 2048 := by decide +kernel
theorem rowA_le : ∀ (d : Dev nD) (b : Fin 2) (h : Fin 15), rowA d b h + 128 ≤ 2048 := by decide +kernel
theorem rowG_le : ∀ (d : Dev nD) (b : Fin 2) (h : Fin 15), rowG d b h + 128 ≤ 2048 := by decide +kernel
theorem rowP_le : ∀ (d : Dev nD) (b : Fin 2) (h : Fin 15), rowP d b h + 128 ≤ 2048 := by decide +kernel
theorem row0_le : ∀ (d : Dev nD), row0 d + 128 ≤ 2048 := by decide +kernel

/-- A 128 × 128 block of the 2048 × 2048 result lies inside it. -/
theorem inbO {r c : Nat} (hr : r + 128 ≤ 2048) (hc : c + 128 ≤ 2048) :
    ∀ a, (![r, c] : Fin 2 → Nat) a + S128x128.size a ≤ S2048x2048.size a := fun a => by
  fin_cases a
  · exact hr
  · exact hc
/-- A 128 × 2048 row block of the 2048 × 2048 result lies inside it. -/
theorem inbP {r : Nat} (hr : r + 128 ≤ 2048) :
    ∀ a, (![r, 0] : Fin 2 → Nat) a + S128x2048.size a ≤ S2048x2048.size a := fun a => by
  fin_cases a
  · exact hr
  · exact Nat.le_refl 2048
/-- A 128 × 128 row block of the device's 2048 × 128 columns lies inside them. -/
theorem inbX {r : Nat} (hr : r + 128 ≤ 2048) :
    ∀ a, (![r, 0] : Fin 2 → Nat) a + S128x128.size a ≤ S2048x128.size a := fun a => by
  fin_cases a
  · exact hr
  · exact Nat.le_refl 128
/-- A slot of the landing scratch lies inside it. -/
theorem inbC (h : Fin 15) (b : Fin 2) (s : Fin 8) :
    ∀ a, (![h.val, b.val, s.val, 0, 0] : Fin 5 → Nat) a + S1x1x1x128x128.size a ≤ S15x2x8x128x128.size a := fun a => by
  fin_cases a
  · exact h.isLt
  · exact b.isLt
  · exact s.isLt
  · exact Nat.le_refl 128
  · exact Nat.le_refl 128
/-- A place of a semaphore array lies inside it. -/
theorem inbS (h : Fin 15) (b : Fin 2) (s : Fin 8) :
    ∀ a, (![h.val, b.val, s.val] : Fin 3 → Nat) a + S1x1x1.size a ≤ S15x2x8.size a := fun a => by
  fin_cases a
  · exact h.isLt
  · exact b.isLt
  · exact s.isLt

/-! ## The operands -/

section Operands

variable (arg0 : Memref sig .tc .vmem S2048x128 .f32) (arg1 : Memref sig .tc .vmem S128x2048 .f32)
  (arg2 : Memref sig .tc .vmem S2048x2048 .f32) (arg3 : Memref sig .tc .vmem S15x2x8x128x128 .f32)
  (sa ra : DmaSems sig S15x2x8)

/-- A 128 × 128 block of the result. -/
def oM {r c : Nat} (hr : r + 128 ≤ 2048) (hc : c + 128 ≤ 2048) : Memref sig .tc .vmem S128x128 .f32 :=
  arg2.slice (Rect.unit (s := S2048x2048) ![r, c] S128x128.size (inbO hr hc)) (fun _ => rfl)
/-- A slot of the landing scratch. -/
def cM (h : Fin 15) (b : Fin 2) (s : Fin 8) : Memref sig .tc .vmem S128x128 .f32 :=
  (arg3.slice (Rect.unit (s := S15x2x8x128x128) ![h.val, b.val, s.val, 0, 0] S1x1x1x128x128.size (inbC h b s)) (fun _ => rfl)).squeeze
    S128x128 squeezes_S1x1x1x128x128_S128x128
/-- A place of a semaphore array. -/
def sM (h : Fin 15) (b : Fin 2) (s : Fin 8) : DmaSem sig :=
  ((sa.slice (Rect.unit (s := S15x2x8) ![h.val, b.val, s.val] S1x1x1.size (inbS h b s))).squeeze S_ squeezes_S1x1x1_S_).sem

abbrev TcProg (F : FTy → Type) [FloatOps F] := Prog (TpuEff nD τ sig (Elt F) Λ₀ .tc) PUnit

/-! ## The items -/

/-- A partial product: rows `r` of the left operand times the right operand, stored to rows `r` of the result. -/
def gemmI {r : Nat} (hr : r + 128 ≤ 2048) : TcProg F := do
  let a : Vec F S128x128 .f32 ← Prog.lift (.load arg0 (Rect.unit (s := S2048x128) ![r, 0] S128x128.size (inbX hr)).toLoadRect (View.loadsAt_vmem h_S128x128))
  let w : Vec F S128x2048 .f32 ← Prog.lift (.load arg1 (Rect.unit (s := S128x2048) ![0, 0] S128x2048.size inb_S128x2048_S128x2048_0_0).toLoadRect (View.loadsAt_vmem h_S128x2048))
  let _ : Vec F S128x2048 .f32 ← Prog.lift (.load arg2 (Rect.unit (s := S2048x2048) ![r, 0] S128x2048.size (inbP hr)).toLoadRect (View.loadsAt_vmem h_S128x2048))
  Prog.lift (.store arg2 (Rect.unit (s := S2048x2048) ![r, 0] S128x2048.size (inbP hr))
    (matmul dot_S128x128_S128x2048_S128x2048_1_0_0_1_n_n none (shapeCast S128x128 a shapeCasts_S128x128_S128x128)
      (shapeCast S128x2048 w shapeCasts_S128x2048_S128x2048) (constant S128x2048 .f32 0x00000000#32))
    Finset.univ (View.stores_vmem_bits_univ h_S128x2048 rfl) (.inl rfl))

/-- The pointwise activation, as the program spells it. -/
def act (a : FVec F S128x128 .f32) : FVec F S128x128 .f32 :=
  mulf (mulf (broadcast S128x128 (Scalar.ofBits .f32 0x3F000000#32 : F .f32)) a)
    (addf (broadcast S128x128 (Scalar.ofBits .f32 0x3F800000#32 : F .f32))
      (tanh (mulf (broadcast S128x128 (Scalar.ofBits .f32 0x3F4C422A#32 : F .f32))
        (addf a (mulf (mulf (mulf (broadcast S128x128 (Scalar.ofBits .f32 0x3D372713#32 : F .f32)) a) a) a)))))

/-- Adding a landed slot to a block of the result, and `f` of the sum stored there. -/
def accI (f : FVec F S128x128 .f32 → FVec F S128x128 .f32) {r c : Nat} (hr : r + 128 ≤ 2048) (hc : c + 128 ≤ 2048)
    (h : Fin 15) (b : Fin 2) (s : Fin 8) : TcProg F := do
  let a : Vec F S128x128 .f32 ← Prog.lift (.load arg2 (Rect.unit (s := S2048x2048) ![r, c] S128x128.size (inbO hr hc)).toLoadRect (View.loadsAt_vmem h_S128x128))
  let w : Vec F S1x1x1x128x128 .f32 ← Prog.lift (.load arg3 (Rect.unit (s := S15x2x8x128x128) ![h.val, b.val, s.val, 0, 0] S1x1x1x128x128.size (inbC h b s)).toLoadRect (View.loadsAt_vmem h_S1x1x1x128x128))
  let _ : Vec F S128x128 .f32 ← Prog.lift (.load arg2 (Rect.unit (s := S2048x2048) ![r, c] S128x128.size (inbO hr hc)).toLoadRect (View.loadsAt_vmem h_S128x128))
  Prog.lift (.store arg2 (Rect.unit (s := S2048x2048) ![r, c] S128x128.size (inbO hr hc))
    (f (addf (shapeCast S128x128 a shapeCasts_S128x128_S128x128) (shapeCast S128x128 w shapeCasts_S1x1x1x128x128_S128x128)))
    Finset.univ (View.stores_vmem_bits_univ h_S128x128 rfl) (.inl rfl))

/-- A send of the first phase: a block of the result into the neighbour's scratch slot. -/
def sendI (n : Dev nD) {r c : Nat} (hr : r + 128 ≤ 2048) (hc : c + 128 ≤ 2048) (h : Fin 15) (b : Fin 2) (s : Fin 8) : TcProg F :=
  Prog.lift (.enqueueDma (oM arg2 hr hc) (.remote (Dev.tc n) (cM arg3 h b s) (.dma (sM sa h b s))) (.dma (sM ra h b s))
    (View.wordExact_bits rfl) ((View.wordExact_bits rfl).reshape _ _) ⟨⟨rfl, Or.inl rfl⟩, trivial⟩)
/-- A send of the second phase: a block of the result into the same block of the neighbour's. -/
def castI (n : Dev nD) {r c : Nat} (hr : r + 128 ≤ 2048) (hc : c + 128 ≤ 2048) (h : Fin 15) (b : Fin 2) (s : Fin 8) : TcProg F :=
  Prog.lift (.enqueueDma (oM arg2 hr hc) (.remote (Dev.tc n) (oM arg2 hr hc) (.dma (sM sa h b s))) (.dma (sM ra h b s))
    (View.wordExact_bits rfl) (View.wordExact_bits rfl) ⟨⟨rfl, Or.inl rfl⟩, trivial⟩)
/-- The wait for a landed slot of the scratch. -/
def recvI {r c : Nat} (hr : r + 128 ≤ 2048) (hc : c + 128 ≤ 2048) (h : Fin 15) (b : Fin 2) (s : Fin 8) : TcProg F :=
  Prog.lift (.waitDma2 (sM ra h b s) (oM arg2 hr hc) (cM arg3 h b s) (View.wordExact_bits rfl) ((View.wordExact_bits rfl).reshape _ _))
/-- The wait for a send of the first phase to have left. -/
def leftI {r c : Nat} (hr : r + 128 ≤ 2048) (hc : c + 128 ≤ 2048) (h : Fin 15) (b : Fin 2) (s : Fin 8) : TcProg F :=
  Prog.lift (.waitDma2 (sM sa h b s) (cM arg3 h b s) (oM arg2 hr hc) ((View.wordExact_bits rfl).reshape _ _) (View.wordExact_bits rfl))
/-- A wait of the second phase, on either of its semaphores. -/
def castW {r c : Nat} (hr : r + 128 ≤ 2048) (hc : c + 128 ≤ 2048) (h : Fin 15) (b : Fin 2) (s : Fin 8) : TcProg F :=
  Prog.lift (.waitDma2 (sM sa h b s) (oM arg2 hr hc) (oM arg2 hr hc) (View.wordExact_bits rfl) (View.wordExact_bits rfl))

end Operands

/-! ## The lists -/

section Lists

variable (arg0 : Memref sig .tc .vmem S2048x128 .f32) (arg1 : Memref sig .tc .vmem S128x2048 .f32)
  (arg2 : Memref sig .tc .vmem S2048x2048 .f32) (arg3 : Memref sig .tc .vmem S15x2x8x128x128 .f32)
  (arg4 arg5 arg6 arg7 : DmaSems sig S15x2x8)

def subs : List (Fin 8) := [0, 1, 2, 3, 4, 5, 6, 7]
def hops : List (Fin 15) := [0, 1, 2, 3, 4, 5, 6, 7, 8, 9, 10, 11, 12, 13, 14]

/-- The barrier, the first partial product and the first sends. -/
def headL (d : Dev nD) : List (TcProg F) :=
  [semSignalWord (tgtW d 1) (SemArray.scalar (sig.barrier 0 rfl) : Sems sig S_).sem 1#32,
   semSignalWord (tgtW d 0) (SemArray.scalar (sig.barrier 0 rfl) : Sems sig S_).sem 1#32,
   gemmI arg0 arg1 arg2 (row0_le d),
   semWaitWord (SemArray.scalar (sig.barrier 0 rfl) : Sems sig S_).sem 2#32]
  ++ subs.map (fun s => sendI arg2 arg3 arg4 arg5 (tgtW d 0) (rowS_le d 0 0) (col_le 0 s) 0 0 s)
  ++ subs.map (fun s => sendI arg2 arg3 arg4 arg5 (tgtW d 1) (rowS_le d 1 0) (col_le 1 s) 0 1 s)

/-- The other fifteen partial products. -/
def prodL (d : Dev nD) : List (TcProg F) :=
  ([1, 2, 3, 4, 5, 6, 7] : List (Fin 15)).flatMap (fun j => [gemmI arg0 arg1 arg2 (rowP_le d 0 j), gemmI arg0 arg1 arg2 (rowP_le d 1 j)])
  ++ [gemmI arg0 arg1 arg2 (rowP_le d 0 8)]

/-- One step of the first phase: its wait, the addition, the next send, and the wait for its own send. -/
def stepR (d : Dev nD) (h : Fin 15) (s : Fin 8) (b : Fin 2) : List (TcProg F) :=
  if hh : h.val + 1 < 15 then
    [recvI arg2 arg3 arg5 (rowS_le d b h) (col_le b s) h b s,
     accI arg2 arg3 id (rowA_le d b h) (col_le b s) h b s,
     sendI arg2 arg3 arg4 arg5 (tgtW d b) (rowS_le d b ⟨h.val + 1, hh⟩) (col_le b s) ⟨h.val + 1, hh⟩ b s,
     leftI arg2 arg3 arg4 (rowS_le d b h) (col_le b s) h b s]
  else
    [recvI arg2 arg3 arg5 (rowS_le d b h) (col_le b s) h b s,
     accI arg2 arg3 act (rowA_le d b h) (col_le b s) h b s,
     castI arg2 arg6 arg7 (tgtW d b) (rowG_le d b 0) (col_le b s) 0 b s,
     leftI arg2 arg3 arg4 (rowS_le d b h) (col_le b s) h b s]

/-- One step of the second phase: its wait, the next send, and the wait for its own send. -/
def stepG (d : Dev nD) (t : Fin 15) (s : Fin 8) (b : Fin 2) : List (TcProg F) :=
  if ht : t.val + 1 < 15 then
    [castW arg2 arg7 (rowG_le d b t) (col_le b s) t b s,
     castI arg2 arg6 arg7 (tgtW d b) (rowG_le d b ⟨t.val + 1, ht⟩) (col_le b s) ⟨t.val + 1, ht⟩ b s,
     castW arg2 arg6 (rowG_le d b t) (col_le b s) t b s]
  else
    [castW arg2 arg7 (rowG_le d b t) (col_le b s) t b s,
     castW arg2 arg6 (rowG_le d b t) (col_le b s) t b s]

/-- A hop's sixteen steps. -/
def roundL (st : Fin 8 → Fin 2 → List (TcProg F)) : List (TcProg F) := subs.flatMap (fun s => st s 0 ++ st s 1)

/-- The whole body after the device's id is read. -/
def bodyL (d : Dev nD) : List (TcProg F) :=
  headL arg0 arg1 arg2 arg3 arg4 arg5 d ++ (prodL arg0 arg1 arg2 d ++
    (hops.flatMap (fun h => roundL (stepR arg2 arg3 arg4 arg5 arg6 arg7 d h)) ++
      hops.flatMap (fun t => roundL (stepG arg2 arg6 arg7 d t))))

end Lists

/-! ## The printed body, stretch by stretch -/

section Stretch

variable {E : Type → Type v} {α β : Type}

/-- The items of a list one after another, then `q`. -/
def seqK (l : List (Prog E PUnit)) (q : Prog E α) : Prog E α := l.foldr (fun x r => x >>= fun _ => r) q

theorem seqK_append (l m : List (Prog E PUnit)) (q : Prog E α) : seqK (l ++ m) q = seqK l (seqK m q) := by
  simp only [seqK, List.foldr_append]

theorem seqK_bind (l : List (Prog E PUnit)) (q : Prog E α) (k : α → Prog E β) : (seqK l q >>= k) = seqK l (q >>= k) := by
  induction l with
  | nil => rfl
  | cons x l ih => simp only [seqK, List.foldr_cons, bind_assoc] at ih ⊢; rw [ih]

/-- A program that runs the items of a list and returns something. -/
def Goes (p : Prog E α) (l : List (Prog E PUnit)) : Prop := ∃ r, p = seqK l (pure r)

theorem Goes.bind {p : Prog E α} {k : α → Prog E β} {l m : List (Prog E PUnit)} (hp : Goes p l)
    (hk : ∀ r, Goes (k r) m) : Goes (p >>= k) (l ++ m) := by
  obtain ⟨r, rfl⟩ := hp
  obtain ⟨r', h⟩ := hk r
  exact ⟨r', by rw [seqK_bind, seqK_append]; exact congrArg (seqK l) h⟩

end Stretch

section Windows

variable (arg0 : Memref sig .tc .vmem S2048x128 .f32) (harg0 : arg0.IsWhole) (arg1 : Memref sig .tc .vmem S128x2048 .f32) (harg1 : arg1.IsWhole)
  (arg2 : Memref sig .tc .vmem S2048x2048 .f32) (harg2 : arg2.IsWhole) (arg3 : Memref sig .tc .vmem S15x2x8x128x128 .f32) (harg3 : arg3.IsWhole)
  (arg4 arg5 arg6 arg7 : DmaSems sig S15x2x8)

/-- Items `i` to `i + n` of the body. -/
def cut (d : Dev nD) (i n : Nat) : List (TcProg F) := ((bodyL arg0 arg1 arg2 arg3 arg4 arg5 arg6 arg7 d).drop i).take n

/-- The rows the next accumulation of hop `h` of direction `b` names, as the program carries them. -/
def crow (b : Fin 2) (u k : BitVec 32) : BitVec 32 := Scalar.muli (fm (mv b (mv b u k) 1#32)) 128#32

theorem w963 : k0_part963 (F := F) arg0 harg0 arg1 harg1 arg2 harg2 arg3 harg3 arg4 arg5 arg6 arg7
    = Prog.lift .deviceId >>= fun d => seqK (cut arg0 arg1 arg2 arg3 arg4 arg5 arg6 arg7 d 0 99)
      (pure ⟨d, pw d, fm (Scalar.subi (pw d) 1#32), fm (Scalar.addi (pw d) 1#32), crow 0 (pw d) 1#32, Scalar.subi (pw d) 1#32⟩) := by
  chain_rfl

theorem w964 (d : Dev nD) (v2 : BitVec 32) (v13 : BitVec 32) (v24 : BitVec 32) (a : BitVec 32) (b : BitVec 32) : Goes (k0_part964 (F := F) arg0 harg0 arg1 harg1 arg2 harg2 arg3 harg3 arg4 arg5 arg6 arg7 d v2 v13 v24 a b)
    (cut arg0 arg1 arg2 arg3 arg4 arg5 arg6 arg7 d 99 100) := by
  refine ⟨crow 1 v2 2#32, ?_⟩
  chain_rfl

theorem w965 (d : Dev nD) (v2 v13 v24 a : BitVec 32) :
    Goes (k0_part965 (F := F) arg0 harg0 arg1 harg1 arg2 harg2 arg3 harg3 arg4 arg5 arg6 arg7 d v2 v13 v24 a >>= fun ⟨b, v, w⟩ => k0_part966 arg0 harg0 arg1 harg1 arg2 harg2 arg3 harg3 arg4 arg5 arg6 arg7 d v2 v13 v24 b v w)
      (cut arg0 arg1 arg2 arg3 arg4 arg5 arg6 arg7 d 199 202) := by
  refine ⟨⟨fm (Scalar.addi v2 6#32), 128#32⟩, ?_⟩
  chain_rfl

theorem w967 (d : Dev nD) (v2 : BitVec 32) (v13 : BitVec 32) (v24 : BitVec 32) (a : BitVec 32) (b : BitVec 32) : Goes (k0_part967 (F := F) arg0 harg0 arg1 harg1 arg2 harg2 arg3 harg3 arg4 arg5 arg6 arg7 d v2 v13 v24 a b)
    (cut arg0 arg1 arg2 arg3 arg4 arg5 arg6 arg7 d 401 101) := by
  refine ⟨⟨⟩, ?_⟩
  chain_rfl

theorem w968 (d : Dev nD) (v2 : BitVec 32) (v13 : BitVec 32) (v24 : BitVec 32) : Goes (k0_part968 (F := F) arg0 harg0 arg1 harg1 arg2 harg2 arg3 harg3 arg4 arg5 arg6 arg7 d v2 v13 v24)
    (cut arg0 arg1 arg2 arg3 arg4 arg5 arg6 arg7 d 502 101) := by
  refine ⟨⟨Scalar.subi (Scalar.subi v2 8#32) 1#32, 16#32, 0#32⟩, ?_⟩
  chain_rfl

theorem w969 (d : Dev nD) (v2 : BitVec 32) (v13 : BitVec 32) (v24 : BitVec 32) (a : BitVec 32) (b : BitVec 32) (c : BitVec 32) : Goes (k0_part969 (F := F) arg0 harg0 arg1 harg1 arg2 harg2 arg3 harg3 arg4 arg5 arg6 arg7 d v2 v13 v24 a b c)
    (cut arg0 arg1 arg2 arg3 arg4 arg5 arg6 arg7 d 603 100) := by
  refine ⟨⟨crow 1 v2 10#32, Scalar.select (Scalar.cmpi .eq 16#32 0#32) 1#32 16#32, Scalar.remsi (Scalar.addi v2 10#32) (Scalar.select (Scalar.cmpi .eq 16#32 0#32) 1#32 16#32), 0#32⟩, ?_⟩
  chain_rfl

theorem w970 (d : Dev nD) (v2 : BitVec 32) (v13 : BitVec 32) (v24 : BitVec 32) (a : BitVec 32) (b : BitVec 32) (c : BitVec 32) (e : BitVec 32) : Goes (k0_part970 (F := F) arg0 harg0 arg1 harg1 arg2 harg2 arg3 harg3 arg4 arg5 arg6 arg7 d v2 v13 v24 a b c e)
    (cut arg0 arg1 arg2 arg3 arg4 arg5 arg6 arg7 d 703 100) := by
  refine ⟨crow 0 v2 12#32, ?_⟩
  chain_rfl

theorem w971 (d : Dev nD) (v2 : BitVec 32) (v13 : BitVec 32) (v24 : BitVec 32) (a : BitVec 32) : Goes (k0_part971 (F := F) arg0 harg0 arg1 harg1 arg2 harg2 arg3 harg3 arg4 arg5 arg6 arg7 d v2 v13 v24 a)
    (cut arg0 arg1 arg2 arg3 arg4 arg5 arg6 arg7 d 803 102) := by
  refine ⟨14#32, ?_⟩
  chain_rfl

theorem w972 (d : Dev nD) (v2 : BitVec 32) (v13 : BitVec 32) (v24 : BitVec 32) (a : BitVec 32) : Goes (k0_part972 (F := F) arg0 harg0 arg1 harg1 arg2 harg2 arg3 harg3 arg4 arg5 arg6 arg7 d v2 v13 v24 a)
    (cut arg0 arg1 arg2 arg3 arg4 arg5 arg6 arg7 d 905 94) := by
  refine ⟨⟨⟩, ?_⟩
  chain_rfl

theorem w973 (d : Dev nD) (v2 : BitVec 32) (v13 : BitVec 32) (v24 : BitVec 32) : Goes (k0_part973 (F := F) arg0 harg0 arg1 harg1 arg2 harg2 arg3 harg3 arg4 arg5 arg6 arg7 d v2 v13 v24)
    (cut arg0 arg1 arg2 arg3 arg4 arg5 arg6 arg7 d 999 116) := by
  refine ⟨⟨Scalar.subi (Scalar.addi v2 1#32) 2#32, 16#32, Scalar.cmpi .eq 16#32 0#32, 1#32⟩, ?_⟩
  chain_rfl

theorem w974 (d : Dev nD) (v2 : BitVec 32) (v13 : BitVec 32) (v24 : BitVec 32) (a : BitVec 32) (b : BitVec 32) (c : BitVec 1) (e : BitVec 32) : Goes (k0_part974 (F := F) arg0 harg0 arg1 harg1 arg2 harg2 arg3 harg3 arg4 arg5 arg6 arg7 d v2 v13 v24 a b c e)
    (cut arg0 arg1 arg2 arg3 arg4 arg5 arg6 arg7 d 1115 114) := by
  refine ⟨⟨⟩, ?_⟩
  chain_rfl

theorem w975 (d : Dev nD) (v2 : BitVec 32) (v13 : BitVec 32) (v24 : BitVec 32) : Goes (k0_part975 (F := F) arg0 harg0 arg1 harg1 arg2 harg2 arg3 harg3 arg4 arg5 arg6 arg7 d v2 v13 v24)
    (cut arg0 arg1 arg2 arg3 arg4 arg5 arg6 arg7 d 1229 115) := by
  refine ⟨⟨⟩, ?_⟩
  chain_rfl

theorem w976 (d : Dev nD) (v2 : BitVec 32) (v13 : BitVec 32) (v24 : BitVec 32) : Goes (k0_part976 (F := F) arg0 harg0 arg1 harg1 arg2 harg2 arg3 harg3 arg4 arg5 arg6 arg7 d v2 v13 v24)
    (cut arg0 arg1 arg2 arg3 arg4 arg5 arg6 arg7 d 1344 115) := by
  refine ⟨⟨⟩, ?_⟩
  chain_rfl

theorem w977 (d : Dev nD) (v2 : BitVec 32) (v13 : BitVec 32) (v24 : BitVec 32) : Goes (k0_part977 (F := F) arg0 harg0 arg1 harg1 arg2 harg2 arg3 harg3 arg4 arg5 arg6 arg7 d v2 v13 v24)
    (cut arg0 arg1 arg2 arg3 arg4 arg5 arg6 arg7 d 1459 115) := by
  refine ⟨⟨⟩, ?_⟩
  chain_rfl

theorem w978 (d : Dev nD) (v2 : BitVec 32) (v13 : BitVec 32) (v24 : BitVec 32) : Goes (k0_part978 (F := F) arg0 harg0 arg1 harg1 arg2 harg2 arg3 harg3 arg4 arg5 arg6 arg7 d v2 v13 v24)
    (cut arg0 arg1 arg2 arg3 arg4 arg5 arg6 arg7 d 1574 119) := by
  refine ⟨⟨⟩, ?_⟩
  chain_rfl

theorem wTail (d : Dev nD) (v2 v13 v24 : BitVec 32) :
    Goes (α := PUnit) (k0_part961 (F := F) arg0 harg0 arg1 harg1 arg2 harg2 arg3 harg3 arg4 arg5 arg6 arg7 d v2 v13 v24 >>= fun v => k0_part962 arg0 harg0 arg1 harg1 arg2 harg2 arg3 harg3 arg4 arg5 arg6 arg7 d v2 v13 v >>= fun _ =>
        seqK [castW arg2 arg7 (rowG_le d 1 14) (col_le 1 7) 14 1 7, castW arg2 arg6 (rowG_le d 1 14) (col_le 1 7) 14 1 7] (pure (⟨⟩ : PUnit)))
      ((bodyL arg0 arg1 arg2 arg3 arg4 arg5 arg6 arg7 d).drop 1693) := by
  refine ⟨⟨⟩, ?_⟩
  chain_rfl

theorem bodyL_cuts (d : Dev nD) : bodyL (F := F) arg0 arg1 arg2 arg3 arg4 arg5 arg6 arg7 d
    = cut arg0 arg1 arg2 arg3 arg4 arg5 arg6 arg7 d 0 99 ++ (cut arg0 arg1 arg2 arg3 arg4 arg5 arg6 arg7 d 99 100 ++ (cut arg0 arg1 arg2 arg3 arg4 arg5 arg6 arg7 d 199 202 ++ (cut arg0 arg1 arg2 arg3 arg4 arg5 arg6 arg7 d 401 101 ++ (cut arg0 arg1 arg2 arg3 arg4 arg5 arg6 arg7 d 502 101 ++
      (cut arg0 arg1 arg2 arg3 arg4 arg5 arg6 arg7 d 603 100 ++ (cut arg0 arg1 arg2 arg3 arg4 arg5 arg6 arg7 d 703 100 ++ (cut arg0 arg1 arg2 arg3 arg4 arg5 arg6 arg7 d 803 102 ++ (cut arg0 arg1 arg2 arg3 arg4 arg5 arg6 arg7 d 905 94 ++ (cut arg0 arg1 arg2 arg3 arg4 arg5 arg6 arg7 d 999 116 ++
      (cut arg0 arg1 arg2 arg3 arg4 arg5 arg6 arg7 d 1115 114 ++ (cut arg0 arg1 arg2 arg3 arg4 arg5 arg6 arg7 d 1229 115 ++ (cut arg0 arg1 arg2 arg3 arg4 arg5 arg6 arg7 d 1344 115 ++ (cut arg0 arg1 arg2 arg3 arg4 arg5 arg6 arg7 d 1459 115 ++ (cut arg0 arg1 arg2 arg3 arg4 arg5 arg6 arg7 d 1574 119 ++
      (bodyL arg0 arg1 arg2 arg3 arg4 arg5 arg6 arg7 d).drop 1693)))))))))))))) := by
  have h : ∀ (L : List (TcProg F)) (i n : Nat), (L.drop i).take n ++ L.drop (i + n) = L.drop i := fun L i n => by
    rw [← List.drop_drop, List.take_append_drop]
  unfold cut
  iterate 15 rw [h]
  rfl

/-- The printed body is the list's run. -/
theorem body_eq : cc0_body (F := F) arg0 harg0 arg1 harg1 arg2 harg2 arg3 harg3 arg4 arg5 arg6 arg7
      = Prog.lift .deviceId >>= fun d => seqK (bodyL arg0 arg1 arg2 arg3 arg4 arg5 arg6 arg7 d) (pure ⟨⟩) := by
  unfold cc0_body
  rw [w963, bind_assoc]
  refine congrArg (Prog.bind (Prog.lift TpuEff.deviceId)) (funext fun d => ?_)
  rw [seqK_bind, pure_bind, bodyL_cuts, seqK_append]
  refine congrArg (seqK _) ?_
  refine Exists.elim (p := fun r : PUnit => _ = seqK _ (pure r)) ?_ (fun r h => h)
  change Goes _ _
  refine (w964 (F := F) arg0 harg0 arg1 harg1 arg2 harg2 arg3 harg3 arg4 arg5 arg6 arg7 d _ _ _ _ _).bind fun a => ?_
  have key : ∀ (K : (Σ' (v6731 : BitVec 32), BitVec 32) → TcProg F) (m : List (TcProg F)) (v2 v13 v24 : BitVec 32), (∀ r, Goes (K r) m) →
      Goes (k0_part965 (F := F) arg0 harg0 arg1 harg1 arg2 harg2 arg3 harg3 arg4 arg5 arg6 arg7 d v2 v13 v24 a >>= fun ⟨b, v, w⟩ => k0_part966 arg0 harg0 arg1 harg1 arg2 harg2 arg3 harg3 arg4 arg5 arg6 arg7 d v2 v13 v24 b v w >>= K)
        (cut arg0 arg1 arg2 arg3 arg4 arg5 arg6 arg7 d 199 202 ++ m) := fun K m v2 v13 v24 hK => by
    have h := (w965 (F := F) arg0 harg0 arg1 harg1 arg2 harg2 arg3 harg3 arg4 arg5 arg6 arg7 d v2 v13 v24 a).bind hK
    rw [bind_assoc] at h
    exact h
  refine key _ _ _ _ _ fun r => ?_
  refine (w967 (F := F) arg0 harg0 arg1 harg1 arg2 harg2 arg3 harg3 arg4 arg5 arg6 arg7 d _ _ _ _ _).bind fun _ => ?_
  refine (w968 (F := F) arg0 harg0 arg1 harg1 arg2 harg2 arg3 harg3 arg4 arg5 arg6 arg7 d _ _ _).bind fun r => ?_
  refine (w969 (F := F) arg0 harg0 arg1 harg1 arg2 harg2 arg3 harg3 arg4 arg5 arg6 arg7 d _ _ _ _ _ _).bind fun r => ?_
  refine (w970 (F := F) arg0 harg0 arg1 harg1 arg2 harg2 arg3 harg3 arg4 arg5 arg6 arg7 d _ _ _ _ _ _ _).bind fun r => ?_
  refine (w971 (F := F) arg0 harg0 arg1 harg1 arg2 harg2 arg3 harg3 arg4 arg5 arg6 arg7 d _ _ _ _).bind fun r => ?_
  refine (w972 (F := F) arg0 harg0 arg1 harg1 arg2 harg2 arg3 harg3 arg4 arg5 arg6 arg7 d _ _ _ _).bind fun _ => ?_
  refine (w973 (F := F) arg0 harg0 arg1 harg1 arg2 harg2 arg3 harg3 arg4 arg5 arg6 arg7 d _ _ _).bind fun r => ?_
  refine (w974 (F := F) arg0 harg0 arg1 harg1 arg2 harg2 arg3 harg3 arg4 arg5 arg6 arg7 d _ _ _ _ _ _ _).bind fun _ => ?_
  refine (w975 (F := F) arg0 harg0 arg1 harg1 arg2 harg2 arg3 harg3 arg4 arg5 arg6 arg7 d _ _ _).bind fun _ => ?_
  refine (w976 (F := F) arg0 harg0 arg1 harg1 arg2 harg2 arg3 harg3 arg4 arg5 arg6 arg7 d _ _ _).bind fun _ => ?_
  refine (w977 (F := F) arg0 harg0 arg1 harg1 arg2 harg2 arg3 harg3 arg4 arg5 arg6 arg7 d _ _ _).bind fun _ => ?_
  refine (w978 (F := F) arg0 harg0 arg1 harg1 arg2 harg2 arg3 harg3 arg4 arg5 arg6 arg7 d _ _ _).bind fun _ => ?_
  exact wTail (F := F) arg0 harg0 arg1 harg1 arg2 harg2 arg3 harg3 arg4 arg5 arg6 arg7 d _ _ _

end Windows

end Cert.KernelIdeal.Ring
-- ==== Proof.Ring.lean ====
module

public import proofs.«01_k».proof.Proof.Text
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

/-! The ring: which chunk a message carries, where it lands, and the semaphore cells it uses. -/

noncomputable section

namespace Cert.KernelIdeal.Ring

open Idealize.ShloMosaic Idealize.ShloMosaic.TcCoe
open Idealize.SL.Sem

variable {F : FTy → Type} [FloatOps F]

/-! ## Chunks -/

set_option backward.proofsInPublic true in
/-- The neighbour direction `b` sends to. -/
def nbr (p : Dev nD) (b : Fin 2) : Dev nD := ⟨(p.val + bif b.val == 0 then 1 else 15) % 16, Nat.mod_lt _ (by decide)⟩

theorem tgtW_eq : ∀ (p : Dev nD) (b : Fin 2), tgtW p b = nbr p b := by decide +kernel

/-- The other direction. -/
def flip (b : Fin 2) : Fin 2 := 1 - b

theorem flip_flip : ∀ b : Fin 2, flip (flip b) = b := by decide
theorem flip_ne : ∀ b : Fin 2, flip b ≠ b := by decide
theorem nbr_flip : ∀ (p : Dev nD) (b : Fin 2), nbr (nbr p b) (flip b) = p := by decide +kernel
theorem nbr_flip' : ∀ (p : Dev nD) (b : Fin 2), nbr (nbr p (flip b)) b = p := by decide +kernel

/-- The devices moved one place in direction `b`. -/
def ringE (b : Fin 2) : Dev nD ≃ Dev nD := ⟨fun p => nbr p b, fun p => nbr p (flip b), fun p => nbr_flip p b, fun p => nbr_flip' p b⟩

/-- The chunk message `n` of device `p` carries in direction `b`. -/
def chunk (p : Dev nD) (b : Fin 2) (n : Nat) : Nat := (bif b.val == 0 then p.val + 15 * n else p.val + n) % 16

theorem chunk_lt (p : Dev nD) (b : Fin 2) (n : Nat) : chunk p b n < 16 := Nat.mod_lt _ (by decide)
theorem chunk_le (p : Dev nD) (b : Fin 2) (n : Nat) : 128 * chunk p b n + 128 ≤ 2048 := by have := chunk_lt p b n; omega

theorem chunk_nbr (p : Dev nD) (b : Fin 2) (n : Nat) : chunk (nbr p b) b (n + 1) = chunk p b n := by
  have hp : p.val < 16 := p.isLt
  unfold chunk nbr
  fin_cases b <;> simp <;> omega
theorem chunk_add (p : Dev nD) (b : Fin 2) (n : Nat) : chunk p b (n + 16) = chunk p b n := by
  unfold chunk; fin_cases b <;> simp <;> omega
theorem chunk_flip (p : Dev nD) (b : Fin 2) (n : Nat) (hn : n ≤ 16) : chunk p (flip b) n = chunk p b (16 - n) := by
  have hp : p.val < 16 := p.isLt
  unfold chunk flip
  fin_cases b <;> simp <;> omega

theorem rowS_eq : ∀ (d : Dev nD) (b : Fin 2) (h : Fin 15), rowS d b h = 128 * chunk d b h.val := by decide +kernel
theorem rowA_eq : ∀ (d : Dev nD) (b : Fin 2) (h : Fin 15), rowA d b h = 128 * chunk d b (h.val + 1) := by decide +kernel
theorem rowG_eq : ∀ (d : Dev nD) (b : Fin 2) (h : Fin 15), rowG d b h = 128 * chunk d b (15 + h.val) := by decide +kernel
theorem rowP_eq : ∀ (d : Dev nD) (b : Fin 2) (h : Fin 15), rowP d b h = 128 * chunk d b h.val := by decide +kernel
theorem row0_eq : ∀ (d : Dev nD) (b : Fin 2), row0 d = 128 * chunk d b 0 := by decide +kernel

/-! ## The operands -/

abbrev xW : Memref sig .tc .vmem S2048x128 .f32 := Memref.whole cc0_stg0_0
abbrev wW : Memref sig .tc .vmem S128x2048 .f32 := Memref.whole cc0_stg1_0
abbrev oW : Memref sig .tc .vmem S2048x2048 .f32 := Memref.whole cc0_stg2_0
abbrev cW : Memref sig .tc .vmem S15x2x8x128x128 .f32 := Memref.whole cc0_scratch0

/-- The place of message `n` in the arrays of fifteen. -/
def slot (n : Nat) : Fin 15 := ⟨n % 15, Nat.mod_lt _ (by decide)⟩

/-- The chunk message `n` of device `p` carries in direction `b`, as one of the sixteen. -/
def ck (p : Dev nD) (b : Fin 2) (n : Nat) : Fin 16 := ⟨chunk p b n, chunk_lt p b n⟩

theorem row_le (j : Fin 16) : 128 * j.val + 128 ≤ 2048 := by omega

theorem ck_nbr (p : Dev nD) (b : Fin 2) (n : Nat) : ck (nbr p b) b (n + 1) = ck p b n := Fin.ext (chunk_nbr p b n)
theorem ck_add (p : Dev nD) (b : Fin 2) (n : Nat) : ck p b (n + 16) = ck p b n := Fin.ext (chunk_add p b n)

/-- Block `(j, b, s)` of the result: rows of chunk `j`, columns of sub-block `s` of direction `b`. -/
abbrev blkM (j : Fin 16) (b : Fin 2) (s : Fin 8) : Memref sig .tc .vmem S128x128 .f32 := oM oW (row_le j) (col_le b s)
/-- The scratch slot message `n` lands in. -/
abbrev slotM (n : Nat) (b : Fin 2) (s : Fin 8) : Memref sig .tc .vmem S128x128 .f32 := cM cW (slot n) b s

/-! ## The cells -/

abbrev barS : Sem sig := (SemArray.scalar (sig.barrier 0 rfl) : Sems sig S_).sem
/-- The semaphore of the sender's side of message `n`. -/
def sndS (n : Nat) (b : Fin 2) (s : Fin 8) : DmaSem sig := sM (if n < 15 then cc0_scratch1 else cc0_scratch3) (slot n) b s
/-- The semaphore of the receiver's side of message `n`. -/
def rcvS (n : Nat) (b : Fin 2) (s : Fin 8) : DmaSem sig := sM (if n < 15 then cc0_scratch2 else cc0_scratch4) (slot n) b s

/-- A semaphore's side, message, direction and sub-block, if it is one of the ring's. -/
def dec (q : DmaSem sig) : Option (Fin 2 × Nat × Fin 2 × Fin 8) :=
  if q.val < 3 then none
  else some (Fin.ofNat 2 ((q.val - 3) / 240), 15 * ((q.val - 3) / 480) + (q.val - 3) % 240 / 16, Fin.ofNat 2 ((q.val - 3) / 8), Fin.ofNat 8 (q.val - 3))

theorem dec_snd' : ∀ (n : Fin 30) (b : Fin 2) (s : Fin 8), dec (sndS n.val b s) = some (0, n.val, b, s) := by decide +kernel
theorem dec_rcv' : ∀ (n : Fin 30) (b : Fin 2) (s : Fin 8), dec (rcvS n.val b s) = some (1, n.val, b, s) := by decide +kernel
theorem dec_snd {n : Nat} (hn : n < 30) (b : Fin 2) (s : Fin 8) : dec (sndS n b s) = some (0, n, b, s) := dec_snd' ⟨n, hn⟩ b s
theorem dec_rcv {n : Nat} (hn : n < 30) (b : Fin 2) (s : Fin 8) : dec (rcvS n b s) = some (1, n, b, s) := dec_rcv' ⟨n, hn⟩ b s

abbrev barCell (c : Dev nD) : GSem nD τ sig := ((c : Thread nD τ), .reg barS)
abbrev sndCell (c : Dev nD) (n : Nat) (b : Fin 2) (s : Fin 8) : GSem nD τ sig := ((c : Thread nD τ), .dma (sndS n b s))
abbrev rcvCell (c : Dev nD) (n : Nat) (b : Fin 2) (s : Fin 8) : GSem nD τ sig := ((c : Thread nD τ), .dma (rcvS n b s))

/-- One block's credit. -/
abbrev NN : Nat := (oM oW (r := 0) (c := 0) (by decide) (by decide)).view.dmaCredit
theorem NN_pos : 0 < NN := View.dmaCredit_pos _ (by decide)
theorem credit_o {r c : Nat} (hr : r + 128 ≤ 2048) (hc : c + 128 ≤ 2048) : (oM oW hr hc).view.dmaCredit = NN := rfl
theorem credit_c (h : Fin 15) (b : Fin 2) (s : Fin 8) : (cM cW h b s).view.dmaCredit = NN := rfl

end Cert.KernelIdeal.Ring
-- ==== Proof.Proto.lean ====
module

public import proofs.«01_k».proof.Proof.Ring

@[expose] public section

/-! The protocol: what each message carries, what its two semaphore cells hand over, and what each device owes. -/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

/-- A whole result's contents. -/
abbrev OBuf (F : FTy → Type) [FloatOps F] : Type := (cc0_stg2_0 : Ref sig .tc).ty.Contents (Elt F)

/-- An index of a block. -/
def y0 : S128x128.Idx := fun a => ⟨0, by revert a; decide⟩

/-- The sum of two values. -/
def add1 (u v : F .f32) : F .f32 := addf (s := S128x128) (fun _ => u) (fun _ => v) y0
/-- The activation of one value. -/
def act1 (u : F .f32) : F .f32 := act (fun _ => u) y0

theorem addf_at (u v : FVec F S128x128 .f32) (y : S128x128.Idx) : addf u v y = add1 (u y) (v y) := rfl
theorem act_at (u : FVec F S128x128 .f32) (y : S128x128.Idx) : act u y = act1 (u y) := rfl

/-- What message `n` of device `p` holds in direction `b`, element by element, when device `q`'s partial product is `X q`:
a running sum over the first fifteen, the activation of the last sum at the fifteenth, and after that the message passed on. -/
def acc (X : Dev nD → OBuf F) : Nat → Dev nD → Fin 2 → OBuf F
  | 0, p, _ => X p
  | n + 1, p, b =>
    if n + 1 < 15 then fun i => add1 (X p i) (acc X n (nbr p (flip b)) b i)
    else if n + 1 = 15 then fun i => act1 (add1 (X p i) (acc X n (nbr p (flip b)) b i))
    else acc X n (nbr p (flip b)) b

variable (X : Dev nD → OBuf F)

theorem acc_add {n : Nat} (hn : n + 1 < 15) (p : Dev nD) (b : Fin 2) :
    acc X (n + 1) p b = fun i => add1 (X p i) (acc X n (nbr p (flip b)) b i) := by rw [acc, if_pos hn]
theorem acc_act (p : Dev nD) (b : Fin 2) :
    acc X 15 p b = fun i => act1 (add1 (X p i) (acc X 14 (nbr p (flip b)) b i)) := by
  rw [acc, if_neg (by decide), if_pos rfl]
theorem acc_pass {n : Nat} (hn : 15 ≤ n) (p : Dev nD) (b : Fin 2) : acc X (n + 1) p b = acc X n (nbr p (flip b)) b := by
  rw [acc, if_neg (by omega), if_neg (by omega)]

/-! ## Held blocks -/

/-- Device `q` holds block `(j, b, s)` of its result, at contents `f` of the block's buffer. -/
def oBlk' (q : Dev nD) (j : Fin 16) (b : Fin 2) (s : Fin 8) (f : Buf (Elt F) ((blkM j b s).view.loc (q : Thread nD τ))) : sProp 𝕄 :=
  (blkM j b s).view.loc (q : Thread nD τ) ↦[(blkM j b s).view.set]{fullShare} f
/-- Device `q` holds block `(j, b, s)` of its result, at contents `f`. -/
def oBlk (q : Dev nD) (j : Fin 16) (b : Fin 2) (s : Fin 8) (f : OBuf F) : sProp 𝕄 := oBlk' q j b s f
/-- Device `q` holds the slot of message `n`, at contents `g`. -/
def cBlk (q : Dev nD) (n : Nat) (b : Fin 2) (s : Fin 8) (g : Buf (Elt F) ((slotM n b s).view.loc (q : Thread nD τ))) : sProp 𝕄 :=
  (slotM n b s).view.loc (q : Thread nD τ) ↦[(slotM n b s).view.set]{fullShare} g

instance oBlk'_storable (q : Dev nD) (j : Fin 16) (b : Fin 2) (s : Fin 8) (f) :
    BI.Storable (upEmb : UEmb _ 𝕄) (oBlk' (F := F) q j b s f) := by unfold oBlk'; infer_instance
instance oBlk_storable (q : Dev nD) (j : Fin 16) (b : Fin 2) (s : Fin 8) (f : OBuf F) :
    BI.Storable (upEmb : UEmb _ 𝕄) (oBlk (F := F) q j b s f) := oBlk'_storable q j b s f
instance cBlk_storable (q : Dev nD) (n : Nat) (b : Fin 2) (s : Fin 8) (g) :
    BI.Storable (upEmb : UEmb _ 𝕄) (cBlk (F := F) q n b s g) := by unfold cBlk; infer_instance

/-- The block a message gives up besides its own: its sender's use of a block two messages back, the other way. -/
def rel (p : Dev nD) (b : Fin 2) (n : Nat) (s : Fin 8) : sProp 𝕄 :=
  if 2 ≤ n ∧ n ≤ 16 then iprop(∃ f : OBuf F, oBlk p (ck p (flip b) (n - 2)) (flip b) s f) else iprop(emp)
/-- Where message `n` of device `p` lands. -/
def dst (p : Dev nD) (b : Fin 2) (n : Nat) (s : Fin 8) : sProp 𝕄 :=
  if n < 15 then iprop(∃ g, cBlk (nbr p b) n b s g) else iprop(∃ f : OBuf F, oBlk (nbr p b) (ck p b n) b s f)
/-- Message `n` of device `p` has landed at device `q`. -/
def landed (q p : Dev nD) (n : Nat) (b : Fin 2) (s : Fin 8) : sProp 𝕄 :=
  if n < 15 then iprop(∃ g, ⌜(slotM n b s).view.read (Elt F) g = (blkM (ck p b n) b s).view.read (Elt F) (acc X n p b)⌝ ∗ cBlk q n b s g)
  else oBlk q (ck p b n) b s (acc X n p b)

/-- What the sender's cell of message `n` gives back: the block it was read from. -/
def sndPay (p : Dev nD) (n : Nat) (b : Fin 2) (s : Fin 8) : sProp 𝕄 := oBlk p (ck p b n) b s (acc X n p b)
/-- What the receiver's cell of message `n` hands over. -/
def rcvPay (q : Dev nD) (n : Nat) (b : Fin 2) (s : Fin 8) : sProp 𝕄 :=
  iprop(landed X q (nbr q (flip b)) n b s ∗ rel (nbr q (flip b)) b n s)
/-- What the neighbour in direction `b` hands over at the barrier: the scratch slots of that direction. -/
def barPay (q : Dev nD) (b : Fin 2) : sProp 𝕄 :=
  bigSep Finset.univ fun s : Fin 8 => bigSep (Finset.range 15) fun n => iprop(∃ g, cBlk (F := F) (nbr q b) n b s g)

instance rel_storable (p : Dev nD) (b : Fin 2) (n : Nat) (s : Fin 8) : BI.Storable (upEmb : UEmb _ 𝕄) (rel (F := F) p b n s) := by
  unfold rel; split <;> infer_instance
instance landed_storable (q p : Dev nD) (n : Nat) (b : Fin 2) (s : Fin 8) : BI.Storable (upEmb : UEmb _ 𝕄) (landed X q p n b s) := by
  unfold landed; split <;> infer_instance
instance sndPay_storable (p : Dev nD) (n : Nat) (b : Fin 2) (s : Fin 8) : BI.Storable (upEmb : UEmb _ 𝕄) (sndPay X p n b s) := by
  unfold sndPay; infer_instance
instance rcvPay_storable (q : Dev nD) (n : Nat) (b : Fin 2) (s : Fin 8) : BI.Storable (upEmb : UEmb _ 𝕄) (rcvPay X q n b s) := by
  unfold rcvPay; infer_instance
instance barPay_storable (q : Dev nD) (b : Fin 2) : BI.Storable (upEmb : UEmb _ 𝕄) (barPay (F := F) q b) := by
  unfold barPay; infer_instance

/-! ## The schedule -/

/-- What a semaphore hands over, by the side and message it stands for. -/
def dmaPay (q : Dev nD) (x : Option (Fin 2 × Nat × Fin 2 × Fin 8)) : sProp 𝕄 :=
  match x with
  | none => iprop(emp)
  | some (k, n, b, s) => if k = 0 then sndPay X q n b s else rcvPay X q n b s

instance dmaPay_storable (q : Dev nD) (x) : BI.Storable (upEmb : UEmb _ 𝕄) (dmaPay X q x) := by
  unfold dmaPay; split
  · infer_instance
  · split <;> infer_instance

/-- The contributors of a semaphore. -/
def semDuties : SemLoc sig → Finset (Fin 2)
  | .reg _ => Finset.univ
  | .dma q => if (dec q).isSome then {0} else ∅
/-- The units of one contribution. -/
def semAmount : SemLoc sig → Nat
  | .reg _ => 1
  | .dma _ => NN
/-- What a contribution hands over. -/
def semPay (q : Dev nD) (d : Fin 2) : SemLoc sig → sProp 𝕄
  | .reg _ => barPay q d
  | .dma x => dmaPay X q (dec x)

/-- One round: a barrier cell hears from both neighbours, a message's two cells once each. -/
def Rd : Rounds.Schedule (GSem nD τ sig) (Fin 2) 𝕄 where
  duties g r := if r = 0 ∧ g.1.2 = .tc then semDuties g.2 else ∅
  unitless _ := False
  amount g _ _ := semAmount g.2
  payload g _ d := semPay X g.1.1 d g.2
  amount_pos g _ _ _ := by
    rcases h : g.2 with s | s
    · exact Nat.one_pos
    · exact NN_pos

instance Rd_storable (g : GSem nD τ sig) (r : ℕ) (d : Fin 2) : BI.Storable (upEmb : UEmb _ 𝕄) ((Rd X).payload g r d) := by
  show BI.Storable upEmb (semPay X g.1.1 d g.2)
  unfold semPay; split <;> infer_instance

section Sched
variable (c : Dev nD) {n : Nat} (hn : n < 30) (b : Fin 2) (s : Fin 8) (d : Fin 2)

theorem duties_tc (sm : SemLoc sig) : (Rd X).duties ((c : Thread nD τ), sm) 0 = semDuties sm := by
  dsimp only [Rd]; exact if_pos ⟨rfl, rfl⟩
theorem duties_bar : (Rd X).duties (barCell c) 0 = Finset.univ := duties_tc X c _
include hn in
theorem duties_snd : (Rd X).duties (sndCell c n b s) 0 = {0} :=
  (duties_tc X c _).trans (by dsimp only [semDuties]; rw [dec_snd hn]; rfl)
include hn in
theorem duties_rcv : (Rd X).duties (rcvCell c n b s) 0 = {0} :=
  (duties_tc X c _).trans (by dsimp only [semDuties]; rw [dec_rcv hn]; rfl)
theorem duties_later (g : GSem nD τ sig) : ∀ r, 1 ≤ r → (Rd X).duties g r = ∅ :=
  fun r hr => by dsimp only [Rd]; exact if_neg fun h => by omega

theorem expect_bar : (Rd X).expect (barCell c) 0 = 2 := by
  unfold Schedule.expect Schedule.amountOf
  rw [duties_bar]; rfl
include hn in
theorem expect_snd : (Rd X).expect (sndCell c n b s) 0 = NN := by
  unfold Schedule.expect Schedule.amountOf; rw [duties_snd X c hn, Finset.sum_singleton]; rfl
include hn in
theorem expect_rcv : (Rd X).expect (rcvCell c n b s) 0 = NN := by
  unfold Schedule.expect Schedule.amountOf; rw [duties_rcv X c hn, Finset.sum_singleton]; rfl

theorem payload_bar : (Rd X).payload (barCell c) 0 d = barPay c d := rfl
include hn in
theorem payload_snd : (Rd X).payload (sndCell c n b s) 0 d = sndPay X c n b s := by
  show dmaPay X c (dec (sndS n b s)) = _; rw [dec_snd hn]; rfl
include hn in
theorem payload_rcv : (Rd X).payload (rcvCell c n b s) 0 d = rcvPay X c n b s := by
  show dmaPay X c (dec (rcvS n b s)) = _; rw [dec_rcv hn]; rfl

theorem rest_bar : bigSep ((Rd X).duties (barCell c) 0 \ ∅) (fun d => (Rd X).payload (barCell c) 0 d) = iprop(barPay c 0 ∗ barPay c 1) := by
  rw [Finset.sdiff_empty, duties_bar, bigSep_univ_eq_bigSepL [0, 1] (by decide) (by decide), bigSepL_cons_cons, bigSepL_singleton]
  rfl
include hn in
theorem rest_snd : bigSep ((Rd X).duties (sndCell c n b s) 0 \ ∅) (fun d => (Rd X).payload (sndCell c n b s) 0 d) = sndPay X c n b s := by
  rw [Finset.sdiff_empty, duties_snd X c hn, bigSep_singleton, payload_snd X c hn]
include hn in
theorem rest_rcv : bigSep ((Rd X).duties (rcvCell c n b s) 0 \ ∅) (fun d => (Rd X).payload (rcvCell c n b s) 0 d) = rcvPay X c n b s := by
  rw [Finset.sdiff_empty, duties_rcv X c hn, bigSep_singleton, payload_rcv X c hn]

end Sched

/-! ## What each device owes; the levels -/

/-- A message: its number, direction and sub-block. -/
abbrev Msg : Type := Nat × Fin 2 × Fin 8

/-- What device `p` owes its neighbour for one message. -/
def due (p : Dev nD) (x : Msg) : CellTallies nD τ sig Unit := tallyAt (rcvCell (nbr p x.2.1) x.1 x.2.1 x.2.2) () NN
/-- What device `p` owes for the messages of a list. -/
def dues (p : Dev nD) (l : List Msg) : CellTallies nD τ sig Unit := (l.map (due p)).sum

theorem dues_cons (p : Dev nD) (x : Msg) (l : List Msg) : dues p (x :: l) = dues p l + due p x := by
  unfold dues; rw [List.map_cons, List.sum_cons, add_comm]

theorem dues_pos {p : Dev nD} {g : GSem nD τ sig} {u : Unit} (l : List Msg) (h : 0 < dues p l g u) :
    ∃ x ∈ l, g = rcvCell (nbr p x.2.1) x.1 x.2.1 x.2.2 := by
  induction l with
  | nil => exact absurd h (Nat.lt_irrefl 0)
  | cons x l ih =>
    rw [dues_cons] at h
    rcases Pipeline.add_pos_cases h with h | h
    · obtain ⟨y, hy, e⟩ := ih h; exact ⟨y, List.mem_cons_of_mem _ hy, e⟩
    · refine ⟨x, List.mem_cons_self, ?_⟩
      unfold due at h
      rw [tallyAt_apply] at h
      by_contra hne
      rw [if_neg fun h' => hne h'.1] at h
      exact Nat.lt_irrefl 0 h

def L (g : GSem nD τ sig) : Finset Unit := if g.1.2 = .tc then {()} else ∅
/-- The barrier at 1, the receiver's cell of message `n` at `n + 2`, everything else at 0. -/
def lv (g : GSem nD τ sig) (_ : Unit) : ℕ :=
  match g.2 with
  | .reg _ => 1
  | .dma q => match dec q with
    | none => 0
    | some (k, n, _, _) => if k = 0 then 0 else n + 2

theorem L_of_ne (g : GSem nD τ sig) (h : g.1.2 ≠ .tc) : L g = ∅ := if_neg h
theorem L_tc (c : Dev nD) (sm : SemLoc sig) : L ((c : Thread nD τ), sm) = {()} := if_pos rfl

theorem lv_snd (c : Dev nD) {n : Nat} (hn : n < 30) (b : Fin 2) (s : Fin 8) : lv (sndCell c n b s) () = 0 := by
  unfold lv; dsimp only; rw [dec_snd hn]; rfl
theorem lv_rcv (c : Dev nD) {n : Nat} (hn : n < 30) (b : Fin 2) (s : Fin 8) : lv (rcvCell c n b s) () = n + 2 := by
  unfold lv; dsimp only; rw [dec_rcv hn]; rfl

/-- A wait on a cell below every receiver's cell of the messages still owed. -/
theorem mayWait_dues (c : Dev nD) (sm : SemLoc sig) (l : List Msg)
    (h : ∀ x ∈ l, x.1 < 30 ∧ lv ((c : Thread nD τ), sm) () < x.1 + 2) :
    (levAts L lv : sProp 𝕄) ⊢ MayWait (c : Thread nD τ) sm () (dues c l) :=
  Pipeline.mayWait_of_levAts (by rw [L_tc]; exact Finset.mem_singleton_self _) fun g u hg => by
    obtain ⟨x, hx, rfl⟩ := dues_pos l hg
    obtain ⟨h1, h2⟩ := h x hx
    refine ⟨by rw [L_tc]; exact Finset.mem_singleton_self _, ?_⟩
    rw [lv_rcv _ h1]; exact h2

end Cert.KernelIdeal.Ring
-- ==== Proof.Item.lean ====
module

public import proofs.«01_k».proof.Proof.Proto
public import Idealize.ShloMosaic.Lib.Pipeline.Value

@[expose] public section

/-! One rule for each kind of item of the body: a partial product, a send, a wait, an addition. -/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Shapes1.Facts₀ Cert.KernelIdeal.K0.Facts₀ Cert.KernelIdeal.Facts₀

variable {F : FTy → Type} [FloatOps F]

local notation "𝕄" => MT nD τ sig Unit (Elt F) ℕ UU ℕ

abbrev 𝒱₀ : Variants := Variants.none

variable (X : Dev nD → OBuf F)

/-! ## The cells' invariants -/

/-- The ring's cells of one device: the barrier's, and each message's two. -/
abbrev Cx : Type := Option (Fin 2 × Fin 30 × Fin 2 × Fin 8)

/-- The semaphore of a cell. -/
def csem : Cx → SemLoc sig
  | none => .reg barS
  | some (k, n, b, s) => .dma (if k = 0 then sndS n.val b s else rcvS n.val b s)
/-- A cell of a device. -/
abbrev kcell (ck : Dev nD × Cx) : GSem nD τ sig := ((ck.1 : Thread nD τ), csem ck.2)

/-- What every device may use at any time: every cell's invariant, that its round has been reached, and the levels. -/
def env (K : Dev nD × Cx → ℕ) : sProp 𝕄 :=
  iprop((bigSep Finset.univ fun ck : Dev nD × Cx => cellInv ER (Rd X) (K ck) (kcell ck))
    ∗ (bigSep Finset.univ fun ck : Dev nD × Cx => reached ER (kcell ck) 0) ∗ levAts L lv)

instance env_persistent (K : Dev nD × Cx → ℕ) : BI.Persistent (env X K) := by unfold env; infer_instance

theorem env_inv' (K : Dev nD × Cx → ℕ) (ck : Dev nD × Cx) :
    (bigSep Finset.univ fun ck : Dev nD × Cx => (cellInv ER (Rd X) (K ck) (kcell ck) : sProp 𝕄)) ⊢ cellInv ER (Rd X) (K ck) (kcell ck) :=
  bigSep_elim (Finset.mem_univ ck)
omit [FloatOps F] in
theorem env_reached' (ck : Dev nD × Cx) :
    (bigSep Finset.univ fun ck : Dev nD × Cx => (reached ER (kcell ck) 0 : sProp 𝕄)) ⊢ reached ER (kcell ck) 0 :=
  bigSep_elim (Finset.mem_univ ck)
theorem env_inv (K : Dev nD × Cx → ℕ) (ck : Dev nD × Cx) : env X K ⊢ cellInv ER (Rd X) (K ck) (kcell ck) := by
  unfold env; iintro ⟨H, -, -⟩; iapply (env_inv' X K ck); iexact H
theorem env_reached (K : Dev nD × Cx → ℕ) (ck : Dev nD × Cx) : env X K ⊢ reached ER (kcell ck) 0 := by
  unfold env; iintro ⟨-, H, -⟩; iapply (env_reached' ck); iexact H
theorem env_wait (K : Dev nD × Cx → ℕ) (p : Dev nD) (sm : SemLoc sig) (l : List Msg)
    (h : ∀ x ∈ l, x.1 < 30 ∧ lv ((p : Thread nD τ), sm) () < x.1 + 2) : env X K ⊢ MayWait (p : Thread nD τ) sm () (dues p l) := by
  unfold env; iintro ⟨-, -, H⟩; iapply (mayWait_dues (F := F) p sm l h); iexact H

variable (K : Dev nD × Cx → ℕ)

abbrev kBar (c : Dev nD) : ℕ := K (c, none)
abbrev kSnd (c : Dev nD) {n : Nat} (hn : n < 30) (b : Fin 2) (s : Fin 8) : ℕ := K (c, some (0, ⟨n, hn⟩, b, s))
abbrev kRcv (c : Dev nD) {n : Nat} (hn : n < 30) (b : Fin 2) (s : Fin 8) : ℕ := K (c, some (1, ⟨n, hn⟩, b, s))

theorem inv_bar (c : Dev nD) : env X K ⊢ cellInv ER (Rd X) (kBar K c) (barCell c) := env_inv X K (c, none)
theorem inv_snd (c : Dev nD) {n : Nat} (hn : n < 30) (b : Fin 2) (s : Fin 8) :
    env X K ⊢ cellInv ER (Rd X) (kSnd K c hn b s) (sndCell c n b s) := env_inv X K (c, some (0, ⟨n, hn⟩, b, s))
theorem inv_rcv (c : Dev nD) {n : Nat} (hn : n < 30) (b : Fin 2) (s : Fin 8) :
    env X K ⊢ cellInv ER (Rd X) (kRcv K c hn b s) (rcvCell c n b s) := env_inv X K (c, some (1, ⟨n, hn⟩, b, s))
theorem reached_bar (c : Dev nD) : env X K ⊢ reached ER (barCell c) 0 := env_reached X K (c, none)
theorem reached_snd (c : Dev nD) {n : Nat} (hn : n < 30) (b : Fin 2) (s : Fin 8) :
    env X K ⊢ reached ER (sndCell c n b s) 0 := env_reached X K (c, some (0, ⟨n, hn⟩, b, s))
theorem reached_rcv (c : Dev nD) {n : Nat} (hn : n < 30) (b : Fin 2) (s : Fin 8) :
    env X K ⊢ reached ER (rcvCell c n b s) 0 := env_reached X K (c, some (1, ⟨n, hn⟩, b, s))

/-! ## Sends -/

section Send

variable (p : Dev nD) {n : Nat} (b : Fin 2) (s : Fin 8) (l : List Msg) (W : Waits sig Unit)

/-- What a device hands in to start message `n`. -/
def startPre : sProp 𝕄 :=
  iprop(oBlk p (ck p b n) b s (acc X n p b) ∗ dst p b n s ∗ rel p b n s
    ∗ dutyTok ER (sndCell p n b s) 0 (0 : Fin 2) ∗ dutyTok ER (rcvCell (nbr p b) n b s) 0 (0 : Fin 2))

/-- A send, into whatever place holds the landed message afterwards. -/
theorem wp_start (hn : n < 30) {d' : Dev nD} (hd : d' = nbr p b) {sS rS : DmaSem sig} (hS : sS = sndS n b s) (hR : rS = rcvS n b s)
    {sM : Memref sig .tc .vmem S128x128 .f32} {dM : Memref sig (Dev.tc d' : Thread nD τ).2.kind .vmem S128x128 .f32} (hsM : sM = blkM (ck p b n) b s)
    (hpre : dst (F := F) p b n s ⊢ iprop(∃ g, dM.view.loc (Dev.tc d' : Thread nD τ) ↦[dM.view.set]{fullShare} g))
    (hpay : ∀ g, iprop(dM.view.loc (Dev.tc d' : Thread nD τ) ↦[dM.view.set]{fullShare}
        dM.view.write (Elt F) g ((blkM (ck p b n) b s).view.read (Elt F) (acc X n p b)) Finset.univ) ⊢ landed X (nbr p b) p n b s)
    {hsc : dM.view.ref.isScScratch = false}
    {hsrc : sM.view.WordExact} {hdst : dM.view.WordExact}
    {hsem : DmaTarget.Typed .vmem (.dma rS) (.remote (Dev.tc d' : Thread nD τ) dM (.dma sS) hsc)} (hN : dM.view.dmaCredit = NN)
    {α : Type} {Q : α → sProp 𝕄} {k : PUnit → Prog (TpuEff nD τ sig (Elt F) Λ₀ .tc) α} :
    iprop(env X K ∗ startPre X p (n := n) b s ∗ (∃ W, owes (p : Thread nD τ) (dues p ((n, b, s) :: l)) W))
      ⊢ iprop(((cred (tallyAt (sndCell p n b s) () NN) ∗ (∃ W, owes (p : Thread nD τ) (dues p l) W)) -∗ wp frame (wpE (defs₀ (F := F)) 𝒱₀ (p : Thread nD τ) none) Set.univ (k ⟨⟩) Q)
          -∗ wp frame (wpE (defs₀ (F := F)) 𝒱₀ (p : Thread nD τ) none) Set.univ
              (.op (.enqueueDma sM (.remote (Dev.tc d' : Thread nD τ) dM (.dma sS) hsc) (.dma rS) hsrc hdst hsem) k) Q) := by
  subst hd hS hR hsM
  have hN' : dM.view.amount (.dma (rcvS n b s)) = NN := hN
  unfold startPre
  iintro ⟨#HE, ⟨Hsrc, Hdst, Hrel, Ht1, Ht2⟩, ⟨%W, HO⟩⟩ Hk
  unfold oBlk oBlk'
  ihave Hd := hpre $$ Hdst
  icases Hd with ⟨%g, Hd⟩
  iapply (Rounds.wp_send_pointsTo_with 𝒱₀ ER (Rd X) (p : Thread nD τ) none (κ₁ := kSnd K p hn b s) (κ₂ := kRcv K (nbr p b) hn b s)
    (r₁ := 0) (r₂ := 0) (d₁ := (0 : Fin 2)) (d₂ := (0 : Fin 2)) (fd := g) (F := rel p b n s)
    (by rw [duties_snd X p hn]; exact Finset.mem_singleton_self _) (by rw [duties_rcv X (nbr p b) hn]; exact Finset.mem_singleton_self _)
    () () NN hN' (by rfl) (by rfl) (dues p l) (dues_cons p (n, b, s) l) (W := W)
    (by rw [payload_snd X p hn]; exact BI.Entails.refl _)
    (by
      rw [payload_rcv X (nbr p b) hn]
      unfold rcvPay
      rw [nbr_flip]
      exact sep_mono_left (hpay g))) $$ [Hsrc Hd Hrel Ht1 Ht2 HO]
  · isplitr; · iapply (inv_snd X K p hn b s); iexact HE
    isplitr; · iapply (inv_rcv X K (nbr p b) hn b s); iexact HE
    isplitl [Hsrc]; · iexact Hsrc
    isplitl [Hd Hrel]
    · isplitl [Hd] <;> iassumption
    isplitl [HO]; · iexact HO
    isplitl [Ht1]; · iexact Ht1
    isplitr; · iapply (reached_snd X K p hn b s); iexact HE
    isplitl [Ht2]; · iexact Ht2
    iapply (reached_rcv X K (nbr p b) hn b s); iexact HE
  iintro ⟨Hc, HO⟩
  iapply Hk
  isplitl [Hc]; · iexact Hc
  iexists W; iexact HO

theorem pre_low (hn : n < 15) :
    dst (F := F) p b n s ⊢ iprop(∃ g, (slotM n b s).view.loc (Dev.tc (nbr p b) : Thread nD τ) ↦[(slotM n b s).view.set]{fullShare} g) := by
  unfold dst cBlk; rw [if_pos hn]
theorem pay_low (hn : n < 15) (g) :
    iprop((slotM n b s).view.loc (Dev.tc (nbr p b) : Thread nD τ) ↦[(slotM n b s).view.set]{fullShare}
        (slotM n b s).view.write (Elt F) g ((blkM (ck p b n) b s).view.read (Elt F) (acc X n p b)) Finset.univ) ⊢ landed X (nbr p b) p n b s := by
  unfold landed cBlk; rw [if_pos hn]
  iintro H; iexists _
  isplitr; rotate_left
  · iexact H
  · ipureintro; exact View.read_write_univ _ _
theorem pre_high (hn : ¬ n < 15) :
    dst (F := F) p b n s ⊢ iprop(∃ g, (blkM (ck p b n) b s).view.loc (Dev.tc (nbr p b) : Thread nD τ) ↦[(blkM (ck p b n) b s).view.set]{fullShare} g) := by
  unfold dst oBlk oBlk'; rw [if_neg hn]; exact BI.Entails.refl _
theorem pay_high (hn : ¬ n < 15) (g) :
    iprop((blkM (ck p b n) b s).view.loc (Dev.tc (nbr p b) : Thread nD τ) ↦[(blkM (ck p b n) b s).view.set]{fullShare}
        (blkM (ck p b n) b s).view.write (Elt F) g ((blkM (ck p b n) b s).view.read (Elt F) (acc X n p b)) Finset.univ) ⊢ landed X (nbr p b) p n b s := by
  unfold landed oBlk oBlk'; rw [if_neg hn]
  exact Entails.of_eq (pointsTo_congr fun i hi =>
    (congrFun (View.write_read_eq_piecewise (v := (blkM (ck p b n) b s).view) (Val := Elt F) g (acc X n p b) Finset.univ) i).trans (Finset.piecewise_eq_of_mem _ _ _ hi))

end Send

/-! ## Waits -/

section Wait

variable (p : Dev nD) {n : Nat} (hn : n < 30) (b : Fin 2) (s : Fin 8) (l : List Msg)
include hn

/-- The wait for a message to land: the message, and its cell closed. -/
theorem wp_recv (hl : ∀ x ∈ l, x.1 < 30 ∧ n < x.1) {sm : DmaSem sig} (hsm : sm = rcvS n b s)
    {aM cM' : Memref sig .tc .vmem S128x128 .f32} (hc : cM'.view.dmaCredit = NN) {h1 : aM.view.WordExact} {h2 : cM'.view.WordExact}
    {α : Type} {Q : α → sProp 𝕄} {k : PUnit → Prog (TpuEff nD τ sig (Elt F) Λ₀ .tc) α} :
    iprop(env X K ∗ cred (tallyAt (rcvCell p n b s) () NN) ∗ atPos ER (rcvCell p n b s) 0 ∅ 0 ∗ (∃ W, owes (p : Thread nD τ) (dues p l) W))
      ⊢ iprop(((semVal (rcvCell p n b s) 0 ∗ rcvPay X p n b s ∗ (∃ W, owes (p : Thread nD τ) (dues p l) W)) -∗ wp frame (wpE (defs₀ (F := F)) 𝒱₀ (p : Thread nD τ) none) Set.univ (k ⟨⟩) Q)
          -∗ wp frame (wpE (defs₀ (F := F)) 𝒱₀ (p : Thread nD τ) none) Set.univ (.op (.waitDma2 sm aM cM' h1 h2) k) Q) := by
  subst hsm
  have hm : env X K ⊢ MayWait (p : Thread nD τ) (.dma (rcvS n b s)) () (dues p l) :=
    (env_wait X K p _ l fun x hx => ⟨(hl x hx).1, by rw [lv_rcv p hn]; have := (hl x hx).2; omega⟩)
  iintro ⟨#HE, Hc, Hat, ⟨%W, HO⟩⟩ Hk
  iapply (Rounds.wp_wait_rest_token 𝒱₀ ER (Rd X) (p : Thread nD τ) none (κ := kRcv K p hn b s)
      (wpE_waitDma2_eq 𝒱₀ (p : Thread nD τ) none Set.univ) (Set.mem_univ _) () (O := dues p l) (W := W) (R := 0) (m := 0) (T := ∅)
      (by rw [Nat.zero_add, expect_rcv X p hn, hc])) $$ [Hc HO Hat]
  · isplitr; · iapply (inv_rcv X K p hn b s); iexact HE
    isplitl [Hc]; · rw [hc]; iexact Hc
    isplitl [HO]; · iexact HO
    isplitr
    · iapply hm; iexact HE
    iexact Hat
  iintro ⟨HO, Hat, -, Hpay⟩
  ihave Hp := (Entails.of_eq (rest_rcv X p hn b s)) $$ Hpay
  imod (Rounds.cell_close ER (Rd X) (Set.mem_univ (kRcv K p hn b s)) (fun h => h) (R := 0 + 1) (duties_later X (rcvCell p n b s))) $$ [Hat] with Hz
  · isplitr; · iapply (inv_rcv X K p hn b s); iexact HE
    iexact Hat
  iapply Hk
  isplitl [Hz]; · iexact Hz
  isplitl [Hp]; · iexact Hp
  iexists _; iexact HO

/-- The wait for a message to have left: the block it was read from, and its cell closed. -/
theorem wp_left (hl : ∀ x ∈ l, x.1 < 30) {sm : DmaSem sig} (hsm : sm = sndS n b s)
    {aM cM' : Memref sig .tc .vmem S128x128 .f32} (hc : cM'.view.dmaCredit = NN) {h1 : aM.view.WordExact} {h2 : cM'.view.WordExact}
    {α : Type} {Q : α → sProp 𝕄} {k : PUnit → Prog (TpuEff nD τ sig (Elt F) Λ₀ .tc) α} :
    iprop(env X K ∗ cred (tallyAt (sndCell p n b s) () NN) ∗ atPos ER (sndCell p n b s) 0 ∅ 0 ∗ (∃ W, owes (p : Thread nD τ) (dues p l) W))
      ⊢ iprop(((semVal (sndCell p n b s) 0 ∗ sndPay X p n b s ∗ (∃ W, owes (p : Thread nD τ) (dues p l) W)) -∗ wp frame (wpE (defs₀ (F := F)) 𝒱₀ (p : Thread nD τ) none) Set.univ (k ⟨⟩) Q)
          -∗ wp frame (wpE (defs₀ (F := F)) 𝒱₀ (p : Thread nD τ) none) Set.univ (.op (.waitDma2 sm aM cM' h1 h2) k) Q) := by
  subst hsm
  have hm : env X K ⊢ MayWait (p : Thread nD τ) (.dma (sndS n b s)) () (dues p l) :=
    (env_wait X K p _ l fun x hx => ⟨hl x hx, by rw [lv_snd p hn]; omega⟩)
  iintro ⟨#HE, Hc, Hat, ⟨%W, HO⟩⟩ Hk
  iapply (Rounds.wp_wait_rest_token 𝒱₀ ER (Rd X) (p : Thread nD τ) none (κ := kSnd K p hn b s)
      (wpE_waitDma2_eq 𝒱₀ (p : Thread nD τ) none Set.univ) (Set.mem_univ _) () (O := dues p l) (W := W) (R := 0) (m := 0) (T := ∅)
      (by rw [Nat.zero_add, expect_snd X p hn, hc])) $$ [Hc HO Hat]
  · isplitr; · iapply (inv_snd X K p hn b s); iexact HE
    isplitl [Hc]; · rw [hc]; iexact Hc
    isplitl [HO]; · iexact HO
    isplitr
    · iapply hm; iexact HE
    iexact Hat
  iintro ⟨HO, Hat, -, Hpay⟩
  ihave Hp := (Entails.of_eq (rest_snd X p hn b s)) $$ Hpay
  imod (Rounds.cell_close ER (Rd X) (Set.mem_univ (kSnd K p hn b s)) (fun h => h) (R := 0 + 1) (duties_later X (sndCell p n b s))) $$ [Hat] with Hz
  · isplitr; · iapply (inv_snd X K p hn b s); iexact HE
    iexact Hat
  iapply Hk
  isplitl [Hz]; · iexact Hz
  isplitl [Hp]; · iexact Hp
  iexists _; iexact HO

end Wait

/-! ## Additions -/

section Acc

variable (p : Dev nD) (n : Nat) (b : Fin 2) (s : Fin 8)

/-- The rectangle of a block of the result, and of a slot of the scratch. -/
abbrev oR (j : Fin 16) (b : Fin 2) (s : Fin 8) : Rect S2048x2048 :=
  Rect.unit (s := S2048x2048) ![128 * j.val, col b s] S128x128.size (inbO (row_le j) (col_le b s))
abbrev cR (n : Nat) (b : Fin 2) (s : Fin 8) : Rect S15x2x8x128x128 :=
  Rect.unit (s := S15x2x8x128x128) ![(slot n).val, b.val, s.val, 0, 0] S1x1x1x128x128.size (inbC (slot n) b s)

/-- A scratch buffer's contents. -/
abbrev CBuf (F : FTy → Type) : Type := cc0_scratch0.ty.Contents (Elt F)

/-- Adding what landed to a block: afterwards the block holds `f` of the sum, element by element. -/
theorem wp_accI (j : Fin 16) (f : FVec F S128x128 .f32 → FVec F S128x128 .f32) (f1 : F .f32 → F .f32) (hf : ∀ a y, f a y = f1 (a y)) (A B C : OBuf F)
    (hC : ∀ i, C i = f1 (add1 (A i) (B i))) {r : Nat} {hr : r + 128 ≤ 2048} (e : r = 128 * j.val) {h : Fin 15} (eh : h = slot n)
    (g : CBuf F) (hg : (slotM n b s).view.read (Elt F) g = (blkM j b s).view.read (Elt F) B)
    {α : Type} {Q : α → sProp 𝕄} {k : PUnit → Prog (TpuEff nD τ sig (Elt F) Λ₀ .tc) α} :
    iprop(oBlk p j b s A ∗ cBlk p n b s g)
      ⊢ iprop(((oBlk p j b s C ∗ cBlk p n b s g) -∗ wp frame (wpE (defs₀ (F := F)) 𝒱₀ (p : Thread nD τ) none) Set.univ (k ⟨⟩) Q)
          -∗ wp frame (wpE (defs₀ (F := F)) 𝒱₀ (p : Thread nD τ) none) Set.univ (accI oW cW f hr (col_le b s) h b s >>= k) Q) := by
  subst e eh
  unfold accI
  simp only [Prog.lift, Prog.bind_op, Prog.bind_ret]
  have hO : ∀ f : OBuf F, oBlk p j b s f = ((oW.access (oR j b s)).loc (p : Thread nD τ) ↦[(oW.access (oR j b s)).set]{fullShare} f) := fun _ => rfl
  have hS : (slotM n b s).view.set = (cW.access (cR n b s)).set := View.set_reshape _ _
  have hc : cBlk p n b s g = ((cW.access (cR n b s)).loc (p : Thread nD τ) ↦[(cW.access (cR n b s)).set]{fullShare} g) := by
    unfold cBlk; rw [hS]; rfl
  rw [hO A, hO C, hc]
  iintro ⟨Ho, Hc⟩ Hk
  iapply (wp_load_rect 𝒱₀ (p : Thread nD τ) none Set.univ (m := oW) (r := oR j b s) (Finset.Subset.refl _)) $$ Ho; iintro Ho
  iapply (wp_load_rect 𝒱₀ (p : Thread nD τ) none Set.univ (m := cW) (r := cR n b s) (Finset.Subset.refl _)) $$ Hc; iintro Hc
  iapply (wp_load_rect 𝒱₀ (p : Thread nD τ) none Set.univ (m := oW) (r := oR j b s) (Finset.Subset.refl _)) $$ Ho; iintro Ho
  iapply (wp_store 𝒱₀ (p : Thread nD τ) none Set.univ (m := oW) (r := oR j b s) (Mk := Finset.univ) (S := (oW.access (oR j b s)).set) (Finset.Subset.refl _)) $$ Ho; iintro Ho
  iapply Hk
  isplitl [Ho]
  · have e : ∀ i ∈ (oW.access (oR j b s)).set, (oW.access (oR j b s)).write (Elt F) A
        (f (addf (shapeCast S128x128 ((oW.access (oR j b s)).read (Elt F) A) shapeCasts_S128x128_S128x128)
          (shapeCast S128x128 ((cW.access (cR n b s)).read (Elt F) g) shapeCasts_S1x1x1x128x128_S128x128))) Finset.univ i = C i := by
      intro i hi
      obtain ⟨x, -, rfl⟩ := Finset.mem_map.mp hi
      have hw : shapeCast S128x128 ((cW.access (cR n b s)).read (Elt F) g) shapeCasts_S1x1x1x128x128_S128x128 = (slotM n b s).view.read (Elt F) g := rfl
      rw [View.write_emb_of_mem _ _ (Finset.mem_univ _), hw, hg]
      have h1 : shapeCast S128x128 ((oW.access (oR j b s)).read (Elt F) A) shapeCasts_S128x128_S128x128 = (blkM j b s).view.read (Elt F) A :=
        shapeCast_self _ _
      refine (hf _ x).trans (Eq.trans (congrArg f1 ?_) (hC _).symm)
      rw [h1]; rfl
    ihave H := (Entails.of_eq (pointsTo_congr e)) $$ Ho
    iexact H
  · iexact Hc

end Acc

end Cert.KernelIdeal.Ring
-- ==== Proof.Unit.lean ====
module

public import proofs.«01_k».proof.Proof.Item

@[expose] public section

/-! One step of a lane: the wait for message `n`, what is done with it, the start of message `n + 1`, and the wait for
message `n` to have left. -/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem slot_low (h : Fin 15) : slot h.val = h := Fin.ext (Nat.mod_eq_of_lt h.isLt)
theorem slot_high (h : Fin 15) : slot (15 + h.val) = h := Fin.ext (by show (15 + h.val) % 15 = h.val; omega)
theorem snd_low (h : Fin 15) (b : Fin 2) (s : Fin 8) : sM cc0_scratch1 h b s = sndS h.val b s := by
  unfold sndS; rw [if_pos h.isLt, slot_low]
theorem rcv_low (h : Fin 15) (b : Fin 2) (s : Fin 8) : sM cc0_scratch2 h b s = rcvS h.val b s := by
  unfold rcvS; rw [if_pos h.isLt, slot_low]
theorem snd_high (h : Fin 15) (b : Fin 2) (s : Fin 8) : sM cc0_scratch3 h b s = sndS (15 + h.val) b s := by
  unfold sndS; rw [if_neg (by omega), slot_high]
theorem rcv_high (h : Fin 15) (b : Fin 2) (s : Fin 8) : sM cc0_scratch4 h b s = rcvS (15 + h.val) b s := by
  unfold rcvS; rw [if_neg (by omega), slot_high]
theorem oM_eq {r : Nat} {hr : r + 128 ≤ 2048} {j : Fin 16} (e : r = 128 * j.val) (b : Fin 2) (s : Fin 8) :
    oM oW hr (col_le b s) = blkM j b s := by subst e; rfl
theorem cM_eq (h : Fin 15) (b : Fin 2) (s : Fin 8) : cM cW h b s = slotM h.val b s := by unfold slotM; rw [slot_low]
theorem ck_prev (p : Dev nD) (b : Fin 2) (n : Nat) : ck (nbr p (flip b)) b n = ck p b (n + 1) := by
  rw [← ck_nbr, nbr_flip']

variable (X : Dev nD → OBuf F) (K : Dev nD × Cx → ℕ) (p : Dev nD) (b : Fin 2) (s : Fin 8)

/-! ## Sends as the body prints them -/

/-- The wp of a program on device `p`. -/
abbrev wpp {α : Type} (P : Prog (TpuEff nD τ sig (Elt F) Λ₀ .tc) α) (Q : α → sProp 𝕄) : sProp 𝕄 :=
  wp frame (wpE (defs₀ (F := F)) 𝒱₀ (p : Thread nD τ) none) Set.univ P Q

/-- What device `p` owes for a list of messages, whatever it has waited for. -/
def owed (l : List Msg) : sProp 𝕄 := iprop(∃ W, owes (p : Thread nD τ) (dues p l) W)

theorem wp_sendI {l : List Msg} (h : Fin 15) {d' : Dev nD} (hd : d' = nbr p b) {r : Nat} {hr : r + 128 ≤ 2048} (e : r = 128 * (ck p b h.val).val)
    {α : Type} {Q : α → sProp 𝕄} {k : PUnit → Prog (TpuEff nD τ sig (Elt F) Λ₀ .tc) α} :
    iprop(env X K ∗ startPre X p (n := h.val) b s ∗ owed p ((h.val, b, s) :: l))
      ⊢ iprop(((cred (tallyAt (sndCell p h.val b s) () NN) ∗ owed p l) -∗ wpp p (k ⟨⟩) Q)
          -∗ wpp p (sendI oW cW cc0_scratch1 cc0_scratch2 d' hr (col_le b s) h b s >>= k) Q) := by
  subst hd
  unfold sendI owed
  simp only [Prog.lift, Prog.bind_op, Prog.bind_ret]
  exact wp_start X K p b s l (by omega) rfl (snd_low h b s) (rcv_low h b s) (oM_eq e b s)
    (by rw [cM_eq]; exact pre_low p b s h.isLt) (by rw [cM_eq]; exact pay_low X p b s h.isLt) (credit_c _ _ _)

theorem wp_castI {l : List Msg} (h : Fin 15) {d' : Dev nD} (hd : d' = nbr p b) {r : Nat} {hr : r + 128 ≤ 2048} (e : r = 128 * (ck p b (15 + h.val)).val)
    {α : Type} {Q : α → sProp 𝕄} {k : PUnit → Prog (TpuEff nD τ sig (Elt F) Λ₀ .tc) α} :
    iprop(env X K ∗ startPre X p (n := 15 + h.val) b s ∗ owed p ((15 + h.val, b, s) :: l))
      ⊢ iprop(((cred (tallyAt (sndCell p (15 + h.val) b s) () NN) ∗ owed p l) -∗ wpp p (k ⟨⟩) Q)
          -∗ wpp p (castI oW cc0_scratch3 cc0_scratch4 d' hr (col_le b s) h b s >>= k) Q) := by
  subst hd
  unfold castI owed
  simp only [Prog.lift, Prog.bind_op, Prog.bind_ret]
  exact wp_start X K p b s l (by omega) rfl (snd_high h b s) (rcv_high h b s) (oM_eq e b s)
    (by rw [oM_eq e b s]; exact pre_high p b s (by omega)) (by rw [oM_eq e b s]; exact pay_high X p b s (by omega)) (credit_o _ _)

/-! ## Waits as the body prints them -/

theorem wp_recvLow {l : List Msg} (h : Fin 15) (hl : ∀ x ∈ l, x.1 < 30 ∧ h.val < x.1) {r : Nat} {hr : r + 128 ≤ 2048}
    {α : Type} {Q : α → sProp 𝕄} {k : PUnit → Prog (TpuEff nD τ sig (Elt F) Λ₀ .tc) α} :
    iprop(env X K ∗ cred (tallyAt (rcvCell p h.val b s) () NN) ∗ atPos ER (rcvCell p h.val b s) 0 ∅ 0 ∗ owed p l)
      ⊢ iprop(((semVal (rcvCell p h.val b s) 0 ∗ rcvPay X p h.val b s ∗ owed p l) -∗ wpp p (k ⟨⟩) Q)
          -∗ wpp p (recvI oW cW cc0_scratch2 hr (col_le b s) h b s >>= k) Q) := by
  unfold recvI owed
  simp only [Prog.lift, Prog.bind_op, Prog.bind_ret]
  exact wp_recv X K p (by omega) b s l hl (rcv_low h b s) (credit_c _ _ _)

theorem wp_leftLow {l : List Msg} (h : Fin 15) (hl : ∀ x ∈ l, x.1 < 30) {r : Nat} {hr : r + 128 ≤ 2048}
    {α : Type} {Q : α → sProp 𝕄} {k : PUnit → Prog (TpuEff nD τ sig (Elt F) Λ₀ .tc) α} :
    iprop(env X K ∗ cred (tallyAt (sndCell p h.val b s) () NN) ∗ atPos ER (sndCell p h.val b s) 0 ∅ 0 ∗ owed p l)
      ⊢ iprop(((semVal (sndCell p h.val b s) 0 ∗ sndPay X p h.val b s ∗ owed p l) -∗ wpp p (k ⟨⟩) Q)
          -∗ wpp p (leftI oW cW cc0_scratch1 hr (col_le b s) h b s >>= k) Q) := by
  exact wp_left X K p (by omega) b s l hl (snd_low h b s) (credit_o _ _)

theorem wp_recvHigh {l : List Msg} (h : Fin 15) (hl : ∀ x ∈ l, x.1 < 30 ∧ (15 + h.val) < x.1) {r : Nat} {hr : r + 128 ≤ 2048}
    {α : Type} {Q : α → sProp 𝕄} {k : PUnit → Prog (TpuEff nD τ sig (Elt F) Λ₀ .tc) α} :
    iprop(env X K ∗ cred (tallyAt (rcvCell p (15 + h.val) b s) () NN) ∗ atPos ER (rcvCell p (15 + h.val) b s) 0 ∅ 0 ∗ owed p l)
      ⊢ iprop(((semVal (rcvCell p (15 + h.val) b s) 0 ∗ rcvPay X p (15 + h.val) b s ∗ owed p l) -∗ wpp p (k ⟨⟩) Q)
          -∗ wpp p (castW oW cc0_scratch4 hr (col_le b s) h b s >>= k) Q) := by
  unfold castW owed
  simp only [Prog.lift, Prog.bind_op, Prog.bind_ret]
  exact wp_recv X K p (by omega) b s l hl (rcv_high h b s) (credit_o _ _)

theorem wp_leftHigh {l : List Msg} (h : Fin 15) (hl : ∀ x ∈ l, x.1 < 30) {r : Nat} {hr : r + 128 ≤ 2048}
    {α : Type} {Q : α → sProp 𝕄} {k : PUnit → Prog (TpuEff nD τ sig (Elt F) Λ₀ .tc) α} :
    iprop(env X K ∗ cred (tallyAt (sndCell p (15 + h.val) b s) () NN) ∗ atPos ER (sndCell p (15 + h.val) b s) 0 ∅ 0 ∗ owed p l)
      ⊢ iprop(((semVal (sndCell p (15 + h.val) b s) 0 ∗ sndPay X p (15 + h.val) b s ∗ owed p l) -∗ wpp p (k ⟨⟩) Q)
          -∗ wpp p (castW oW cc0_scratch3 hr (col_le b s) h b s >>= k) Q) := by
  unfold castW owed
  simp only [Prog.lift, Prog.bind_op, Prog.bind_ret]
  exact wp_left X K p (by omega) b s l hl (snd_high h b s) (credit_o _ _)

/-! ## The state of a lane -/

/-- A message not started: both cells at their start, the credit for its landing here, what this device pays, and the block
it will fill if this device fills it. -/
def fut (k : Nat) : sProp 𝕄 :=
  iprop(atPos ER (sndCell p k b s) 0 ∅ 0 ∗ atPos ER (rcvCell p k b s) 0 ∅ 0 ∗ cred (tallyAt (rcvCell p k b s) () NN)
    ∗ dutyTok ER (sndCell p k b s) 0 (0 : Fin 2) ∗ dutyTok ER (rcvCell (nbr p b) k b s) 0 (0 : Fin 2)
    ∗ (if k ≤ 15 then oBlk p (ck p b k) b s (X p) else iprop(emp)))
/-- A message started: both cells at their start and both credits. After the last, the last block. -/
def cur (n : Nat) : sProp 𝕄 :=
  if n < 30 then iprop(atPos ER (sndCell p n b s) 0 ∅ 0 ∗ atPos ER (rcvCell p n b s) 0 ∅ 0 ∗ cred (tallyAt (rcvCell p n b s) () NN)
    ∗ cred (tallyAt (sndCell p n b s) () NN))
  else oBlk p (ck p b n) b s (acc X n p b)
/-- A message done: both semaphores at zero, and the slot or block it used. -/
def past (n : Nat) : sProp 𝕄 :=
  iprop(semVal (sndCell p n b s) 0 ∗ semVal (rcvCell p n b s) 0
    ∗ (if n < 15 then iprop(∃ g, cBlk p n b s g) else oBlk p (ck p b n) b s (acc X n p b)))
/-- What the start of message `n + 1` takes. -/
def nxt (n : Nat) : sProp 𝕄 :=
  if n < 29 then iprop(fut X p b s (n + 1) ∗ dst p b (n + 1) s ∗ rel p b (n + 1) s) else iprop(emp)
/-- The message step `n` starts. -/
def strt (n : Nat) (b : Fin 2) (s : Fin 8) : List Msg := if n < 29 then [(n + 1, b, s)] else []
/-- The block step `n` has done with, to be given up with message `n + 2` the other way. -/
def back (n : Nat) : sProp 𝕄 := if n < 15 then rel p (flip b) (n + 2) s else iprop(emp)

/-- Step `n` of a lane. -/
def stepN (d : Dev nD) (n : Nat) (s : Fin 8) (b : Fin 2) : List (TcProg F) :=
  if h : n < 15 then stepR oW cW cc0_scratch1 cc0_scratch2 cc0_scratch3 cc0_scratch4 d ⟨n, h⟩ s b
  else if h : n - 15 < 15 then stepG oW cc0_scratch3 cc0_scratch4 d ⟨n - 15, h⟩ s b else []

theorem back_intro {n : Nat} (hn : n < 15) : oBlk p (ck p b n) b s (acc X n p b) ⊢ back (F := F) p b s n := by
  unfold back rel
  rw [if_pos hn, if_pos (by omega), flip_flip, Nat.add_sub_cancel]
  iintro H; iexists _; iexact H

variable (n : Nat) (l : List Msg)

/-- The first half of a step of the first phase: message `n` is waited for and added. -/
theorem wp_recvAcc (hn : n < 15) (hl : ∀ x ∈ l, x.1 < 30 ∧ n < x.1) (f : FVec F S128x128 .f32 → FVec F S128x128 .f32) (f1 : F .f32 → F .f32)
    (hf : ∀ a y, f a y = f1 (a y)) (hC : ∀ i, acc X (n + 1) p b i = f1 (add1 (X p i) (acc X n (nbr p (flip b)) b i)))
    {r r' : Nat} {hr : r + 128 ≤ 2048} {hr' : r' + 128 ≤ 2048} (e : r' = 128 * (ck p b (n + 1)).val)
    {α : Type} {Q : α → sProp 𝕄} {q : Prog (TpuEff nD τ sig (Elt F) Λ₀ .tc) α} :
    iprop(env X K ∗ cred (tallyAt (rcvCell p n b s) () NN) ∗ atPos ER (rcvCell p n b s) 0 ∅ 0 ∗ oBlk p (ck p b (n + 1)) b s (X p) ∗ owed p l)
      ⊢ iprop(((semVal (rcvCell p n b s) 0 ∗ (∃ g, cBlk p n b s g) ∗ oBlk p (ck p b (n + 1)) b s (acc X (n + 1) p b)
            ∗ rel (nbr p (flip b)) b n s ∗ owed p l) -∗ wpp p q Q)
          -∗ wpp p (recvI oW cW cc0_scratch2 hr (col_le b s) ⟨n, hn⟩ b s >>= fun _ =>
              accI oW cW f hr' (col_le b s) ⟨n, hn⟩ b s >>= fun _ => q) Q) := by
  iintro ⟨#HE, Hc, Hat, Ho, HO⟩ Hk
  iapply (wp_recvLow X K p b s ⟨n, hn⟩ hl) $$ [Hc Hat HO]
  · isplitr; · iexact HE
    isplitl [Hc]; · iexact Hc
    isplitl [Hat] <;> iassumption
  iintro ⟨Hz, Hp, HO⟩
  unfold rcvPay landed
  rw [if_pos hn]
  icases Hp with ⟨⟨%g, %hg, Hc⟩, Hrel⟩
  rw [ck_prev] at hg
  iapply (wp_accI p n b s (ck p b (n + 1)) f f1 hf (X p) (acc X n (nbr p (flip b)) b) (acc X (n + 1) p b) hC e (slot_low ⟨n, hn⟩).symm g hg) $$ [Ho Hc]
  · isplitl [Ho] <;> iassumption
  iintro ⟨Ho, Hc⟩
  iapply Hk
  isplitl [Hz]; · iexact Hz
  isplitl [Hc]; · iexists g; iexact Hc
  isplitl [Ho]; · iexact Ho
  isplitl [Hrel]; · iexact Hrel
  iexact HO

/-- A step of the first phase but the last. -/
theorem unit_A (hn : n + 1 < 15) (hl : ∀ x ∈ l, x.1 < 30 ∧ n < x.1)
    {α : Type} {Q : α → sProp 𝕄} {q : Prog (TpuEff nD τ sig (Elt F) Λ₀ .tc) α} :
    iprop(env X K ∗ cur X p b s n ∗ nxt X p b s n ∗ owed p (strt n b s ++ l))
      ⊢ iprop(((past X p b s n ∗ cur X p b s (n + 1) ∗ back p b s n ∗ rel (nbr p (flip b)) b n s ∗ owed p l) -∗ wpp p q Q)
          -∗ wpp p (seqK (stepN p n s b) q) Q) := by
  have hn0 : n < 15 := by omega
  unfold stepN stepR cur nxt strt past
  rw [dif_pos hn0, dif_pos hn, if_pos (by omega), if_pos (by omega), if_pos (by omega), if_pos (by omega), if_pos (by omega)]
  simp only [seqK, List.foldr]
  unfold fut
  rw [if_pos (by omega : n + 1 ≤ 15)]
  iintro ⟨#HE, ⟨HaS, HaR, HcR, HcS⟩, ⟨⟨HaS', HaR', HcR', Ht1, Ht2, Ho⟩, Hd, Hrel'⟩, HO⟩ Hk
  iapply (wp_recvAcc X K p b s n ((n + 1, b, s) :: l) hn0 (fun x hx => by rcases List.mem_cons.mp hx with rfl | hx; exacts [by omega, hl x hx])
    id id (fun _ _ => rfl) (fun i => congrFun (acc_add X hn p b) i) (rowA_eq p b ⟨n, hn0⟩)) $$ [HcR HaR Ho HO]
  · isplitr; · iexact HE
    isplitl [HcR]; · iexact HcR
    isplitl [HaR]; · iexact HaR
    isplitl [Ho]; · iexact Ho
    iexact HO
  iintro ⟨HzR, Hc, Ho, Hrel, HO⟩
  iapply (wp_sendI X K p b s (l := l) ⟨n + 1, hn⟩ (tgtW_eq p b) (rowS_eq p b ⟨n + 1, hn⟩)) $$ [Ho Hd Hrel' Ht1 Ht2 HO]
  · isplitr; · iexact HE
    isplitr [HO]
    · unfold startPre
      isplitl [Ho]; · iexact Ho
      isplitl [Hd]; · iexact Hd
      isplitl [Hrel']; · iexact Hrel'
      isplitl [Ht1] <;> iassumption
    · iexact HO
  iintro ⟨HcS', HO⟩
  iapply (wp_leftLow X K p b s ⟨n, hn0⟩ (fun x hx => (hl x hx).1)) $$ [HcS HaS HO]
  · isplitr; · iexact HE
    isplitl [HcS]; · iexact HcS
    isplitl [HaS] <;> iassumption
  iintro ⟨HzS, Hb, HO⟩
  iapply Hk
  isplitl [HzS HzR Hc]
  · isplitl [HzS]; · iexact HzS
    isplitl [HzR] <;> iassumption
  isplitl [HaS' HaR' HcR' HcS']
  · isplitl [HaS']; · iexact HaS'
    isplitl [HaR']; · iexact HaR'
    isplitl [HcR'] <;> iassumption
  isplitl [Hb]
  · iapply (back_intro X p b s hn0); unfold sndPay; iexact Hb
  isplitl [Hrel] <;> iassumption

/-- The last step of the first phase: the activation of the whole sum, sent on in the second. -/
theorem unit_B (hl : ∀ x ∈ l, x.1 < 30 ∧ 14 < x.1)
    {α : Type} {Q : α → sProp 𝕄} {q : Prog (TpuEff nD τ sig (Elt F) Λ₀ .tc) α} :
    iprop(env X K ∗ cur X p b s 14 ∗ nxt X p b s 14 ∗ owed p (strt 14 b s ++ l))
      ⊢ iprop(((past X p b s 14 ∗ cur X p b s (14 + 1) ∗ back p b s 14 ∗ rel (nbr p (flip b)) b 14 s ∗ owed p l) -∗ wpp p q Q)
          -∗ wpp p (seqK (stepN p 14 s b) q) Q) := by
  have hn0 : 14 < 15 := by omega
  unfold stepN stepR cur nxt strt past
  rw [dif_pos hn0, dif_neg (by show ¬ 14 + 1 < 15; omega), if_pos (by omega), if_pos (by omega), if_pos (by omega), if_pos (by omega), if_pos (by omega)]
  simp only [seqK, List.foldr]
  unfold fut
  rw [if_pos (by omega : 14 + 1 ≤ 15)]
  iintro ⟨#HE, ⟨HaS, HaR, HcR, HcS⟩, ⟨⟨HaS', HaR', HcR', Ht1, Ht2, Ho⟩, Hd, Hrel'⟩, HO⟩ Hk
  iapply (wp_recvAcc X K p b s 14 ((14 + 1, b, s) :: l) hn0 (fun x hx => by rcases List.mem_cons.mp hx with rfl | hx; exacts [by omega, hl x hx])
    act act1 act_at (fun i => congrFun (acc_act X p b) i) (rowA_eq p b ⟨14, hn0⟩)) $$ [HcR HaR Ho HO]
  · isplitr; · iexact HE
    isplitl [HcR]; · iexact HcR
    isplitl [HaR]; · iexact HaR
    isplitl [Ho]; · iexact Ho
    iexact HO
  iintro ⟨HzR, Hc, Ho, Hrel, HO⟩
  iapply (wp_castI X K p b s (l := l) 0 (tgtW_eq p b) (rowG_eq p b 0)) $$ [Ho Hd Hrel' Ht1 Ht2 HO]
  · isplitr; · iexact HE
    isplitr [HO]
    · unfold startPre
      isplitl [Ho]; · iexact Ho
      isplitl [Hd]; · iexact Hd
      isplitl [Hrel']; · iexact Hrel'
      isplitl [Ht1]; · iexact Ht1
      iexact Ht2
    · iexact HO
  iintro ⟨HcS', HO⟩
  iapply (wp_leftLow X K p b s ⟨14, hn0⟩ (fun x hx => (hl x hx).1)) $$ [HcS HaS HO]
  · isplitr; · iexact HE
    isplitl [HcS]; · iexact HcS
    isplitl [HaS] <;> iassumption
  iintro ⟨HzS, Hb, HO⟩
  iapply Hk
  isplitl [HzS HzR Hc]
  · isplitl [HzS]; · iexact HzS
    isplitl [HzR] <;> iassumption
  isplitl [HaS' HaR' HcR' HcS']
  · isplitl [HaS']; · iexact HaS'
    isplitl [HaR']; · iexact HaR'
    isplitl [HcR']; · iexact HcR'
    iexact HcS'
  isplitl [Hb]
  · iapply (back_intro X p b s hn0); unfold sndPay; iexact Hb
  isplitl [Hrel] <;> iassumption

/-- What lands in the second phase is the next message. -/
theorem landed_high {m : Nat} (hn : 15 ≤ m) : landed X p (nbr p (flip b)) m b s = oBlk p (ck p b (m + 1)) b s (acc X (m + 1) p b) := by
  unfold landed
  rw [if_neg (by omega), ck_prev, acc_pass X hn]

/-- A step of the second phase but the last. -/
theorem unit_C (t : Fin 15) (ht : t.val + 1 < 15) (hl : ∀ x ∈ l, x.1 < 30 ∧ 15 + t.val < x.1)
    {α : Type} {Q : α → sProp 𝕄} {q : Prog (TpuEff nD τ sig (Elt F) Λ₀ .tc) α} :
    iprop(env X K ∗ cur X p b s (15 + t.val) ∗ nxt X p b s (15 + t.val) ∗ owed p (strt (15 + t.val) b s ++ l))
      ⊢ iprop(((past X p b s (15 + t.val) ∗ cur X p b s (15 + t.val + 1) ∗ back p b s (15 + t.val) ∗ rel (nbr p (flip b)) b (15 + t.val) s ∗ owed p l) -∗ wpp p q Q)
          -∗ wpp p (seqK (stepG oW cc0_scratch3 cc0_scratch4 p t s b) q) Q) := by
  unfold stepG cur nxt strt past back
  rw [dif_pos ht, if_pos (by omega), if_pos (by omega), if_pos (by omega), if_neg (by omega), if_pos (by omega), if_neg (by omega)]
  simp only [seqK, List.foldr]
  unfold fut
  iintro ⟨#HE, ⟨HaS, HaR, HcR, HcS⟩, ⟨⟨HaS', HaR', HcR', Ht1, Ht2, -⟩, Hd, Hrel'⟩, HO⟩ Hk
  iapply (wp_recvHigh X K p b s (l := (15 + t.val + 1, b, s) :: l) t (fun x hx => by rcases List.mem_cons.mp hx with rfl | hx; exacts [by omega, hl x hx])) $$ [HcR HaR HO]
  · isplitr; · iexact HE
    isplitl [HcR]; · iexact HcR
    isplitl [HaR]; · iexact HaR
    iexact HO
  iintro ⟨HzR, Hp, HO⟩
  unfold rcvPay
  rw [landed_high X p b s (by omega : 15 ≤ 15 + t.val)]
  icases Hp with ⟨Ho, Hrel⟩
  iapply (wp_castI X K p b s (l := l) ⟨t.val + 1, ht⟩ (tgtW_eq p b) (rowG_eq p b ⟨t.val + 1, ht⟩)) $$ [Ho Hd Hrel' Ht1 Ht2 HO]
  · isplitr; · iexact HE
    isplitr [HO]
    · unfold startPre
      isplitl [Ho]; · iexact Ho
      isplitl [Hd]; · iexact Hd
      isplitl [Hrel']; · iexact Hrel'
      isplitl [Ht1]; · iexact Ht1
      iexact Ht2
    · iexact HO
  iintro ⟨HcS', HO⟩
  iapply (wp_leftHigh X K p b s t (fun x hx => (hl x hx).1)) $$ [HcS HaS HO]
  · isplitr; · iexact HE
    isplitl [HcS]; · iexact HcS
    isplitl [HaS] <;> iassumption
  iintro ⟨HzS, Hb, HO⟩
  iapply Hk
  isplitl [HzS HzR Hb]
  · isplitl [HzS]; · iexact HzS
    isplitl [HzR]; · iexact HzR
    unfold sndPay; iexact Hb
  isplitl [HaS' HaR' HcR' HcS']
  · isplitl [HaS']; · iexact HaS'
    isplitl [HaR']; · iexact HaR'
    isplitl [HcR']; · iexact HcR'
    iexact HcS'
  isplitr; · iempintro
  isplitl [Hrel] <;> iassumption

/-- The last step. -/
theorem unit_D (hl : ∀ x ∈ l, x.1 < 30 ∧ 29 < x.1)
    {α : Type} {Q : α → sProp 𝕄} {q : Prog (TpuEff nD τ sig (Elt F) Λ₀ .tc) α} :
    iprop(env X K ∗ cur X p b s 29 ∗ nxt X p b s 29 ∗ owed p (strt 29 b s ++ l))
      ⊢ iprop(((past X p b s 29 ∗ cur X p b s (29 + 1) ∗ back p b s 29 ∗ rel (nbr p (flip b)) b 29 s ∗ owed p l) -∗ wpp p q Q)
          -∗ wpp p (seqK (stepG oW cc0_scratch3 cc0_scratch4 p 14 s b) q) Q) := by
  unfold stepG cur nxt strt past back
  rw [dif_neg (by decide), if_pos (by omega), if_neg (by omega), if_neg (by omega), if_neg (by omega), if_neg (by omega), if_neg (by omega)]
  simp only [seqK, List.foldr]
  iintro ⟨#HE, ⟨HaS, HaR, HcR, HcS⟩, -, HO⟩ Hk
  iapply (wp_recvHigh X K p b s (l := l) 14 hl) $$ [HcR HaR HO]
  · isplitr; · iexact HE
    isplitl [HcR]; · iexact HcR
    isplitl [HaR]; · iexact HaR
    iexact HO
  iintro ⟨HzR, Hp, HO⟩
  unfold rcvPay
  rw [landed_high X p b s (by decide : 15 ≤ 15 + (14 : Fin 15).val)]
  icases Hp with ⟨Ho, Hrel⟩
  iapply (wp_leftHigh X K p b s 14 (fun x hx => (hl x hx).1)) $$ [HcS HaS HO]
  · isplitr; · iexact HE
    isplitl [HcS]; · iexact HcS
    isplitl [HaS] <;> iassumption
  iintro ⟨HzS, Hb, HO⟩
  iapply Hk
  isplitl [HzS HzR Hb]
  · isplitl [HzS]; · iexact HzS
    isplitl [HzR]; · iexact HzR
    unfold sndPay; iexact Hb
  isplitl [Ho]; · iexact Ho
  isplitr; · iempintro
  isplitl [Hrel]; · iexact Hrel
  iexact HO

/-- Any step. -/
theorem unit_step (hn : n < 30) (hl : ∀ x ∈ l, x.1 < 30 ∧ n < x.1)
    {α : Type} {Q : α → sProp 𝕄} {q : Prog (TpuEff nD τ sig (Elt F) Λ₀ .tc) α} :
    iprop(env X K ∗ cur X p b s n ∗ nxt X p b s n ∗ owed p (strt n b s ++ l))
      ⊢ iprop(((past X p b s n ∗ cur X p b s (n + 1) ∗ back p b s n ∗ rel (nbr p (flip b)) b n s ∗ owed p l) -∗ wpp p q Q)
          -∗ wpp p (seqK (stepN p n s b) q) Q) := by
  by_cases h1 : n + 1 < 15
  · exact unit_A X K p b s n l h1 hl
  by_cases h2 : n = 14
  · subst h2; exact unit_B X K p b s l hl
  have h3 : 15 ≤ n := by omega
  have e : stepN (F := F) p n s b = stepG oW cc0_scratch3 cc0_scratch4 p ⟨n - 15, by omega⟩ s b := by
    unfold stepN; rw [dif_neg (by omega), dif_pos (by omega)]
  rw [e]
  obtain ⟨t, rfl⟩ : ∃ t, n = 15 + t := ⟨n - 15, by omega⟩
  have e' : (⟨15 + t - 15, by omega⟩ : Fin 15) = ⟨t, by omega⟩ := Fin.ext (Nat.add_sub_cancel_left 15 t)
  rw [e']
  by_cases h4 : t + 1 < 15
  · exact unit_C X K p b s l ⟨t, by omega⟩ h4 hl
  · obtain rfl : t = 14 := by omega
    exact unit_D X K p b s l hl

end Cert.KernelIdeal.Ring
-- ==== Proof.Loop.lean ====
module

public import proofs.«01_k».proof.Proof.Unit

@[expose] public section

/-! The thirty hops: what a lane holds before each, and the run through them all. -/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- `k` consecutive members of a family, from `a` on. -/
def seg (Φ : ℕ → sProp 𝕄) : ℕ → ℕ → sProp 𝕄
  | _, 0 => iprop(emp)
  | a, k + 1 => iprop(Φ a ∗ seg Φ (a + 1) k)

omit [FloatOps F] in
theorem seg_zero (Φ : ℕ → sProp 𝕄) (a : ℕ) : seg Φ a 0 = iprop(emp) := rfl
omit [FloatOps F] in
theorem seg_snoc (Φ : ℕ → sProp 𝕄) (a k : ℕ) : iprop(seg Φ a k ∗ Φ (a + k)) ⊢ seg Φ a (k + 1) := by
  induction k generalizing a with
  | zero => unfold seg seg; iintro ⟨H, H'⟩; isplitl [H']; · iexact H'
            iexact H
  | succ k ih =>
    rw [seg, seg]
    iintro ⟨⟨H, Hs⟩, H'⟩
    isplitl [H]; · iexact H
    iapply (ih (a + 1))
    isplitl [Hs]; · iexact Hs
    rw [show a + 1 + k = a + (k + 1) by omega]; iexact H'

variable (X : Dev nD → OBuf F) (K : Dev nD × Cx → ℕ) (p : Dev nD) (b : Fin 2) (s : Fin 8)

/-- One past the last message whose place is held before step `n`. -/
def upTo (n : Nat) : Nat := min 30 (max 15 (n + 13))

/-- What a lane holds before step `n`. -/
def lane (n : Nat) (b : Fin 2) (s : Fin 8) : sProp 𝕄 :=
  iprop(cur X p b s n ∗ seg (fut X p b s) (n + 1) (29 - n) ∗ seg (past X p b s) 0 n
    ∗ seg (fun k => dst p b k s) (n + 1) (upTo n - (n + 1)) ∗ rel p b (n + 1) s)

/-- What a lane holds besides what step `n` uses. -/
def rest (n : Nat) (b : Fin 2) (s : Fin 8) : sProp 𝕄 :=
  iprop(seg (fut X p b s) (n + 2) (28 - n) ∗ seg (past X p b s) 0 n
    ∗ seg (fun k => dst p b k s) (n + 2) (upTo n - (n + 2)))

theorem lane_open {n : Nat} (hn : n < 30) : lane X p n b s ⊢ iprop(cur X p b s n ∗ nxt X p b s n ∗ rest X p n b s) := by
  unfold lane rest nxt
  by_cases h : n < 29
  · have hu : n + 2 ≤ upTo n := by unfold upTo; omega
    rw [if_pos h, show 29 - n = (28 - n) + 1 by omega, show upTo n - (n + 1) = (upTo n - (n + 2)) + 1 by omega, seg, seg]
    iintro ⟨Hc, ⟨Hf, Hfs⟩, Hp, ⟨Hd, Hds⟩, Hr⟩
    isplitl [Hc]; · iexact Hc
    isplitl [Hf Hd Hr]
    · isplitl [Hf]; · iexact Hf
      isplitl [Hd] <;> iassumption
    isplitl [Hfs]; · iexact Hfs
    isplitl [Hp] <;> iassumption
  · obtain rfl : n = 29 := by omega
    have e : rel (F := F) p b (29 + 1) s = iprop(emp) := by unfold rel; rw [if_neg (by omega)]
    rw [if_neg (by omega), e, show 29 - 29 = 0 by omega, show upTo 29 - (29 + 1) = 0 by decide, show upTo 29 - (29 + 2) = 0 by decide, seg_zero, seg_zero, seg_zero, seg_zero]
    iintro ⟨Hc, -, Hp, -, -⟩
    isplitl [Hc]; · iexact Hc
    isplitr; · iempintro
    isplitr; · iempintro
    isplitl [Hp]; · iexact Hp
    iempintro

/-- The block that came back with message `n` the other way is where message `n + 13` goes. -/
theorem rel_dst {n : Nat} (h1 : 2 ≤ n) (h2 : n ≤ 16) : rel (F := F) (nbr p b) (flip b) n s ⊢ dst p b (n + 13) s := by
  unfold rel dst
  rw [if_pos ⟨h1, h2⟩, if_neg (by omega), flip_flip]
  have e : ck (nbr p b) b (n - 2) = ck p b (n + 13) := by
    rw [← ck_add (nbr p b) b (n - 2), ← ck_nbr p b (n + 13), show n - 2 + 16 = n + 13 + 1 by omega]
  rw [e]

theorem lane_close {n : Nat} (hn : n < 30) :
    iprop(past X p b s n ∗ cur X p b s (n + 1) ∗ rest X p n b s ∗ back p (flip b) s n ∗ rel (nbr p b) (flip b) n s) ⊢ lane X p (n + 1) b s := by
  have hb : back (F := F) p (flip b) s n ⊢ rel p b (n + 1 + 1) s := by
    unfold back
    by_cases h : n < 15
    · rw [if_pos h, flip_flip]
    · rw [if_neg h]; unfold rel; rw [if_neg (by omega)]
  have hd : iprop(seg (fun k => dst (F := F) p b k s) (n + 2) (upTo n - (n + 2)) ∗ rel (nbr p b) (flip b) n s)
      ⊢ seg (fun k => dst (F := F) p b k s) (n + 1 + 1) (upTo (n + 1) - (n + 1 + 1)) := by
    by_cases h : 2 ≤ n ∧ n ≤ 16
    · rw [show upTo (n + 1) - (n + 1 + 1) = (upTo n - (n + 2)) + 1 by unfold upTo; omega]
      refine Entails.trans (sep_mono_right ?_) (seg_snoc _ _ _)
      rw [show n + 2 + (upTo n - (n + 2)) = n + 13 by unfold upTo; omega]
      exact rel_dst p b s h.1 h.2
    · rw [show upTo (n + 1) - (n + 1 + 1) = upTo n - (n + 2) by unfold upTo; omega]
      iintro ⟨H, -⟩; iexact H
  unfold rest lane
  iintro ⟨Hp, Hc, ⟨Hf, Hps, Hd⟩, Hb, Hr⟩
  isplitl [Hc]; · iexact Hc
  isplitl [Hf]; · rw [show 29 - (n + 1) = 28 - n by omega]; iexact Hf
  isplitl [Hp Hps]
  · iapply (seg_snoc (past X p b s) 0 n)
    isplitl [Hps]; · iexact Hps
    rw [Nat.zero_add]; iexact Hp
  isplitl [Hd Hr]
  · iapply hd; isplitl [Hd] <;> iassumption
  iapply hb; iexact Hb

/-- A hop of one sub-block, both directions. -/
theorem pair_step {n : Nat} (hn : n < 30) (l : List Msg) (hl : ∀ x ∈ l, x.1 < 30 ∧ n < x.1)
    {α : Type} {Q : α → sProp 𝕄} {q : Prog (TpuEff nD τ sig (Elt F) Λ₀ .tc) α} :
    iprop(env X K ∗ (lane X p n 0 s ∗ lane X p n 1 s) ∗ owed p (strt n 0 s ++ (strt n 1 s ++ l)))
      ⊢ iprop((((lane X p (n + 1) 0 s ∗ lane X p (n + 1) 1 s) ∗ owed p l) -∗ wpp p q Q)
          -∗ wpp p (seqK (stepN p n s 0 ++ stepN p n s 1) q) Q) := by
  have hs : ∀ x ∈ strt n 1 s ++ l, x.1 < 30 ∧ n < x.1 := fun x hx => by
    rcases List.mem_append.mp hx with h | h
    · unfold strt at h
      split at h
      · rw [List.mem_singleton.mp h]; exact ⟨by omega, Nat.lt_succ_self n⟩
      · exact absurd h List.not_mem_nil
    · exact hl x h
  rw [seqK_append]
  iintro ⟨#HE, ⟨H0, H1⟩, HO⟩ Hk
  ihave H0' := (lane_open X p 0 s hn) $$ H0
  ihave H1' := (lane_open X p 1 s hn) $$ H1
  icases H0' with ⟨Hc0, Hn0, Hr0⟩
  icases H1' with ⟨Hc1, Hn1, Hr1⟩
  iapply (unit_step X K p 0 s n (strt n 1 s ++ l) hn hs) $$ [Hc0 Hn0 HO]
  · isplitr; · iexact HE
    isplitl [Hc0]; · iexact Hc0
    isplitl [Hn0] <;> iassumption
  iintro ⟨Hp0, Hc0, Hb0, Hx0, HO⟩
  iapply (unit_step X K p 1 s n l hn hl) $$ [Hc1 Hn1 HO]
  · isplitr; · iexact HE
    isplitl [Hc1]; · iexact Hc1
    isplitl [Hn1] <;> iassumption
  iintro ⟨Hp1, Hc1, Hb1, Hx1, HO⟩
  iapply Hk
  isplitr [HO]
  · isplitl [Hp0 Hc0 Hr0 Hb1 Hx1]
    · iapply (lane_close X p 0 s hn)
      isplitl [Hp0]; · iexact Hp0
      isplitl [Hc0]; · iexact Hc0
      isplitl [Hr0]; · iexact Hr0
      isplitl [Hb1]; · iexact Hb1
      iexact Hx1
    · iapply (lane_close X p 1 s hn)
      isplitl [Hp1]; · iexact Hp1
      isplitl [Hc1]; · iexact Hc1
      isplitl [Hr1]; · iexact Hr1
      isplitl [Hb0]; · iexact Hb0
      iexact Hx0
  · iexact HO

/-- Both directions' lanes of a list of sub-blocks. -/
def lanes (n : Nat) : List (Fin 8) → sProp 𝕄
  | [] => iprop(emp)
  | s :: ss => iprop((lane X p n 0 s ∗ lane X p n 1 s) ∗ lanes n ss)

/-- The messages a hop starts over a list of sub-blocks. -/
def todoS (n : Nat) : List (Fin 8) → List Msg
  | [] => []
  | s :: ss => strt n 0 s ++ (strt n 1 s ++ todoS n ss)
theorem todoS_mem {n : Nat} (hn : n < 30) : ∀ {ss : List (Fin 8)} {x : Msg}, x ∈ todoS n ss → x.1 < 30 ∧ n < x.1
  | [], x, h => absurd h List.not_mem_nil
  | s :: ss, x, h => by
    unfold todoS at h
    have hs : ∀ b, x ∈ strt n b s → x.1 < 30 ∧ n < x.1 := fun b h => by
      unfold strt at h
      split at h
      · rw [List.mem_singleton.mp h]; exact ⟨by omega, Nat.lt_succ_self n⟩
      · exact absurd h List.not_mem_nil
    rcases List.mem_append.mp h with h | h
    · exact hs 0 h
    rcases List.mem_append.mp h with h | h
    · exact hs 1 h
    exact todoS_mem hn h

/-- A hop. -/
theorem round_step {n : Nat} (hn : n < 30) (l : List Msg) (hl : ∀ x ∈ l, x.1 < 30 ∧ n < x.1)
    {α : Type} {Q : α → sProp 𝕄} {q : Prog (TpuEff nD τ sig (Elt F) Λ₀ .tc) α} : ∀ ss : List (Fin 8),
    iprop(env X K ∗ lanes X p n ss ∗ owed p (todoS n ss ++ l))
      ⊢ iprop(((lanes X p (n + 1) ss ∗ owed p l) -∗ wpp p q Q)
          -∗ wpp p (seqK (ss.flatMap fun s => stepN p n s 0 ++ stepN p n s 1) q) Q)
  | [] => by
    unfold lanes todoS
    iintro ⟨-, -, HO⟩ Hk
    iapply Hk
    isplitr; · iempintro
    iexact HO
  | s :: ss => by
    unfold lanes todoS
    rw [List.flatMap_cons, seqK_append]
    iintro ⟨#HE, ⟨HP, Hs⟩, HO⟩ Hk
    iapply (pair_step X K p s hn (todoS n ss ++ l) (fun x hx => (List.mem_append.mp hx).elim (todoS_mem hn) (hl x))) $$ [HP HO]
    · isplitr; · iexact HE
      isplitl [HP]; · iexact HP
      rw [List.append_assoc, List.append_assoc]; iexact HO
    iintro ⟨HP, HO⟩
    iapply (round_step hn l hl ss) $$ [Hs HO]
    · isplitr; · iexact HE
      isplitl [Hs] <;> iassumption
    iintro ⟨Hs, HO⟩
    iapply Hk
    isplitl [HP Hs]
    · isplitl [HP] <;> iassumption
    · iexact HO

/-- The messages `k` hops start, from hop `n` on, and the hops. -/
def todo : Nat → Nat → List Msg
  | _, 0 => []
  | n, k + 1 => todoS n subs ++ todo (n + 1) k
def hopsL (d : Dev nD) : Nat → Nat → List (TcProg F)
  | _, 0 => []
  | n, k + 1 => roundL (stepN d n) ++ hopsL d (n + 1) k

theorem todo_mem : ∀ {k n : Nat} {x : Msg}, n + k ≤ 30 → x ∈ todo n k → x.1 < 30 ∧ n < x.1
  | 0, n, x, _, h => absurd h List.not_mem_nil
  | k + 1, n, x, hn, h => by
    unfold todo at h
    rcases List.mem_append.mp h with h | h
    · exact todoS_mem (by omega) h
    · have := todo_mem (by omega) h; exact ⟨this.1, by omega⟩

/-- All the hops from `n` on. -/
theorem loop {α : Type} {Q : α → sProp 𝕄} {q : Prog (TpuEff nD τ sig (Elt F) Λ₀ .tc) α} : ∀ k n : Nat, n + k = 30 →
    (iprop(env X K ∗ lanes X p n subs ∗ owed p (todo n k))
      ⊢ iprop(((lanes X p 30 subs ∗ owed p []) -∗ wpp p q Q) -∗ wpp p (seqK (hopsL p n k) q) Q))
  | 0, n, h => by
    obtain rfl : n = 30 := by omega
    unfold todo hopsL
    iintro ⟨-, H, HO⟩ Hk
    iapply Hk
    isplitl [H] <;> iassumption
  | k + 1, n, h => by
    unfold todo hopsL
    rw [seqK_append]
    iintro ⟨#HE, H, HO⟩ Hk
    iapply (round_step X K p (by omega : n < 30) (todo (n + 1) k) (fun x hx => by
      have := todo_mem (by omega) hx; exact ⟨this.1, by omega⟩) subs) $$ [H HO]
    · isplitr; · iexact HE
      isplitl [H] <;> iassumption
    iintro ⟨H, HO⟩
    iapply (loop k (n + 1) (by omega)) $$ [H HO]
    · isplitr; · iexact HE
      isplitl [H] <;> iassumption
    iexact Hk

theorem stepN_low (d : Dev nD) (h : Fin 15) : stepN (F := F) d h.val = stepR oW cW cc0_scratch1 cc0_scratch2 cc0_scratch3 cc0_scratch4 d h := by
  funext s b; unfold stepN; rw [dif_pos h.isLt]
theorem stepN_high (d : Dev nD) (t : Fin 15) : stepN (F := F) d (15 + t.val) = stepG oW cc0_scratch3 cc0_scratch4 d t := by
  funext s b
  unfold stepN
  rw [dif_neg (by omega), dif_pos (by omega)]
  congr 1; exact Fin.ext (Nat.add_sub_cancel_left 15 t.val)

/-- The body's two phases are the thirty hops. -/
theorem hops_eq (d : Dev nD) :
    hops.flatMap (fun h => roundL (F := F) (stepR oW cW cc0_scratch1 cc0_scratch2 cc0_scratch3 cc0_scratch4 d h)) ++
      hops.flatMap (fun t => roundL (stepG oW cc0_scratch3 cc0_scratch4 d t)) = hopsL d 0 30 := by
  simp only [← stepN_low, ← stepN_high]
  simp only [hops, List.flatMap_cons, List.flatMap_nil, hopsL, List.append_assoc, List.append_nil, List.nil_append]
  rfl

end Cert.KernelIdeal.Ring
-- ==== Proof.Mem.lean ====
module

public import proofs.«01_k».proof.Proof.Loop

@[expose] public section

/-! The result and the landing scratch, cut into their blocks and put together again. -/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The row block, the direction and the sub-block of an element of the result. -/
def rowOf (i : S2048x2048.Idx) : Fin 16 := ⟨(i 0).val / 128, by have : (i 0).val < 2048 := (i 0).isLt; omega⟩
def dirOf (i : S2048x2048.Idx) : Fin 2 := ⟨(i 1).val / 1024, by have : (i 1).val < 2048 := (i 1).isLt; omega⟩
def subOf (i : S2048x2048.Idx) : Fin 8 := ⟨(i 1).val / 128 % 8, Nat.mod_lt _ (by decide)⟩

/-- The rectangle of a row block of the result. -/
abbrev pR (j : Fin 16) : Rect S2048x2048 := Rect.unit (s := S2048x2048) ![128 * j.val, 0] S128x2048.size (inbP (row_le j))

theorem mem_pR {j : Fin 16} {i : S2048x2048.Idx} : i ∈ (pR j).set ↔ rowOf i = j := by
  rw [Rect.mem_set_unit, Fin.forall_fin_two]
  have h1 : (i 1).val < 2048 := (i 1).isLt
  show (128 * j.val ≤ (i 0).val ∧ (i 0).val < 128 * j.val + 128) ∧ (0 ≤ (i 1).val ∧ (i 1).val < 0 + 2048) ↔ _
  rw [Fin.ext_iff]
  show _ ↔ (i 0).val / 128 = j.val
  omega
theorem mem_oR {j : Fin 16} {b : Fin 2} {s : Fin 8} {i : S2048x2048.Idx} :
    i ∈ (oR j b s).set ↔ rowOf i = j ∧ dirOf i = b ∧ subOf i = s := by
  rw [Rect.mem_set_unit, Fin.forall_fin_two]
  have h1 : (i 1).val < 2048 := (i 1).isLt
  show (128 * j.val ≤ (i 0).val ∧ (i 0).val < 128 * j.val + 128)
    ∧ (1024 * b.val + 128 * s.val ≤ (i 1).val ∧ (i 1).val < 1024 * b.val + 128 * s.val + 128) ↔ _
  rw [Fin.ext_iff, Fin.ext_iff, Fin.ext_iff]
  show _ ↔ (i 0).val / 128 = j.val ∧ (i 1).val / 1024 = b.val ∧ (i 1).val / 128 % 8 = s.val
  omega

/-- Device `p` holds row block `j` of its result. -/
def rowBlk (p : Dev nD) (j : Fin 16) (f : OBuf F) : sProp 𝕄 :=
  iprop(oW.view.loc (p : Thread nD τ) ↦[(pR j).set]{fullShare} f)

theorem oBlk_eq (p : Dev nD) (j : Fin 16) (b : Fin 2) (s : Fin 8) (f : OBuf F) :
    oBlk p j b s f = iprop(oW.view.loc (p : Thread nD τ) ↦[(oR j b s).set]{fullShare} f) := by
  have h : (blkM j b s).view.set = (oR j b s).set := View.set_slice_whole _ _
  unfold oBlk oBlk'
  rw [h]; rfl

theorem out_cover : (Finset.univ : Finset S2048x2048.Idx) = Finset.univ.biUnion fun j : Fin 16 => (pR j).set := by
  ext i
  simp only [Finset.mem_univ, Finset.mem_biUnion, true_and, true_iff]
  exact ⟨rowOf i, mem_pR.mpr rfl⟩

/-- The whole result is its sixteen row blocks. -/
theorem out_rows (p : Dev nD) (f : OBuf F) :
    (iprop(oW.view.loc (p : Thread nD τ) ↦[Finset.univ]{fullShare} f) : sProp 𝕄) = bigSep Finset.univ fun j : Fin 16 => rowBlk p j f := by
  have hu : (Finset.univ : Finset (Idx (oW.view.loc (p : Thread nD τ)))) = Finset.univ.biUnion fun j : Fin 16 => (pR j).set := out_cover
  rw [hu]
  exact pointsTo_biUnion (ℓ := oW.view.loc (p : Thread nD τ)) Finset.univ (fun j : Fin 16 => (pR j).set) fun j _ j' _ hne => by
    rw [Finset.disjoint_left]; intro i h h'
    exact hne ((mem_pR.mp h).symm.trans (mem_pR.mp h'))

/-- A row block is its sixteen blocks. -/
theorem row_blks (p : Dev nD) (j : Fin 16) (f : OBuf F) :
    rowBlk p j f = bigSep Finset.univ fun bs : Fin 2 × Fin 8 => oBlk p j bs.1 bs.2 f := by
  have hu : (pR j).set = Finset.univ.biUnion fun bs : Fin 2 × Fin 8 => (oR j bs.1 bs.2).set := by
    ext i
    simp only [Finset.mem_univ, Finset.mem_biUnion, true_and]
    rw [mem_pR]
    exact ⟨fun h => ⟨(dirOf i, subOf i), mem_oR.mpr ⟨h, rfl, rfl⟩⟩, fun ⟨_, h⟩ => (mem_oR.mp h).1⟩
  unfold rowBlk
  simp only [oBlk_eq]
  rw [hu]
  exact pointsTo_biUnion (ℓ := oW.view.loc (p : Thread nD τ)) Finset.univ (fun bs : Fin 2 × Fin 8 => (oR j bs.1 bs.2).set) fun x _ y _ hne => by
    rw [Finset.disjoint_left]; intro i h h'
    obtain ⟨-, h1, h2⟩ := mem_oR.mp h
    obtain ⟨-, h3, h4⟩ := mem_oR.mp h'
    exact hne (Prod.ext (h1.symm.trans h3) (h2.symm.trans h4))

/-! ## The scratch -/

theorem mem_cR {n : Fin 15} {b : Fin 2} {s : Fin 8} {i : S15x2x8x128x128.Idx} :
    i ∈ (cR n.val b s).set ↔ (i 0).val = n.val ∧ (i 1).val = b.val ∧ (i 2).val = s.val := by
  rw [Rect.mem_set_unit, slot_low]
  have h3 : (i 3).val < 128 := (i 3).isLt
  have h4 : (i 4).val < 128 := (i 4).isLt
  constructor
  · intro h
    have h0 : n.val ≤ (i 0).val ∧ (i 0).val < n.val + 1 := h 0
    have h1 : b.val ≤ (i 1).val ∧ (i 1).val < b.val + 1 := h 1
    have h2 : s.val ≤ (i 2).val ∧ (i 2).val < s.val + 1 := h 2
    omega
  · rintro ⟨h0, h1, h2⟩ a
    fin_cases a
    · show n.val ≤ (i 0).val ∧ (i 0).val < n.val + 1; omega
    · show b.val ≤ (i 1).val ∧ (i 1).val < b.val + 1; omega
    · show s.val ≤ (i 2).val ∧ (i 2).val < s.val + 1; omega
    · show 0 ≤ (i 3).val ∧ (i 3).val < 0 + 128; omega
    · show 0 ≤ (i 4).val ∧ (i 4).val < 0 + 128; omega

theorem cBlk_eq (p : Dev nD) (n : Nat) (b : Fin 2) (s : Fin 8) (g : CBuf F) :
    cBlk p n b s g = iprop(cW.view.loc (p : Thread nD τ) ↦[(cR n b s).set]{fullShare} g) := by
  have h : (slotM n b s).view.set = (cR n b s).set := (View.set_reshape _ _).trans (View.set_slice_whole _ _)
  unfold cBlk
  rw [h]; rfl

/-- The slots of the scratch, by message, direction and sub-block. -/
abbrev Cs : Type := Fin 2 × Fin 8 × Fin 15
abbrev cSet (x : Cs) : Finset S15x2x8x128x128.Idx := (cR x.2.2.val x.1 x.2.1).set

theorem c_cover : (Finset.univ : Finset S15x2x8x128x128.Idx) = Finset.univ.biUnion cSet := by
  ext i
  simp only [Finset.mem_univ, Finset.mem_biUnion, true_and, true_iff]
  exact ⟨(⟨(i 1).val, (i 1).isLt⟩, ⟨(i 2).val, (i 2).isLt⟩, ⟨(i 0).val, (i 0).isLt⟩), mem_cR.mpr ⟨rfl, rfl, rfl⟩⟩
theorem c_disjoint (x : Cs) (_ : x ∈ (Finset.univ : Finset Cs)) (y : Cs) (_ : y ∈ (Finset.univ : Finset Cs)) (hne : x ≠ y) :
    Disjoint (cSet x) (cSet y) := by
  rw [Finset.disjoint_left]; intro i h h'
  obtain ⟨h1, h2, h3⟩ := mem_cR.mp h
  obtain ⟨h4, h5, h6⟩ := mem_cR.mp h'
  exact hne (Prod.ext (Fin.ext (h2.symm.trans h5)) (Prod.ext (Fin.ext (h3.symm.trans h6)) (Fin.ext (h1.symm.trans h4))))

theorem cBlk_some (p : Dev nD) (x : Cs) (g : CBuf F) :
    (iprop(cW.view.loc (p : Thread nD τ) ↦[cSet x]{fullShare} g) : sProp 𝕄) ⊢ iprop(∃ g, cBlk (F := F) p x.2.2.val x.1 x.2.1 g) := by
  rw [← cBlk_eq]
  iintro H; iexists g; iexact H

/-- The whole scratch gives its slots. -/
theorem scr_split (p : Dev nD) (g : CBuf F) :
    (iprop(cW.view.loc (p : Thread nD τ) ↦[Finset.univ]{fullShare} g) : sProp 𝕄)
      ⊢ bigSep Finset.univ fun x : Cs => iprop(∃ g, cBlk (F := F) p x.2.2.val x.1 x.2.1 g) := by
  have hu : (Finset.univ : Finset (Idx (cW.view.loc (p : Thread nD τ)))) = Finset.univ.biUnion cSet := c_cover
  rw [hu]
  refine (Entails.of_eq (pointsTo_biUnion (ℓ := cW.view.loc (p : Thread nD τ)) Finset.univ cSet c_disjoint)).trans (bigSep_mono fun x _ => ?_)
  exact cBlk_some p x g

/-- The slots give the whole scratch, at some contents. -/
theorem scr_join (p : Dev nD) (g₀ : CBuf F) :
    (bigSep Finset.univ fun x : Cs => iprop(∃ g, cBlk (F := F) p x.2.2.val x.1 x.2.1 g))
      ⊢ (iprop(∃ g : CBuf F, cW.view.loc (p : Thread nD τ) ↦[Finset.univ]{fullShare} g) : sProp 𝕄) := by
  haveI : ∀ _ : Cs, Nonempty (CBuf F) := fun _ => ⟨g₀⟩
  have e : (fun x : Cs => iprop(∃ g, cBlk (F := F) p x.2.2.val x.1 x.2.1 g))
      = fun x : Cs => iprop(∃ g : CBuf F, cW.view.loc (p : Thread nD τ) ↦[cSet x]{fullShare} g) := by
    funext x
    refine congrArg _ (funext fun g => ?_)
    exact cBlk_eq p x.2.2.val x.1 x.2.1 g
  rw [e]
  refine (bigSep_exists_pi Finset.univ (fun x (g : CBuf F) => (iprop(cW.view.loc (p : Thread nD τ) ↦[cSet x]{fullShare} g) : sProp 𝕄))).trans ?_
  iintro ⟨%fs, H⟩
  ihave H' := (pointsTo_biUnion_join (ℓ := cW.view.loc (p : Thread nD τ)) Finset.univ cSet fs g₀ c_disjoint) $$ H
  icases H' with ⟨%g, -, H'⟩
  iexists g
  have hu : (Finset.univ : Finset (Idx (cW.view.loc (p : Thread nD τ)))) = Finset.univ.biUnion cSet := c_cover
  rw [hu]
  iexact H'

end Cert.KernelIdeal.Ring
-- ==== Proof.Gemm.lean ====
module

public import proofs.«01_k».proof.Proof.Mem
public import Idealize.ShloMosaic.Lib.ValueIdxCore
public import Idealize.ShloMosaic.Lib.SparseCore.Launch

@[expose] public section

/-! The sixteen partial products. -/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Shapes1.Facts₀ Cert.KernelIdeal.K0.Facts₀ Cert.KernelIdeal.Facts₀

variable {F : FTy → Type} [FloatOps F]

local notation "𝕄" => MT nD τ sig Unit (Elt F) ℕ UU ℕ

abbrev XBuf (F : FTy → Type) : Type := cc0_stg0_0.ty.Contents (Elt F)
abbrev WBuf (F : FTy → Type) : Type := cc0_stg1_0.ty.Contents (Elt F)

/-- The rectangles a partial product reads. -/
abbrev xR (j : Fin 16) : Rect S2048x128 := Rect.unit (s := S2048x128) ![128 * j.val, 0] S128x128.size (inbX (row_le j))
abbrev wR : Rect S128x2048 := Rect.unit (s := S128x2048) ![0, 0] S128x2048.size inb_S128x2048_S128x2048_0_0

/-- Row block `j` of the left operand times the right operand. -/
def gemmV (x : XBuf F) (w : WBuf F) (j : Fin 16) : FVec F S128x2048 .f32 :=
  matmul dot_S128x128_S128x2048_S128x2048_1_0_0_1_n_n none (shapeCast S128x128 ((xW.access (xR j)).read (Elt F) x) shapeCasts_S128x128_S128x128)
    (shapeCast S128x2048 ((wW.access wR).read (Elt F) w) shapeCasts_S128x2048_S128x2048) (constant S128x2048 .f32 0x00000000#32)

/-- An element's place in its row block. -/
def posOf (i : S2048x2048.Idx) : S128x2048.Idx :=
  ix2 (n0 := 128) (n1 := 2048) ⟨(i 0).val % 128, Nat.mod_lt _ (by decide)⟩ ⟨(i 1).val, (i 1).isLt⟩

/-- The whole partial product of a device. -/
def G (x : XBuf F) (w : WBuf F) : OBuf F := fun i => gemmV x w (rowOf i) (posOf i)

theorem row_emb (j : Fin 16) (y : S128x2048.Idx) : rowOf ((pR j).emb y) = j ∧ posOf ((pR j).emb y) = y := by
  have h0 : (y 0).val < 128 := (y 0).isLt
  refine ⟨Fin.ext ?_, funext fun a => Fin.ext ?_⟩
  · show (128 * j.val + 1 * (y 0).val) / 128 = j.val; omega
  · match a with
    | ⟨0, _⟩ => show (128 * j.val + 1 * (y 0).val) % 128 = (y 0).val; omega
    | ⟨1, _⟩ => show 0 + 1 * (y 1).val = (y 1).val; omega

/-- Device `p` holds its two operands. -/
def ops (p : Dev nD) (x : XBuf F) (w : WBuf F) : sProp 𝕄 :=
  iprop((xW.view.loc (p : Thread nD τ) ↦[Finset.univ]{fullShare} x) ∗ (wW.view.loc (p : Thread nD τ) ↦[Finset.univ]{fullShare} w))

variable (p : Dev nD) (x : XBuf F) (w : WBuf F)

/-- One partial product. -/
theorem wp_gemm (j : Fin 16) {α : Type} {Q : α → sProp 𝕄} {k : PUnit → Prog (TpuEff nD τ sig (Elt F) Λ₀ .tc) α} :
    iprop(ops p x w ∗ (∃ f, rowBlk p j f))
      ⊢ iprop(((ops p x w ∗ rowBlk p j (G x w)) -∗ wpp p (k ⟨⟩) Q) -∗ wpp p (gemmI xW wW oW (row_le j) >>= k) Q) := by
  unfold gemmI ops
  simp only [Prog.lift, Prog.bind_op, Prog.bind_ret]
  have hset : (oW.access (pR j)).set = (pR j).set := View.set_slice_whole _ _
  have hO : ∀ f : OBuf F, rowBlk p j f = ((oW.access (pR j)).loc (p : Thread nD τ) ↦[(oW.access (pR j)).set]{fullShare} f) := fun f => by
    unfold rowBlk; rw [hset]
  iintro ⟨⟨Hx, Hw⟩, ⟨%f, Ho⟩⟩ Hk
  ihave Ho := (Entails.of_eq (hO f)) $$ Ho
  iapply (wp_load_rect 𝒱₀ (p : Thread nD τ) none Set.univ (m := xW) (r := xR j) (Finset.subset_univ _)) $$ Hx; iintro Hx
  iapply (wp_load_rect 𝒱₀ (p : Thread nD τ) none Set.univ (m := wW) (r := wR) (Finset.subset_univ _)) $$ Hw; iintro Hw
  iapply (wp_load_rect 𝒱₀ (p : Thread nD τ) none Set.univ (m := oW) (r := pR j) (Finset.Subset.refl _)) $$ Ho; iintro Ho
  iapply (wp_store 𝒱₀ (p : Thread nD τ) none Set.univ (m := oW) (r := pR j) (Mk := Finset.univ) (S := (oW.access (pR j)).set) (Finset.Subset.refl _)) $$ Ho; iintro Ho
  iapply Hk
  isplitl [Hx Hw]
  · isplitl [Hx] <;> iassumption
  · have e : ∀ i ∈ (oW.access (pR j)).set, (oW.access (pR j)).write (Elt F) f (gemmV x w j) Finset.univ i = G x w i := by
      intro i hi
      obtain ⟨y, -, rfl⟩ := Finset.mem_map.mp hi
      rw [View.write_emb_of_mem _ _ (Finset.mem_univ _)]
      obtain ⟨h1, h2⟩ := row_emb j y
      show gemmV x w j y = gemmV x w (rowOf ((pR j).emb y)) (posOf ((pR j).emb y))
      rw [h1, h2]
    ihave H := (Entails.of_eq (pointsTo_congr e)) $$ Ho
    iapply (Entails.of_eq (hO (G x w)).symm); iexact H

omit [FloatOps F] in
/-- One member of a family taken out. -/
theorem big_erase {I : Type} [DecidableEq I] {s : Finset I} {i : I} (hi : i ∈ s) (Φ : I → sProp 𝕄) :
    bigSep s Φ = iprop(Φ i ∗ bigSep (s.erase i) Φ) := BI.bigSep_erase hi

/-- The row blocks of `S`: those of `done` hold their products. -/
def gems (S done : Finset (Fin 16)) : sProp 𝕄 :=
  bigSep S fun j => if j ∈ done then rowBlk p j (G x w) else iprop(∃ f, rowBlk p j f)

theorem gems_step (S done : Finset (Fin 16)) {j : Fin 16} (hj : j ∈ S) {α : Type} {Q : α → sProp 𝕄} {k : PUnit → Prog (TpuEff nD τ sig (Elt F) Λ₀ .tc) α} :
    iprop(ops p x w ∗ gems p x w S done)
      ⊢ iprop(((ops p x w ∗ gems p x w S (insert j done)) -∗ wpp p (k ⟨⟩) Q) -∗ wpp p (gemmI xW wW oW (row_le j) >>= k) Q) := by
  unfold gems
  rw [big_erase hj, big_erase hj (fun i => if i ∈ insert j done then rowBlk p i (G x w) else iprop(∃ f, rowBlk p i f)),
    if_pos (Finset.mem_insert_self j done)]
  have hr : bigSep (S.erase j) (fun i => if i ∈ insert j done then rowBlk p i (G x w) else iprop(∃ f, rowBlk p i f))
      = bigSep (S.erase j) (fun i => if i ∈ done then rowBlk p i (G x w) else iprop(∃ f, rowBlk p i f)) :=
    bigSep_congr fun i hi => by
      have : i ≠ j := (Finset.mem_erase.mp hi).1
      by_cases h : i ∈ done
      · rw [if_pos h, if_pos (Finset.mem_insert_of_mem h)]
      · rw [if_neg h, if_neg (fun h' => (Finset.mem_insert.mp h').elim this h)]
  rw [hr]
  have h1 : (if j ∈ done then rowBlk p j (G x w) else iprop(∃ f, rowBlk p j f)) ⊢ iprop(∃ f, rowBlk p j f) := by
    split
    · iintro H; iexists _; iexact H
    · exact BI.Entails.refl _
  iintro ⟨Ho, Hj, Hs⟩ Hk
  iapply (wp_gemm p x w j) $$ [Ho Hj]
  · isplitl [Ho]; · iexact Ho
    iapply h1; iexact Hj
  iintro ⟨Ho, Hj⟩
  iapply Hk
  isplitl [Ho]; · iexact Ho
  isplitl [Hj] <;> iassumption

theorem gems_loop (S : Finset (Fin 16)) {α : Type} {Q : α → sProp 𝕄} {q : Prog (TpuEff nD τ sig (Elt F) Λ₀ .tc) α} :
    ∀ (js : List (Fin 16)) (done : Finset (Fin 16)) (_ : ∀ j ∈ js, j ∈ S),
    iprop(ops p x w ∗ gems p x w S done)
      ⊢ iprop(((ops p x w ∗ gems p x w S (done ∪ js.toFinset)) -∗ wpp p q Q) -∗ wpp p (seqK (js.map fun j => gemmI xW wW oW (row_le j)) q) Q)
  | [], done, _ => by
    rw [List.toFinset_nil, Finset.union_empty]
    iintro H Hk; iapply Hk; iexact H
  | j :: js, done, h => by
    have e : done ∪ (j :: js).toFinset = insert j done ∪ js.toFinset := by
      ext i; simp only [List.toFinset_cons, Finset.mem_union, Finset.mem_insert]; tauto
    rw [e]
    iintro H Hk
    iapply (gems_step p x w S done (h j List.mem_cons_self)) $$ H
    iintro H
    iapply (gems_loop S js (insert j done) fun i hi => h i (List.mem_cons_of_mem _ hi)) $$ H
    iexact Hk

/-- The row blocks in the order the body computes them, after its own. -/
def prodJ (d : Dev nD) : List (Fin 16) := [1, 2, 3, 4, 5, 6, 7].flatMap (fun j => [ck d 0 j, ck d 1 j]) ++ [ck d 0 8]

theorem gemmI_eq {r : Nat} {hr : r + 128 ≤ 2048} {j : Fin 16} (e : r = 128 * j.val) : gemmI (F := F) xW wW oW hr = gemmI xW wW oW (row_le j) := by
  subst e; rfl

theorem prodL_eq (d : Dev nD) : prodL (F := F) xW wW oW d = (prodJ d).map fun j => gemmI xW wW oW (row_le j) := by
  unfold prodL prodJ
  simp only [List.flatMap_cons, List.flatMap_nil, List.map_append, List.map_cons, List.map_nil, List.append_assoc, List.cons_append, List.nil_append, List.append_nil]
  have h : ∀ (b : Fin 2) (j : Fin 15), gemmI (F := F) xW wW oW (rowP_le d b j) = gemmI xW wW oW (row_le (ck d b j.val)) :=
    fun b j => gemmI_eq (rowP_eq d b j)
  simp only [h]

theorem prodJ_all : ∀ (d : Dev nD) (j : Fin 16), j ∈ prodJ d ↔ j ≠ ck d 0 0 := by decide +kernel

end Cert.KernelIdeal.Ring
-- ==== Proof.Ends.lean ====
module

public import proofs.«01_k».proof.Proof.Gemm
public import Idealize.ShloMosaic.Lib.SparseCore.Launch

@[expose] public section

/-! What the lanes start from and end with, over all blocks at once. -/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Shapes1.Facts₀ Cert.KernelIdeal.K0.Facts₀ Cert.KernelIdeal.Facts₀

variable {F : FTy → Type} [FloatOps F]

local notation "𝕄" => MT nD τ sig Unit (Elt F) ℕ UU ℕ

variable (X : Dev nD → OBuf F) (p : Dev nD) (b : Fin 2) (s : Fin 8)

/-! ## Segments and families -/

omit [FloatOps F] in
theorem sep_assoc_eq (P Q R : sProp 𝕄) : iprop((P ∗ Q) ∗ R) = iprop(P ∗ Q ∗ R) := equiv_iff.mp ⟨BI.sep_assoc, BI.sep_assoc'⟩
omit [FloatOps F] in
theorem sep_emp_eq (P : sProp 𝕄) : iprop(P ∗ emp) = P := equiv_iff.mp BI.sep_emp
omit [FloatOps F] in
theorem emp_sep_eq (P : sProp 𝕄) : iprop(emp ∗ P) = P := equiv_iff.mp BI.emp_sep

omit [FloatOps F] in
theorem seg_eq (Φ : ℕ → sProp 𝕄) : ∀ (k a : ℕ), seg Φ a k = bigSep (Finset.Ico a (a + k)) Φ
  | 0, a => by rw [seg_zero, Nat.add_zero, Finset.Ico_self]; rfl
  | k + 1, a => by
    rw [seg, seg_eq Φ k (a + 1), show a + 1 + k = a + (k + 1) by omega, show Finset.Ico a (a + (k + 1)) = insert a (Finset.Ico (a + 1) (a + (k + 1))) by
      ext i; simp only [Finset.mem_insert, Finset.mem_Ico]; omega]
    exact (BI.bigSep_insert (by simp)).symm

omit [FloatOps F] in
theorem seg_fin (Φ : ℕ → sProp 𝕄) (k : ℕ) : seg Φ 0 k = bigSep Finset.univ fun n : Fin k => Φ n.val := by
  rw [seg_eq, Nat.zero_add]
  have h : Finset.Ico 0 k = (Finset.univ : Finset (Fin k)).map Fin.valEmbedding := by
    ext i; simp only [Finset.mem_Ico, Finset.mem_map, Finset.mem_univ, true_and, Fin.valEmbedding_apply]
    exact ⟨fun h => ⟨⟨i, h.2⟩, rfl⟩, fun ⟨x, hx⟩ => hx ▸ ⟨Nat.zero_le _, x.isLt⟩⟩
  rw [h, bigSep_map]; rfl

omit [FloatOps F] in
theorem seg_sep (Φ Ψ : ℕ → sProp 𝕄) (a k : ℕ) : seg (fun n => iprop(Φ n ∗ Ψ n)) a k = iprop(seg Φ a k ∗ seg Ψ a k) := by
  rw [seg_eq, seg_eq, seg_eq, bigSep_sep']

omit [FloatOps F] in
theorem seg_congr {Φ Ψ : ℕ → sProp 𝕄} {a k : ℕ} (h : ∀ n, a ≤ n → n < a + k → Φ n = Ψ n) : seg Φ a k = seg Ψ a k := by
  rw [seg_eq, seg_eq]; exact bigSep_congr fun n hn => h n (Finset.mem_Ico.mp hn).1 (Finset.mem_Ico.mp hn).2

omit [FloatOps F] in
theorem seg_add (Φ : ℕ → sProp 𝕄) : ∀ (k a l : ℕ), seg Φ a (k + l) = iprop(seg Φ a k ∗ seg Φ (a + k) l)
  | 0, a, l => by rw [seg_zero, Nat.zero_add, Nat.add_zero, emp_sep_eq]
  | k + 1, a, l => by
    rw [show k + 1 + l = (k + l) + 1 by omega, seg, seg, seg_add Φ k (a + 1) l, show a + 1 + k = a + (k + 1) by omega, sep_assoc_eq]

/-- A family over a list of sub-blocks. -/
def fam (Φ : Fin 8 → sProp 𝕄) : List (Fin 8) → sProp 𝕄
  | [] => iprop(emp)
  | s :: ss => iprop(Φ s ∗ fam Φ ss)

omit [FloatOps F] in
theorem fam_eq (Φ : Fin 8 → sProp 𝕄) : ∀ ss : List (Fin 8), ss.Nodup → fam Φ ss = bigSep ss.toFinset Φ
  | [], _ => rfl
  | s :: ss, h => by
    rw [List.toFinset_cons, fam, fam_eq Φ ss (List.nodup_cons.mp h).2]
    exact (BI.bigSep_insert (by rw [List.mem_toFinset]; exact (List.nodup_cons.mp h).1)).symm

omit [FloatOps F] in
theorem fam_subs (Φ : Fin 8 → sProp 𝕄) : fam Φ subs = bigSep Finset.univ Φ := by
  rw [fam_eq Φ subs (by decide), show subs.toFinset = Finset.univ by decide]

theorem lanes_fam (n : Nat) : ∀ ss : List (Fin 8), lanes X p n ss = fam (fun s => iprop(lane X p n 0 s ∗ lane X p n 1 s)) ss
  | [] => rfl
  | s :: ss => by rw [lanes, fam, lanes_fam n ss]

/-- A direction's sub-block. -/
abbrev BS : Type := Fin 2 × Fin 8

omit [FloatOps F] in
theorem bs_two (Φ : BS → sProp 𝕄) :
    bigSep Finset.univ Φ = iprop((bigSep Finset.univ fun s : Fin 8 => Φ (0, s)) ∗ bigSep Finset.univ fun s : Fin 8 => Φ (1, s)) := by
  rw [bigSep_univ_prod, bigSep_univ_two]

theorem lanes_eq (n : Nat) : lanes X p n subs = bigSep Finset.univ fun x : BS => lane X p n x.1 x.2 := by
  rw [lanes_fam, fam_subs, bigSep_sep', bs_two]

/-! ## The blocks in the order the messages take them -/

theorem ck_inj1 : ∀ (p : Dev nD) (b : Fin 2), ∀ x ∈ Finset.Ico 1 16, ∀ y ∈ Finset.Ico 1 16, ck p b x = ck p b y → x = y := by decide +kernel
theorem ck_img1 : ∀ (p : Dev nD) (b : Fin 2), (Finset.Ico 1 16).image (ck p b) = Finset.univ.erase (ck p 0 0) := by decide +kernel
theorem ck_inj15 : ∀ (p : Dev nD) (b : Fin 2), ∀ x ∈ Finset.Ico 15 31, ∀ y ∈ Finset.Ico 15 31, ck p b x = ck p b y → x = y := by decide +kernel
theorem ck_img15 : ∀ (p : Dev nD) (b : Fin 2), (Finset.Ico 15 31).image (ck p b) = Finset.univ := by decide +kernel
theorem ck_00 : ∀ (p : Dev nD) (b : Fin 2), ck p 0 0 = ck p b 0 := by decide +kernel

omit [FloatOps F] in
theorem others_eq (Φ : Fin 16 → sProp 𝕄) : bigSep (Finset.univ.erase (ck p 0 0)) Φ = seg (fun n => Φ (ck p b n)) 1 15 := by
  rw [← ck_img1 p b, SparseCore.bigSep_image_of_injOn (fun x hx y hy => ck_inj1 p b x hx y hy), seg_eq]

omit [FloatOps F] in
theorem all_eq (Φ : Fin 16 → sProp 𝕄) : bigSep Finset.univ Φ = seg (fun n => Φ (ck p b n)) 15 16 := by
  rw [← ck_img15 p b, SparseCore.bigSep_image_of_injOn (fun x hx y hy => ck_inj15 p b x hx y hy), seg_eq]

/-! ## Before the hops -/

/-- A message's tokens and its receiver's credit. -/
def tk (n : Nat) : sProp 𝕄 :=
  iprop(atPos ER (sndCell p n b s) 0 ∅ 0 ∗ atPos ER (rcvCell p n b s) 0 ∅ 0 ∗ cred (tallyAt (rcvCell p n b s) () NN)
    ∗ dutyTok ER (sndCell p n b s) 0 (0 : Fin 2) ∗ dutyTok ER (rcvCell (nbr p b) n b s) 0 (0 : Fin 2))

/-- What a lane holds before its first message is started. -/
def pre0 : sProp 𝕄 := iprop(oBlk p (ck p b 0) b s (X p) ∗ seg (fun k => dst p b k s) 0 15 ∗ seg (tk p b s) 0 30)
/-- What a lane holds once its first message is started, without the other blocks. -/
def mid0 : sProp 𝕄 := iprop(cur X p b s 0 ∗ seg (fun k => dst p b k s) 1 14 ∗ seg (tk p b s) 1 29)

theorem pre0_open : pre0 X p b s ⊢ iprop(startPre X p (n := 0) b s ∗ (cred (tallyAt (sndCell p 0 b s) () NN) -∗ mid0 X p b s)) := by
  unfold pre0 mid0 startPre cur
  rw [if_pos (by decide), show seg (fun k => dst (F := F) p b k s) 0 15 = iprop(dst p b 0 s ∗ seg (fun k => dst p b k s) 1 14) from rfl,
    show seg (tk (F := F) p b s) 0 30 = iprop(tk p b s 0 ∗ seg (tk p b s) 1 29) from rfl, show rel (F := F) p b 0 s = iprop(emp) by unfold rel; rw [if_neg (by omega)]]
  unfold tk
  iintro ⟨Ho, ⟨Hd, Hds⟩, ⟨⟨H1, H2, H3, H4, H5⟩, Hts⟩⟩
  isplitl [Ho Hd H4 H5]
  · isplitl [Ho]; · iexact Ho
    isplitl [Hd]; · iexact Hd
    isplitr; · iempintro
    isplitl [H4] <;> iassumption
  iintro Hc
  isplitl [H1 H2 H3 Hc]
  · isplitl [H1]; · iexact H1
    isplitl [H2]; · iexact H2
    isplitl [H3] <;> iassumption
  isplitl [Hds] <;> iassumption

theorem fut_seg : seg (fut X p b s) 1 29 = iprop(seg (tk p b s) 1 29 ∗ seg (fun n => oBlk p (ck p b n) b s (X p)) 1 15) := by
  have h1 : seg (fut X p b s) 1 29 = seg (fun n => iprop(tk p b s n ∗ if n ≤ 15 then oBlk p (ck p b n) b s (X p) else iprop(emp))) 1 29 :=
    seg_congr fun n _ _ => by unfold fut tk; simp only [sep_assoc_eq]
  have h2 : seg (fun n => if n ≤ 15 then oBlk p (ck p b n) b s (X p) else iprop(emp)) 1 15 = seg (fun n => oBlk p (ck p b n) b s (X p)) 1 15 :=
    seg_congr fun n _ h => if_pos (by omega)
  have h3 : seg (fun n => if n ≤ 15 then oBlk p (ck p b n) b s (X p) else iprop(emp)) (1 + 15) 14 = iprop(emp) := by
    rw [seg_congr (Ψ := fun _ => iprop(emp)) fun n h _ => if_neg (by omega), seg_eq]; exact bigSep_emp_const _
  rw [h1, seg_sep, show (29 : ℕ) = 15 + 14 from rfl, seg_add (fun n => if n ≤ 15 then oBlk p (ck p b n) b s (X p) else iprop(emp)), h2, h3, sep_emp_eq]

theorem lane_zero : iprop(mid0 X p b s ∗ seg (fun n => oBlk p (ck p b n) b s (X p)) 1 15) ⊢ lane X p 0 b s := by
  unfold lane mid0
  rw [Nat.zero_add, Nat.sub_zero, show upTo 0 - 1 = 14 by decide, seg_zero, fut_seg, show rel (F := F) p b 1 s = iprop(emp) by unfold rel; rw [if_neg (by omega)]]
  iintro ⟨⟨Hc, Hd, Ht⟩, Ho⟩
  isplitl [Hc]; · iexact Hc
  isplitl [Ht Ho]
  · isplitl [Ht] <;> iassumption
  isplitr; · iempintro
  isplitl [Hd]; · iexact Hd
  iempintro

/-! ## After the hops -/

/-- The device whose last sum of row block `j` is the whole sum, in direction `b`. -/
def own (b : Fin 2) (j : Fin 16) : Dev nD := ⟨(j.val + bif b.val == 0 then 15 else 1) % 16, Nat.mod_lt _ (by decide)⟩
theorem own_ck : ∀ (p : Dev nD) (b : Fin 2), own b (ck p b 15) = p := by decide +kernel

/-- The result, element by element. -/
def FIN : OBuf F := fun i => acc X 15 (own (dirOf i) (rowOf i)) (dirOf i) i

theorem acc_fin (m : Nat) : ∀ (q : Dev nD) (i : S2048x2048.Idx), rowOf i = ck q b (15 + m) → dirOf i = b → acc X (15 + m) q b i = FIN X i := by
  induction m with
  | zero => intro q i h1 h2; unfold FIN; rw [h1, h2, own_ck q b]
  | succ m ih =>
    intro q i h1 h2
    rw [show 15 + (m + 1) = (15 + m) + 1 by omega, acc_pass X (by omega)]
    refine ih (nbr q (flip b)) i ?_ h2
    rw [h1, ← ck_nbr (nbr q (flip b)) b (15 + m), nbr_flip']; rfl

theorem blk_fin {n : Nat} (h : 15 ≤ n) : oBlk p (ck p b n) b s (acc X n p b) = oBlk p (ck p b n) b s (FIN X) := by
  obtain ⟨m, rfl⟩ := Nat.exists_eq_add_of_le h
  rw [oBlk_eq, oBlk_eq]
  refine pointsTo_congr fun i hi => ?_
  obtain ⟨h1, h2, -⟩ := mem_oR.mp hi
  exact acc_fin X b m p i h1 h2

/-- What a lane ends with. -/
def fin0 : sProp 𝕄 :=
  iprop(seg (fun n => iprop(semVal (sndCell p n b s) 0 ∗ semVal (rcvCell p n b s) 0)) 0 30
    ∗ seg (fun n => iprop(∃ g, cBlk p n b s g)) 0 15 ∗ bigSep Finset.univ fun j : Fin 16 => oBlk p j b s (FIN X))

theorem past_seg : iprop(seg (past X p b s) 0 30 ∗ oBlk p (ck p b 30) b s (acc X 30 p b)) ⊢ fin0 X p b s := by
  have h1 : seg (past X p b s) 0 30 = seg (fun n => iprop(iprop(semVal (sndCell p n b s) 0 ∗ semVal (rcvCell p n b s) 0)
      ∗ if n < 15 then iprop(∃ g, cBlk p n b s g) else oBlk p (ck p b n) b s (acc X n p b))) 0 30 :=
    seg_congr fun n _ _ => by unfold past; rw [sep_assoc_eq]
  have h2 : seg (fun n => if n < 15 then iprop(∃ g, cBlk p n b s g) else oBlk p (ck p b n) b s (acc X n p b)) 0 15 = seg (fun n => iprop(∃ g, cBlk p n b s g)) 0 15 :=
    seg_congr fun n _ h => if_pos (by omega)
  have h3 : seg (fun n => if n < 15 then iprop(∃ g, cBlk p n b s g) else oBlk p (ck p b n) b s (acc X n p b)) (0 + 15) 15
      = seg (fun n => oBlk p (ck p b n) b s (FIN X)) 15 15 :=
    seg_congr fun n h _ => by rw [if_neg (by omega)]; exact blk_fin X p b s (by omega)
  unfold fin0
  rw [h1, seg_sep, show seg (fun n => if n < 15 then iprop(∃ g, cBlk p n b s g) else oBlk p (ck p b n) b s (acc X n p b)) 0 30 = _ from seg_add _ 15 0 15, h2, h3,
    blk_fin X p b s (by omega), all_eq p b (fun j => oBlk p j b s (FIN X))]
  iintro ⟨⟨Hz, Hs, Ho⟩, Hl⟩
  isplitl [Hz]; · iexact Hz
  isplitl [Hs]; · iexact Hs
  iapply (seg_snoc (fun n => oBlk p (ck p b n) b s (FIN X)) 15 15)
  isplitl [Ho] <;> iassumption

theorem lane_end : lane X p 30 b s ⊢ fin0 X p b s := by
  refine BIBase.Entails.trans ?_ (past_seg X p b s)
  unfold lane cur
  rw [if_neg (by omega)]
  iintro ⟨Hc, -, Hp, -, -⟩
  isplitl [Hp] <;> iassumption

end Cert.KernelIdeal.Ring
-- ==== Proof.Head.lean ====
module

public import proofs.«01_k».proof.Proof.Ends

@[expose] public section

/-! The whole body of one device. -/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Shapes1.Facts₀ Cert.KernelIdeal.K0.Facts₀ Cert.KernelIdeal.Facts₀

variable {F : FTy → Type} [FloatOps F]

local notation "𝕄" => MT nD τ sig Unit (Elt F) ℕ UU ℕ

variable (X : Dev nD → OBuf F) (K : Dev nD × Cx → ℕ) (p : Dev nD) (b : Fin 2)

/-! ## The scratch, by direction -/

/-- Device `p`'s scratch slots of direction `b`. -/
def slots (p : Dev nD) (b : Fin 2) : sProp 𝕄 :=
  bigSep Finset.univ fun s : Fin 8 => bigSep (Finset.range 15) fun n => iprop(∃ g, cBlk (F := F) p n b s g)

theorem slots_seg : slots (F := F) p b = bigSep Finset.univ fun s : Fin 8 => seg (fun n => iprop(∃ g, cBlk (F := F) p n b s g)) 0 15 :=
  bigSep_congr fun s _ => by rw [seg_eq, Nat.zero_add, Finset.range_eq_Ico]

theorem slots_two : (bigSep Finset.univ fun x : Cs => iprop(∃ g, cBlk (F := F) p x.2.2.val x.1 x.2.1 g)) = iprop(slots p 0 ∗ slots p 1) := by
  rw [bigSep_univ_prod, bigSep_univ_two, slots_seg, slots_seg]
  have h : ∀ b : Fin 2, (bigSep Finset.univ fun y : Fin 8 × Fin 15 => iprop(∃ g, cBlk (F := F) p y.2.val b y.1 g))
      = bigSep Finset.univ fun s : Fin 8 => seg (fun n => iprop(∃ g, cBlk (F := F) p n b s g)) 0 15 := fun b => by
    rw [bigSep_univ_prod]; exact bigSep_congr fun s _ => by rw [seg_fin]
  exact congrArg₂ _ (h 0) (h 1)

theorem barPay_slots : barPay (F := F) p b = slots (nbr p b) b := rfl

theorem slots_dst : slots (F := F) (nbr p b) b = bigSep Finset.univ fun s : Fin 8 => seg (fun k => dst p b k s) 0 15 := by
  rw [slots_seg]
  exact bigSep_congr fun s _ => seg_congr fun n _ h => by unfold dst; rw [if_pos (by omega)]

/-! ## The barrier -/

/-- Telling a neighbour that this device's slots are ready. -/
theorem wp_tell {O : CellTallies nD τ sig Unit} {q d' : Dev nD} (hd : q = d') (hq : nbr q b = p)
    {α : Type} {Q : α → sProp 𝕄} {k : PUnit → Prog (TpuEff nD τ sig (Elt F) Λ₀ .tc) α} :
    iprop(env X K ∗ dutyTok ER (barCell q) 0 b ∗ slots p b
        ∗ (∃ W, owes (p : Thread nD τ) (O + tallyAt (barCell q) () 1) W))
      ⊢ iprop(((∃ W, owes (p : Thread nD τ) O W) -∗ wpp p (k ⟨⟩) Q) -∗ wpp p (semSignalWord d' barS 1#32 >>= k) Q) := by
  subst hd
  simp only [semSignalWord, Prog.lift, Prog.bind_op, Prog.bind_ret]
  iintro ⟨#HE, Ht, Hs, ⟨%W, HO⟩⟩ Hk
  iapply (Rounds.wp_signal 𝒱₀ ER (Rd X) (p : Thread nD τ) none (dst := (q : Thread nD τ)) (κ := kBar K q)
      (d := b) (by rw [duties_bar]; exact Finset.mem_univ _) (by rfl) () O rfl) $$ [HO Ht Hs]
  · isplitr; · iapply (inv_bar X K q); iexact HE
    isplitl [HO]; · iexact HO
    isplitl [Ht]; · iexact Ht
    isplitl [Hs]
    · rw [payload_bar, barPay_slots, hq]; iexact Hs
    iapply (reached_bar X K q); iexact HE
  iintro HO
  iapply Hk
  iexists W; iexact HO

/-- Hearing from both neighbours. -/
theorem wp_hear {l : List Msg} (hl : ∀ x ∈ l, x.1 < 30)
    {α : Type} {Q : α → sProp 𝕄} {k : PUnit → Prog (TpuEff nD τ sig (Elt F) Λ₀ .tc) α} :
    iprop(env X K ∗ cred (tallyAt (barCell p) () 2) ∗ owed p l ∗ atPos ER (barCell p) 0 ∅ 0)
      ⊢ iprop(((owed p l ∗ semVal (barCell p) 0 ∗ slots (nbr p 0) 0 ∗ slots (nbr p 1) 1) -∗ wpp p (k ⟨⟩) Q)
          -∗ wpp p (semWaitWord barS 2#32 >>= k) Q) := by
  simp only [semWaitWord, Prog.lift, Prog.bind_op, Prog.bind_ret]
  unfold owed
  iintro ⟨#HE, Hc, ⟨%W, HO⟩, Hat⟩ Hk
  iapply (Rounds.wp_wait_rest_token 𝒱₀ ER (Rd X) (p : Thread nD τ) none (κ := kBar K p)
      (wpE_semWait_eq 𝒱₀ (p : Thread nD τ) none Set.univ) (Set.mem_univ _) () (O := dues p l) (W := W) (R := 0) (m := 0) (T := ∅)
      (by rw [expect_bar]; decide)) $$ [Hc HO Hat]
  · isplitr; · iapply (inv_bar X K p); iexact HE
    isplitl [Hc]; · iexact Hc
    isplitl [HO]; · iexact HO
    isplitr
    · iapply (env_wait X K p (.reg barS) l fun x hx => ⟨hl x hx, by show 1 < x.1 + 2; omega⟩); iexact HE
    iexact Hat
  iintro ⟨HO, Hat, -, Hpay⟩
  ihave Hp := (Entails.of_eq (rest_bar X p)) $$ Hpay
  icases Hp with ⟨H0, H1⟩
  imod (Rounds.cell_close ER (Rd X) (Set.mem_univ (kBar K p)) (fun h => h) (R := 0 + 1) (duties_later X (barCell p))) $$ [Hat] with Hz
  · isplitr; · iapply (inv_bar X K p); iexact HE
    iexact Hat
  iapply Hk
  isplitl [HO]; · iexists _; iexact HO
  isplitl [Hz]; · iexact Hz
  isplitl [H0]; · iapply (Entails.of_eq (barPay_slots p 0)); iexact H0
  iapply (Entails.of_eq (barPay_slots p 1)); iexact H1

/-! ## The first sends -/

theorem sends_loop {d' : Dev nD} (hd : d' = nbr p b) {r : Nat} {hr : r + 128 ≤ 2048} (e : r = 128 * (ck p b 0).val) (l : List Msg)
    {α : Type} {Q : α → sProp 𝕄} {q : Prog (TpuEff nD τ sig (Elt F) Λ₀ .tc) α} : ∀ ss : List (Fin 8),
    iprop(env X K ∗ fam (pre0 X p b) ss ∗ owed p (ss.map (fun s => ((0, b, s) : Msg)) ++ l))
      ⊢ iprop(((fam (mid0 X p b) ss ∗ owed p l) -∗ wpp p q Q)
          -∗ wpp p (seqK (ss.map fun s => sendI oW cW cc0_scratch1 cc0_scratch2 d' hr (col_le b s) 0 b s) q) Q)
  | [] => by
    unfold fam
    iintro ⟨-, -, HO⟩ Hk
    iapply Hk
    isplitr; · iempintro
    iexact HO
  | s :: ss => by
    unfold fam
    iintro ⟨#HE, ⟨Hp, Hs⟩, HO⟩ Hk
    ihave Hp := (show pre0 X p b s ⊢ iprop(startPre X p (n := (0 : Fin 15).val) b s ∗ (cred (tallyAt (sndCell p (0 : Fin 15).val b s) () NN) -∗ mid0 X p b s)) from pre0_open X p b s) $$ Hp
    icases Hp with ⟨Hp, Hm⟩
    iapply (wp_sendI X K p b s (l := ss.map (fun s => ((0, b, s) : Msg)) ++ l) 0 hd e) $$ [Hp HO]
    · isplitr; · iexact HE
      isplitl [Hp]; · iexact Hp
      iexact HO
    iintro ⟨Hc, HO⟩
    ihave Hm := Hm $$ Hc
    iapply (sends_loop hd e l ss) $$ [Hs HO]
    · isplitr; · iexact HE
      isplitl [Hs] <;> iassumption
    iintro ⟨Hs, HO⟩
    iapply Hk
    isplitl [Hm Hs]
    · isplitl [Hm] <;> iassumption
    · iexact HO

end Cert.KernelIdeal.Ring
-- ==== Proof.Body.lean ====
module

public import proofs.«01_k».proof.Proof.Head

@[expose] public section

/-! The whole body of one device. -/

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Shapes1.Facts₀ Cert.KernelIdeal.K0.Facts₀ Cert.KernelIdeal.Facts₀

variable {F : FTy → Type} [FloatOps F]

local notation "𝕄" => MT nD τ sig Unit (Elt F) ℕ UU ℕ

variable (X : Dev nD → OBuf F) (K : Dev nD × Cx → ℕ) (p : Dev nD)

/-- Every message's tokens and receiver's credit. -/
def toks (p : Dev nD) : sProp 𝕄 := bigSep Finset.univ fun x : Fin 30 × BS => tk (F := F) p x.2.1 x.2.2 x.1.val

theorem toks_eq : toks (F := F) p = bigSep Finset.univ fun x : BS => seg (tk (F := F) p x.1 x.2) 0 30 := by
  unfold toks
  rw [bigSep_univ_prod, bigSep_univ_comm]
  exact bigSep_congr fun x _ => by rw [seg_fin]

omit [FloatOps F] in
/-- Two nested families, the outer over a finite set, exchanged. -/
theorem bigSep_swap {I J : Type} [DecidableEq I] [Fintype J] (S : Finset I) (Φ : I → J → sProp 𝕄) :
    (bigSep S fun i => bigSep Finset.univ (Φ i)) = bigSep Finset.univ fun j => bigSep S fun i => Φ i j := by
  induction S using Finset.induction_on with
  | empty => exact (bigSep_emp_const Finset.univ).symm
  | insert a S ha ih =>
    have h : ∀ Ψ : I → sProp 𝕄, bigSep (insert a S) Ψ = iprop(Ψ a ∗ bigSep S Ψ) := fun Ψ => BI.bigSep_insert ha
    rw [h, ih, ← bigSep_sep']
    exact bigSep_congr fun j _ => (h fun i => Φ i j).symm

theorem pre_intro : iprop(rowBlk p (ck p 0 0) (X p) ∗ (slots (nbr p 0) 0 ∗ slots (nbr p 1) 1) ∗ toks p)
    ⊢ iprop(fam (pre0 X p 0) subs ∗ fam (pre0 X p 1) subs) := by
  have h : iprop(fam (pre0 X p 0) subs ∗ fam (pre0 X p 1) subs)
      = iprop(rowBlk p (ck p 0 0) (X p) ∗ (slots (nbr p 0) 0 ∗ slots (nbr p 1) 1) ∗ toks p) := by
    rw [fam_subs, fam_subs, ← bs_two (fun x => pre0 X p x.1 x.2)]
    have e : (bigSep Finset.univ fun x : BS => oBlk p (ck p x.1 0) x.1 x.2 (X p)) = bigSep Finset.univ fun x : BS => oBlk p (ck p 0 0) x.1 x.2 (X p) :=
      bigSep_congr fun x _ => by rw [ck_00 p x.1]
    unfold pre0
    rw [bigSep_sep', bigSep_sep', e, row_blks, toks_eq, slots_dst, slots_dst, bs_two (fun x => seg (fun k => dst (F := F) p x.1 k x.2) 0 15)]
  rw [h]

theorem lanes_intro : iprop((fam (mid0 X p 0) subs ∗ fam (mid0 X p 1) subs) ∗ bigSep (Finset.univ.erase (ck p 0 0)) fun j => rowBlk p j (X p))
    ⊢ lanes X p 0 subs := by
  have h : (bigSep (Finset.univ.erase (ck p 0 0)) fun j => rowBlk p j (X p))
      = bigSep Finset.univ fun x : BS => seg (fun n => oBlk p (ck p x.1 n) x.1 x.2 (X p)) 1 15 := by
    rw [bigSep_congr (Ψ := fun j => bigSep Finset.univ fun x : BS => oBlk p j x.1 x.2 (X p)) fun j _ => row_blks p j (X p), bigSep_swap]
    exact bigSep_congr fun x _ => others_eq p x.1 fun j => oBlk p j x.1 x.2 (X p)
  rw [h, fam_subs, fam_subs, ← bs_two (fun x => mid0 X p x.1 x.2), lanes_eq, ← bigSep_sep']
  exact bigSep_mono fun x _ => lane_zero X p x.1 x.2

/-- Every message's two semaphores at zero. -/
def zeros (p : Dev nD) : sProp 𝕄 := bigSep Finset.univ fun x : Fin 2 × Fin 30 × Fin 2 × Fin 8 => semVal (kcell (p, some x)) 0

theorem zeros_eq : zeros (F := F) p
    = bigSep Finset.univ fun x : BS => seg (fun n => iprop(semVal (sndCell p n x.1 x.2) 0 ∗ semVal (rcvCell p n x.1 x.2) 0)) 0 30 := by
  unfold zeros
  rw [bigSep_univ_prod, bigSep_univ_two, ← bigSep_sep', bigSep_univ_prod, bigSep_univ_comm]
  exact bigSep_congr fun x _ => by rw [seg_fin]; rfl

theorem lanes_end : lanes X p 30 subs
    ⊢ iprop(zeros p ∗ (slots p 0 ∗ slots p 1) ∗ (oW.view.loc (p : Thread nD τ) ↦[Finset.univ]{fullShare} FIN X)) := by
  have h : iprop(zeros p ∗ (slots p 0 ∗ slots p 1) ∗ (oW.view.loc (p : Thread nD τ) ↦[Finset.univ]{fullShare} FIN X))
      = bigSep Finset.univ fun x : BS => fin0 X p x.1 x.2 := by
    unfold fin0
    rw [bigSep_sep', bigSep_sep', zeros_eq, slots_seg, slots_seg, bs_two (fun x => seg (fun n => iprop(∃ g, cBlk (F := F) p n x.1 x.2 g)) 0 15), out_rows,
      bigSep_univ_comm, bigSep_congr (Φ := fun j => rowBlk p j (FIN X)) fun j _ => row_blks p j (FIN X)]
  rw [h, lanes_eq]
  exact bigSep_mono fun x _ => lane_end X p x.1 x.2

/-! ## The partial products around the sends -/

section Gems
variable (x : XBuf F) (w : WBuf F)

omit [FloatOps F] in
theorem some_of {A : Type} (Φ : A → sProp 𝕄) (a : A) : Φ a ⊢ iprop(∃ a, Φ a) := by
  iintro H; iexists a; iexact H

theorem gems_intro (f : OBuf F) : (iprop(oW.view.loc (p : Thread nD τ) ↦[Finset.univ]{fullShare} f) : sProp 𝕄)
    ⊢ iprop(rowBlk p (ck p 0 0) f ∗ gems p x w (Finset.univ.erase (ck p 0 0)) ∅) := by
  rw [out_rows, big_erase (Finset.mem_univ (ck p 0 0))]
  refine sep_mono_right (bigSep_mono fun j _ => ?_)
  rw [if_neg (Finset.notMem_empty j)]
  exact some_of (fun f => rowBlk p j f) f

theorem gems_done : gems p x w (Finset.univ.erase (ck p 0 0)) (∅ ∪ (prodJ p).toFinset)
    = bigSep (Finset.univ.erase (ck p 0 0)) fun j => rowBlk p j (G x w) :=
  bigSep_congr fun j hj => if_pos (by
    rw [Finset.empty_union, List.mem_toFinset, prodJ_all]; exact (Finset.mem_erase.mp hj).1)

end Gems

/-! ## The run -/

/-- The messages a device starts, in order. -/
def msgs : List Msg := subs.map (fun s => ((0, 0, s) : Msg)) ++ (subs.map (fun s => ((0, 1, s) : Msg)) ++ todo 0 30)

theorem msgs_lt : ∀ x ∈ msgs, x.1 < 30 := fun x hx => by
  unfold msgs at hx
  rcases List.mem_append.mp hx with h | h
  · obtain ⟨s, -, rfl⟩ := List.mem_map.mp h; show (0 : ℕ) < 30; omega
  rcases List.mem_append.mp h with h | h
  · obtain ⟨s, -, rfl⟩ := List.mem_map.mp h; show (0 : ℕ) < 30; omega
  · exact (todo_mem (by omega) h).1

/-- What a device owes at its start. -/
def O₀ (p : Dev nD) : CellTallies nD τ sig Unit :=
  dues p msgs + tallyAt (barCell (nbr p 0)) () 1 + tallyAt (barCell (nbr p 1)) () 1

theorem seqK_cons {E : Type → Type} {α : Type} (a : Prog E PUnit) (l : List (Prog E PUnit)) (q : Prog E α) : seqK (a :: l) q = (a >>= fun _ => seqK l q) := by
  unfold seqK; rw [List.foldr_cons]
theorem seqK_nil {E : Type → Type} {α : Type} (q : Prog E α) : seqK [] q = q := by
  unfold seqK; rw [List.foldr_nil]

variable (x : Dev nD → XBuf F) (w : Dev nD → WBuf F)

/-- The devices' partial products. -/
abbrev XX : Dev nD → OBuf F := fun q => G (x q) (w q)

/-- The items up to the hops. -/
theorem head_run (l : List Msg) (hl : ∀ x ∈ (subs.map (fun s => ((0, 0, s) : Msg)) ++ (subs.map (fun s => ((0, 1, s) : Msg)) ++ l)), x.1 < 30)
    (f : OBuf F) (g : CBuf F) {α : Type} {Q : α → sProp 𝕄} {q : Prog (TpuEff nD τ sig (Elt F) Λ₀ .tc) α} :
    iprop(env (XX x w) K ∗ (atPos ER (barCell p) 0 ∅ 0 ∗ dutyTok ER (barCell (nbr p 1)) 0 (0 : Fin 2) ∗ dutyTok ER (barCell (nbr p 0)) 0 (1 : Fin 2)
          ∗ cred (tallyAt (barCell p) () 2) ∗ toks p)
        ∗ ops p (x p) (w p) ∗ (oW.view.loc (p : Thread nD τ) ↦[Finset.univ]{fullShare} f) ∗ (cW.view.loc (p : Thread nD τ) ↦[Finset.univ]{fullShare} g)
        ∗ (∃ W, owes (p : Thread nD τ) (dues p (subs.map (fun s => ((0, 0, s) : Msg)) ++ (subs.map (fun s => ((0, 1, s) : Msg)) ++ l))
            + tallyAt (barCell (nbr p 0)) () 1 + tallyAt (barCell (nbr p 1)) () 1) W))
      ⊢ iprop(((semVal (barCell p) 0 ∗ ops p (x p) (w p) ∗ lanes (XX x w) p 0 subs ∗ owed p l) -∗ wpp p q Q)
          -∗ wpp p (seqK (headL xW wW oW cW cc0_scratch1 cc0_scratch2 p ++ prodL xW wW oW p) q) Q) := by
  unfold headL
  rw [prodL_eq, seqK_append, seqK_append, seqK_append, seqK_cons, seqK_cons, seqK_cons, seqK_cons, seqK_nil]
  iintro ⟨#HE, ⟨HatB, HtN, HtP, HcB, Htk⟩, Hop, Hout, Hscr, HO⟩ Hk
  ihave Hs := (scr_split p g) $$ Hscr
  ihave Hs := (Entails.of_eq (slots_two p)) $$ Hs
  icases Hs with ⟨Hs0, Hs1⟩
  iapply (wp_tell (XX x w) K p 0 (tgtW_eq p 1).symm (nbr_flip' p 0)) $$ [HtN Hs0 HO]
  · isplitr; · iexact HE
    isplitl [HtN]; · iexact HtN
    isplitl [Hs0]; · iexact Hs0
    iexact HO
  iintro HO
  iapply (wp_tell (XX x w) K p 1 (tgtW_eq p 0).symm (nbr_flip' p 1)) $$ [HtP Hs1 HO]
  · isplitr; · iexact HE
    isplitl [HtP]; · iexact HtP
    isplitl [Hs1]; · iexact Hs1
    iexact HO
  iintro HO
  ihave Hg := (gems_intro p (x p) (w p) f) $$ Hout
  icases Hg with ⟨Hr, Hg⟩
  rw [gemmI_eq (show row0 p = 128 * (ck p 0 0).val from row0_eq p 0)]
  iapply (wp_gemm p (x p) (w p) (ck p 0 0)) $$ [Hop Hr]
  · isplitl [Hop]; · iexact Hop
    iexists f; iexact Hr
  iintro ⟨Hop, Hr⟩
  iapply (wp_hear (XX x w) K p hl) $$ [HcB HO HatB]
  · isplitr; · iexact HE
    isplitl [HcB]; · iexact HcB
    isplitl [HO]; · unfold owed; iexact HO
    iexact HatB
  iintro ⟨HO, HzB, Hs0, Hs1⟩
  ihave Hp := (pre_intro (XX x w) p) $$ [Hr Hs0 Hs1 Htk]
  · isplitl [Hr]; · iexact Hr
    isplitl [Hs0 Hs1]
    · isplitl [Hs0] <;> iassumption
    iexact Htk
  icases Hp with ⟨Hp0, Hp1⟩
  iapply (sends_loop (XX x w) K p 0 (tgtW_eq p 0) (rowS_eq p 0 0) (subs.map (fun s => ((0, 1, s) : Msg)) ++ l) subs) $$ [Hp0 HO]
  · isplitr; · iexact HE
    isplitl [Hp0] <;> iassumption
  iintro ⟨Hm0, HO⟩
  iapply (sends_loop (XX x w) K p 1 (tgtW_eq p 1) (rowS_eq p 1 0) l subs) $$ [Hp1 HO]
  · isplitr; · iexact HE
    isplitl [Hp1] <;> iassumption
  iintro ⟨Hm1, HO⟩
  iapply (gems_loop p (x p) (w p) (Finset.univ.erase (ck p 0 0)) (prodJ p) ∅
    fun j hj => Finset.mem_erase.mpr ⟨(prodJ_all p j).mp hj, Finset.mem_univ j⟩) $$ [Hop Hg]
  · isplitl [Hop] <;> iassumption
  iintro ⟨Hop, Hg⟩
  ihave Hg := (Entails.of_eq (gems_done p (x p) (w p))) $$ Hg
  ihave Hl := (lanes_intro (XX x w) p) $$ [Hm0 Hm1 Hg]
  · isplitl [Hm0 Hm1]
    · isplitl [Hm0] <;> iassumption
    iexact Hg
  iapply Hk
  isplitl [HzB]; · iexact HzB
  isplitl [Hop]; · iexact Hop
  isplitl [Hl] <;> iassumption

/-- The items of the body, from the state a device starts in to the one it ends in. -/
theorem items_run (f : OBuf F) (g : CBuf F) {α : Type} {Q : α → sProp 𝕄} {q : Prog (TpuEff nD τ sig (Elt F) Λ₀ .tc) α} :
    iprop(env (XX x w) K ∗ (atPos ER (barCell p) 0 ∅ 0 ∗ dutyTok ER (barCell (nbr p 1)) 0 (0 : Fin 2) ∗ dutyTok ER (barCell (nbr p 0)) 0 (1 : Fin 2)
          ∗ cred (tallyAt (barCell p) () 2) ∗ toks p)
        ∗ ops p (x p) (w p) ∗ (oW.view.loc (p : Thread nD τ) ↦[Finset.univ]{fullShare} f) ∗ (cW.view.loc (p : Thread nD τ) ↦[Finset.univ]{fullShare} g)
        ∗ (∃ W, owes (p : Thread nD τ) (O₀ p) W))
      ⊢ iprop(((semVal (barCell p) 0 ∗ zeros p ∗ ops p (x p) (w p) ∗ (oW.view.loc (p : Thread nD τ) ↦[Finset.univ]{fullShare} FIN (XX x w))
              ∗ (∃ g : CBuf F, cW.view.loc (p : Thread nD τ) ↦[Finset.univ]{fullShare} g) ∗ owed p []) -∗ wpp p q Q)
          -∗ wpp p (seqK (bodyL xW wW oW cW cc0_scratch1 cc0_scratch2 cc0_scratch3 cc0_scratch4 p) q) Q) := by
  unfold bodyL
  rw [hops_eq, ← List.append_assoc, seqK_append]
  iintro ⟨#HE, Ht, Hop, Hout, Hscr, HO⟩ Hk
  unfold O₀ msgs
  iapply (head_run K p x w (todo 0 30) msgs_lt f g) $$ [Ht Hop Hout Hscr HO]
  · isplitr; · iexact HE
    isplitl [Ht]; · iexact Ht
    isplitl [Hop]; · iexact Hop
    isplitl [Hout]; · iexact Hout
    isplitl [Hscr] <;> iassumption
  iintro ⟨HzB, Hop, Hl, HO⟩
  iapply (loop (XX x w) K p 30 0 (Nat.zero_add 30)) $$ [Hl HO]
  · isplitr; · iexact HE
    isplitl [Hl] <;> iassumption
  iintro ⟨Hl, HO⟩
  ihave He := (lanes_end (XX x w) p) $$ Hl
  icases He with ⟨Hz, Hs, Hout⟩
  ihave Hs := (Entails.of_eq (slots_two p).symm) $$ Hs
  ihave Hs := (scr_join p g) $$ Hs
  iapply Hk
  isplitl [HzB]; · iexact HzB
  isplitl [Hz]; · iexact Hz
  isplitl [Hop]; · iexact Hop
  isplitl [Hout]; · iexact Hout
  isplitl [Hs] <;> iassumption

end Cert.KernelIdeal.Ring
-- ==== Proof.Launch.lean ====
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

/-! What the launch deals each device, and how it becomes what each device's body starts from. -/

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → OBuf F)

/-! ## Cells and tokens -/

/-- A message's side, number, direction and sub-block. -/
abbrev Cm : Type := Fin 2 × Fin 30 × Fin 2 × Fin 8

/-- The kernel's own semaphores: each message's two. -/
abbrev osem (k : Cm) : SemLoc sig := csem (some k)

/-- What a semaphore stands for. -/
def decS : SemLoc sig → Option (Fin 2 × Nat × Fin 2 × Fin 8)
  | .reg _ => none
  | .dma q => dec q

theorem decS_csem : ∀ k : Cm, decS (csem (some k)) = some (k.1, k.2.1.val, k.2.2.1, k.2.2.2)
  | (k, n, b, s) => by
    unfold decS csem; dsimp only
    by_cases h : k = 0
    · rw [if_pos h, dec_snd n.isLt, h]
    · rw [if_neg h, dec_rcv n.isLt, show k = 1 by omega]

theorem csem_injective : Function.Injective csem
  | none, none, _ => rfl
  | none, some k, h => by cases h
  | some k, none, h => by cases h
  | some (k, n, b, s), some (k', n', b', s'), h => by
    have e := congrArg decS h
    rw [decS_csem, decS_csem] at e
    simp only [Option.some.injEq, Prod.mk.injEq] at e
    obtain ⟨h1, h2, h3, h4⟩ := e
    rw [h1, h3, h4, Fin.ext h2]

theorem osem_scoped : ∀ k : Cm, (osem k).isScoped .tc = true := by decide +kernel
theorem stage_none : ∀ (w : Fin cfg0.W) (s : Fin (cfg0.spec w).nbuf), dec ((cfg0.spec w).sem s) = none := by decide +kernel

theorem ownSemFacts : Pipeline.OwnSemFacts cfg0.spec osem where
  isScoped := osem_scoped
  inj := fun a b h => Option.some.inj (csem_injective h)
  disj := fun k w s h => by
    have e := congrArg decS h
    rw [decS_csem] at e
    have e' : decS (.dma ((cfg0.spec w).sem s)) = none := stage_none w s
    rw [e'] at e
    cases e

theorem kcell_injective : Function.Injective (kcell : Dev nD × Cx → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def ringCells : Finset (GSem nD τ sig) := Finset.univ.map ⟨kcell, kcell_injective⟩

/-- A cell's token for a contributor. -/
abbrev tokOf (x : Dev nD × Cx × Fin 2) : GSem nD τ sig × ℕ × Fin 2 := (kcell (x.1, x.2.1), 0, x.2.2)
theorem tokOf_injective : Function.Injective tokOf := by
  rintro ⟨c, k, d⟩ ⟨c', k', d'⟩ h
  have h1 : kcell (c, k) = kcell (c', k') := congrArg Prod.fst h
  have h2 : d = d' := congrArg (fun x : GSem nD τ sig × ℕ × Fin 2 => x.2.2) h
  have h3 := kcell_injective h1
  rw [Prod.mk.injEq] at h3
  rw [h3.1, h3.2, h2]
def ringToks : Finset (GSem nD τ sig × ℕ × Fin 2) := Finset.univ.map ⟨tokOf, tokOf_injective⟩

def u₀ : UU := (initOf (Pipeline.cells cfgs cellOf_inj) (Pipeline.launchToks cfgs cellOf_inj), initOf ringCells ringToks)

/-- The tokens of device `c`'s own cells. -/
def ownToks (c : Dev nD) : sProp 𝕄 := bigSep Finset.univ fun x : Cx × Fin 2 => dutyTok ER (kcell (c, x.1)) 0 x.2

/-- What the launch deals device `c`. -/
def G₀ (c : Dev nD) : sProp 𝕄 :=
  iprop((bigSep Finset.univ fun k : Cx => roundState ER (Rd X) (kcell (c, k)) 0)
    ∗ (bigSep Finset.univ fun k : Cx => iprop(atPos ER (kcell (c, k)) 0 ∅ 0 ∗ reached ER (kcell (c, k)) 0)) ∗ ownToks c)

theorem fund_ring : BI.own (ER (initOf ringCells ringToks)) ⊢ (|==> bigSep Finset.univ (G₀ X) : sProp 𝕄) := by
  have hX (Φ : GSem nD τ sig → sProp 𝕄) : bigSep ringCells Φ = bigSep Finset.univ fun c : Dev nD => bigSep Finset.univ fun k : Cx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => rfl
  iintro HX
  imod (Rounds.fund ER (Rd X) ringCells ringToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G₀; simp only [bigSep_sep']
  isplitl [Hst']; · iexact Hst'
  isplitl [Hat' Hr']
  · isplitl [Hat'] <;> iassumption
  iexact Htok'

/-! ## The semaphores at zero -/

omit [FloatOps F] in
/-- A family over the cells: the barrier's member and the messages'. -/
theorem bigSep_cx (Φ : Cx → sProp 𝕄) : bigSep Finset.univ Φ = iprop(Φ none ∗ bigSep Finset.univ fun k : Cm => Φ (some k)) := by
  rw [big_erase (Finset.mem_univ none), show (Finset.univ : Finset Cx).erase none = (Finset.univ : Finset Cm).map Function.Embedding.some by
    ext x; cases x <;> simp, bigSep_map]
  rfl

omit [FloatOps F] in
theorem ownSems0_eq (c : Dev nD) : (Pipeline.ownSems0 (Ix := Unit) (Name := ℕ) (U := UU) (Lvl := ℕ) (Val := Elt F) (τ := τ) osem c : sProp 𝕄) = zeros c := rfl

theorem unscoped_sems : (Finset.univ.filter fun sm : SemLoc sig => ¬ sm.isScoped .tc) = {SemLoc.reg barS} := by decide +kernel

omit [FloatOps F] in
theorem unscopedSems0_eq (c : Dev nD) : (unscopedSems0 c : sProp 𝕄) = semVal (barCell c) 0 := by
  unfold unscopedSems0; rw [unscoped_sems, bigSep_singleton]

theorem core_alloc (c : Dev nD) :
    iprop(Pipeline.ownSems0 (Ix := Unit) (Name := ℕ) (U := UU) (Lvl := ℕ) (Val := Elt F) (τ := τ) osem c ∗ unscopedSems0 c ∗ G₀ X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ ownToks c) := by
  rw [ownSems0_eq, unscopedSems0_eq]
  unfold G₀
  iintro ⟨Hos, Hus, Hst, Hat, Htok⟩
  ihave Hv := (Entails.of_eq (bigSep_cx (fun k => (semVal (kcell (c, k)) 0 : sProp 𝕄))).symm) $$ [Hos Hus]
  · isplitl [Hus]; · iexact Hus
    unfold zeros; iexact Hos
  imod (show iprop((bigSep Finset.univ fun k : Cx => semVal (kcell (c, k)) 0) ∗ bigSep Finset.univ fun k : Cx => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt around the ring -/

/-- A message. -/
abbrev Mx : Type := Fin 30 × BS

/-- The tokens device `c` pays with: its neighbours' barriers' and its messages'. -/
def payToks (c : Dev nD) : sProp 𝕄 :=
  iprop(dutyTok ER (barCell (nbr c 1)) 0 (0 : Fin 2) ∗ dutyTok ER (barCell (nbr c 0)) 0 (1 : Fin 2)
    ∗ (bigSep Finset.univ fun x : Mx => dutyTok ER (sndCell c x.1.val x.2.1 x.2.2) 0 (0 : Fin 2))
    ∗ (bigSep Finset.univ fun x : Mx => dutyTok ER (rcvCell (nbr c x.2.1) x.1.val x.2.1 x.2.2) 0 (0 : Fin 2)))

omit [FloatOps F] in
/-- A family over the messages' cells: the senders' members and the receivers'. -/
theorem bigSep_cm (Φ : Cm → sProp 𝕄) : bigSep Finset.univ Φ
    = iprop((bigSep Finset.univ fun x : Mx => Φ (0, x)) ∗ bigSep Finset.univ fun x : Mx => Φ (1, x)) := by
  rw [bigSep_univ_prod, bigSep_univ_two]

omit [FloatOps F] in
theorem ownToks_open (c : Dev nD) : (ownToks c : sProp 𝕄)
    ⊢ iprop(dutyTok ER (barCell c) 0 (0 : Fin 2) ∗ dutyTok ER (barCell c) 0 (1 : Fin 2)
      ∗ (bigSep Finset.univ fun x : Mx => dutyTok ER (sndCell c x.1.val x.2.1 x.2.2) 0 (0 : Fin 2))
      ∗ (bigSep Finset.univ fun x : Mx => dutyTok ER (rcvCell c x.1.val x.2.1 x.2.2) 0 (0 : Fin 2))) := by
  unfold ownToks
  rw [bigSep_univ_prod, bigSep_univ_comm, bigSep_univ_two, bigSep_cx, bigSep_cx, bigSep_cm]
  iintro ⟨⟨Hb0, Hs, Hr⟩, ⟨Hb1, -⟩⟩
  isplitl [Hb0]; · iexact Hb0
  isplitl [Hb1]; · iexact Hb1
  isplitl [Hs]; · iexact Hs
  iexact Hr

omit [FloatOps F] in
theorem toks_around : (bigSep Finset.univ fun c : Dev nD => (ownToks c : sProp 𝕄)) ⊢ bigSep Finset.univ fun c : Dev nD => payToks c := by
  refine (bigSep_mono fun c _ => ownToks_open c).trans ?_
  unfold payToks
  have h : (bigSep Finset.univ fun c : Dev nD => bigSep Finset.univ fun x : Mx => (dutyTok ER (rcvCell c x.1.val x.2.1 x.2.2) 0 (0 : Fin 2) : sProp 𝕄))
      = bigSep Finset.univ fun c : Dev nD => bigSep Finset.univ fun x : Mx => dutyTok ER (rcvCell (nbr c x.2.1) x.1.val x.2.1 x.2.2) 0 (0 : Fin 2) := by
    rw [bigSep_univ_comm, bigSep_univ_comm (fun (c : Dev nD) (x : Mx) => (dutyTok ER (rcvCell (nbr c x.2.1) x.1.val x.2.1 x.2.2) 0 (0 : Fin 2) : sProp 𝕄))]
    exact bigSep_congr fun x _ => bigSep_univ_equiv (ringE x.2.1) fun c : Dev nD => (dutyTok ER (rcvCell c x.1.val x.2.1 x.2.2) 0 (0 : Fin 2) : sProp 𝕄)
  rw [bigSep_sep', bigSep_sep', bigSep_sep', bigSep_sep', bigSep_sep', bigSep_sep', h,
    bigSep_univ_equiv (ringE 1) (fun c : Dev nD => (dutyTok ER (barCell c) 0 (0 : Fin 2) : sProp 𝕄)),
    bigSep_univ_equiv (ringE 0) (fun c : Dev nD => (dutyTok ER (barCell c) 0 (1 : Fin 2) : sProp 𝕄))]
  exact BI.Entails.refl _

/-! ## The global step -/

def records (K : Dev nD × Cx → ℕ) : sProp 𝕄 :=
  iprop((bigSep Finset.univ fun ck : Dev nD × Cx => cellInv ER (Rd X) (K ck) (kcell ck))
    ∗ bigSep Finset.univ fun ck : Dev nD × Cx => reached ER (kcell ck) 0)

instance records_persistent (K : Dev nD × Cx → ℕ) : BI.Persistent (records X K) := by unfold records; infer_instance

/-- What stays with device `c`: its positions, and the tokens it pays with. -/
def linear (c : Dev nD) : sProp 𝕄 := iprop((bigSep Finset.univ fun k : Cx => atPos ER (kcell (c, k)) 0 ∅ 0) ∗ payToks c)

/-- What the global step makes of it. -/
def G₁ (c : Dev nD) : sProp 𝕄 := iprop(∃ K, records X K ∗ linear c)

theorem g1_intro (K : Dev nD × Cx → ℕ) (c : Dev nD) : iprop(records X K ∗ linear c) ⊢ G₁ X c := by
  unfold G₁; iintro H; iexists K; iexact H

omit [FloatOps F] in
theorem family_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ ownToks c) : sProp 𝕄)
      ⊢ bigSep Finset.univ (G₁ X) := by
  rw [bigSep_sep', bigSep_sep', ← bigSep_univ_prod (fun ck : Dev nD × Cx => iprop(∃ κ : ℕ, cellInv ER (Rd X) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← bigSep_univ_prod (fun ck : Dev nD × Cx => (reached ER (kcell ck) 0 : sProp 𝕄))]
  iintro ⟨HI, ⟨Hat, #HR⟩, Htok⟩
  ihave HK := (BI.bigSep_exists_pi Finset.univ (fun (ck : Dev nD × Cx) (κ : ℕ) => (cellInv ER (Rd X) κ (kcell ck) : sProp 𝕄))) $$ HI
  icases HK with ⟨%K, #HI⟩
  ihave Htk := (toks_around (F := F)) $$ Htok
  iapply (family_with (R := records X K) fun c _ => g1_intro X K c)
  isplitr
  · unfold records; isplitl; · iexact HI
    iexact HR
  · unfold linear
    iapply (Entails.of_eq (bigSep_sep' Finset.univ (fun c : Dev nD => bigSep Finset.univ fun k : Cx => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G₀ X c) : sProp 𝕄)
    ⊢ |={Set.univ}=> bigSep Finset.univ (G₁ X) :=
  ((bigSep_mono fun c _ => core_alloc X c).trans (bigSep_fupd _ _)).trans (BI.fupd_mono (regroup X))

/-! ## The credit -/

/-- A message as the lists hold it. -/
abbrev toMsg : Mx → Msg := fun x => (x.1.val, x.2.1, x.2.2)
theorem toMsg_injective : Function.Injective toMsg := by
  rintro ⟨n, b, s⟩ ⟨n', b', s'⟩ h
  simp only [toMsg, Prod.mk.injEq] at h
  rw [Fin.ext h.1, h.2.1, h.2.2]

theorem msgs_nodup : msgs.Nodup := by decide +kernel
theorem msgs_all : ∀ x : Mx, toMsg x ∈ msgs := by decide +kernel
theorem msgs_set : msgs.toFinset = Finset.univ.map ⟨toMsg, toMsg_injective⟩ := by
  ext x
  rw [List.mem_toFinset, Finset.mem_map]
  constructor
  · intro h; exact ⟨(⟨x.1, msgs_lt x h⟩, x.2), Finset.mem_univ _, rfl⟩
  · rintro ⟨y, -, rfl⟩; exact msgs_all y

omit [FloatOps F] in
theorem cred_dues (c : Dev nD) : ∀ l : List Msg, l.Nodup →
    (Pipeline.launchCred (fun d => dues d l) c : sProp 𝕄) ⊢ bigSep l.toFinset fun x => cred (tallyAt (rcvCell c x.1 x.2.1 x.2.2) () NN)
  | [], _ => Entails.of_eq (Pipeline.launchCred_zero c)
  | x :: l, h => by
    have e : (fun d : Dev nD => dues d (x :: l)) = fun d => dues d l + due d x := funext fun d => dues_cons d x l
    have e' : (bigSep (x :: l).toFinset fun x => (cred (tallyAt (rcvCell c x.1 x.2.1 x.2.2) () NN) : sProp 𝕄))
        = iprop(cred (tallyAt (rcvCell c x.1 x.2.1 x.2.2) () NN) ∗ bigSep l.toFinset fun x => cred (tallyAt (rcvCell c x.1 x.2.1 x.2.2) () NN)) := by
      rw [List.toFinset_cons]
      exact BI.bigSep_insert (by rw [List.mem_toFinset]; exact (List.nodup_cons.mp h).1)
    rw [e, Pipeline.launchCred_add, e']
    iintro ⟨Hl, Hx⟩
    isplitl [Hx]
    · iapply (Pipeline.launchCred_tallyAt (.dma (rcvS x.1 x.2.1 x.2.2)) (fun d => nbr d x.2.1) (fun d => nbr d (flip x.2.1))
        (fun d => nbr_flip' d x.2.1) (fun d => nbr_flip d x.2.1) () NN c)
      iexact Hx
    · iapply (cred_dues c l (List.nodup_cons.mp h).2); iexact Hl

omit [FloatOps F] in
theorem cred_over (c : Dev nD) (l : List Msg) (hl : l.Nodup) (h : l.toFinset = Finset.univ.map ⟨toMsg, toMsg_injective⟩) :
    (Pipeline.launchCred (fun d => dues d l) c : sProp 𝕄) ⊢ bigSep Finset.univ fun x : Mx => cred (tallyAt (rcvCell c x.1.val x.2.1 x.2.2) () NN) := by
  refine (cred_dues c l hl).trans (Entails.of_eq ?_)
  rw [h, bigSep_map]; rfl

omit [FloatOps F] in
theorem creds (c : Dev nD) : (Pipeline.launchCred O₀ c : sProp 𝕄)
    ⊢ iprop(cred (tallyAt (barCell c) () 2) ∗ bigSep Finset.univ fun x : Mx => cred (tallyAt (rcvCell c x.1.val x.2.1 x.2.2) () NN)) := by
  have e : (Pipeline.launchCred O₀ c : sProp 𝕄) = iprop((Pipeline.launchCred (fun d => dues d msgs) c
      ∗ Pipeline.launchCred (fun d => tallyAt (barCell (nbr d 0)) () 1) c) ∗ Pipeline.launchCred (fun d => tallyAt (barCell (nbr d 1)) () 1) c) := by
    rw [← Pipeline.launchCred_add, ← Pipeline.launchCred_add]
    rfl
  have hb : ∀ b : Fin 2, (Pipeline.launchCred (fun d => tallyAt (barCell (nbr d b)) () 1) c : sProp 𝕄) ⊢ cred (tallyAt (barCell c) () 1) := fun b =>
    Pipeline.launchCred_tallyAt (.reg barS) (fun d => nbr d b) (fun d => nbr d (flip b)) (fun d => nbr_flip' d b) (fun d => nbr_flip d b) () 1 c
  have h2 : iprop(cred (tallyAt (barCell c) () 1) ∗ cred (tallyAt (barCell c) () 1)) ⊢ (cred (tallyAt (barCell c) () 2) : sProp 𝕄) := by
    rw [show (tallyAt (barCell c) () 2 : CellTallies nD τ sig Unit) = tallyAt (barCell c) () 1 + tallyAt (barCell c) () 1 from (tallyAt_add (barCell c) () 1 1).symm]
    exact (cred_add _ _).2
  rw [e]
  iintro ⟨⟨Hl, H0⟩, H1⟩
  isplitl [H0 H1]
  · iapply h2
    isplitl [H0]
    · iapply (hb 0); iexact H0
    · iapply (hb 1); iexact H1
  · iapply (cred_over (F := F) c msgs msgs_nodup msgs_set)
    iexact Hl

/-! ## The staging waits -/

omit [FloatOps F] in
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · have h0 : lv ((c : Thread nD τ), .dma q) () = 0 := by unfold lv; dsimp only; rw [hq]
    have hb : ∀ d : Dev nD, lv (barCell d) () = 1 := fun d => rfl
    refine Pipeline.mayWait_of_levAts (by rw [L_tc]; exact Finset.mem_singleton_self _) fun g u hg => ?_
    rw [h0]
    have bar : ∀ {d : Dev nD} {n : ℕ}, 0 < (tallyAt (barCell d) () n : CellTallies nD τ sig Unit) g u → u ∈ L g ∧ 0 < lv g u := fun {d n} h => by
      obtain ⟨rfl, -⟩ := Pipeline.tallyAt_pos h
      exact ⟨by rw [L_tc]; exact Finset.mem_singleton_self _, Nat.one_pos⟩
    unfold O₀ at hg
    rcases Pipeline.add_pos_cases hg with hg | hg
    · rcases Pipeline.add_pos_cases hg with hg | hg
      · obtain ⟨x, hx, rfl⟩ := dues_pos _ hg
        refine ⟨by rw [L_tc]; exact Finset.mem_singleton_self _, ?_⟩
        rw [lv_rcv _ (msgs_lt x hx)]; omega
      · exact bar hg
    · exact bar hg
  · rw [MayWait_zero]; iintro -; iempintro

end Cert.KernelIdeal.Ring
-- ==== Proof.Run.lean ====
module

public import proofs.«01_k».proof.Proof.Launch
public import Idealize.ShloMosaic.Lib.Pipeline.CollectiveSegs

@[expose] public section

/-! The run of @main on the sixteen devices, for any float values: it ends, with every device's result at `FIN`. -/

noncomputable section

namespace Cert.KernelIdeal.Ring

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch. -/
def s₀ : MemSt nD τ sig (Elt F) := ⟨m, fun _ => 0, ρ⟩

/-- What is staged of device `c`'s two operands, -/
def xstg (c : Dev nD) : XBuf F := (win0_0.blk (0 : Fin 1)).view.read (Elt F) ((s₀ m ρ).mem ((c : Thread nD τ).loc main_arg0))
def wstg (c : Dev nD) : WBuf F := (win0_1.blk (0 : Fin 1)).view.read (Elt F) ((s₀ m ρ).mem ((c : Thread nD τ).loc main_arg1))
/-- and the partial products of all devices. -/
abbrev X₀ : Dev nD → OBuf F := XX (xstg m ρ) (wstg m ρ)

/-- What device `c`'s body starts from. -/
def start (c : Dev nD) : sProp 𝕄 :=
  iprop(G₁ (X₀ m ρ) c ∗ cred (tallyAt (barCell c) () 2)
    ∗ (bigSep Finset.univ fun x : Mx => cred (tallyAt (rcvCell c x.1.val x.2.1 x.2.2) () NN)) ∗ levAts L lv)

/-- A device's scratch, whole at some contents. -/
def scratch (c : Dev nD) : sProp 𝕄 := iprop(∃ g : CBuf F, cW.view.loc (c : Thread nD τ) ↦[Finset.univ]{fullShare} g)

def Φ₀ (c : Dev nD) : sProp 𝕄 := iprop(start m ρ c ∗ scratch c)
def Φ₁ (c : Dev nD) : sProp 𝕄 := iprop(scratch c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => FIN (X₀ m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_in : ∀ (w : Fin 3), w ≠ 2 → (cfg0.win w).fetch t0_0 = true := by decide

/-! ## The body -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- The dealt state, per message. -/
theorem linear_toks (c : Dev nD) :
    iprop(linear c ∗ bigSep Finset.univ fun x : Mx => cred (tallyAt (rcvCell c x.1.val x.2.1 x.2.2) () NN))
      ⊢ (iprop(atPos ER (barCell c) 0 ∅ 0 ∗ dutyTok ER (barCell (nbr c 1)) 0 (0 : Fin 2) ∗ dutyTok ER (barCell (nbr c 0)) 0 (1 : Fin 2) ∗ toks c) : sProp 𝕄) := by
  have e : (toks c : sProp 𝕄) = iprop((bigSep Finset.univ fun x : Mx => atPos ER (sndCell c x.1.val x.2.1 x.2.2) 0 ∅ 0)
      ∗ (bigSep Finset.univ fun x : Mx => atPos ER (rcvCell c x.1.val x.2.1 x.2.2) 0 ∅ 0)
      ∗ (bigSep Finset.univ fun x : Mx => cred (tallyAt (rcvCell c x.1.val x.2.1 x.2.2) () NN))
      ∗ (bigSep Finset.univ fun x : Mx => dutyTok ER (sndCell c x.1.val x.2.1 x.2.2) 0 (0 : Fin 2))
      ∗ bigSep Finset.univ fun x : Mx => dutyTok ER (rcvCell (nbr c x.2.1) x.1.val x.2.1 x.2.2) 0 (0 : Fin 2)) := by
    rw [← bigSep_sep', ← bigSep_sep', ← bigSep_sep', ← bigSep_sep']
    rfl
  rw [e]
  unfold linear payToks
  rw [bigSep_cx, bigSep_cm]
  iintro ⟨⟨⟨Hb, Hs, Hr⟩, H1, H0, Hds, Hdr⟩, Hc⟩
  isplitl [Hb]; · iexact Hb
  isplitl [H1]; · iexact H1
  isplitl [H0]; · iexact H0
  isplitl [Hs]; · iexact Hs
  isplitl [Hr]; · iexact Hr
  isplitl [Hc]; · iexact Hc
  isplitl [Hds]; · iexact Hds
  iexact Hdr

theorem env_intro (X : Dev nD → OBuf F) (K : Dev nD × Cx → ℕ) : iprop(records X K ∗ levAts L lv) ⊢ env X K := by
  unfold records env
  iintro ⟨⟨HI, HR⟩, HL⟩
  isplitl [HI]; · iexact HI
  isplitl [HR]; · iexact HR
  iexact HL

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c) ∗ stg c cc0_stg2_0 (FIN (X₀ m ρ)))

theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        cc0_scratch1 cc0_scratch2 cc0_scratch3 cc0_scratch4) (fun _ => bodyPost m ρ c) := by
  rw [body_eq]
  simp only [Prog.lift, Prog.bind_op, Prog.bind_ret, wp_deviceId]
  unfold bodyPre Φ₀ start G₁ scratch
  iintro ⟨⟨⟨⟨%K, HK, Hlin⟩, Hcb, Hcr, #HL⟩, %g, Hscr⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch_in 0 (by decide))]; rfl
  have hw : g1 = wstg m ρ c := by rw [hg1]; unfold Dat.before; rw [if_pos (fetch_in 1 (by decide))]; rfl
  subst hx hw
  unfold Dat.owesAt Pipeline.owesWithin
  icases Ho with ⟨%W, %hW, HO⟩
  rw [show (dats m ρ 0 c).owed t0_0.castSucc = O₀ c from rfl]
  ihave HE := (env_intro (X₀ m ρ) K) $$ [HK]
  · isplitl [HK]; · iexact HK
    iexact HL
  ihave Ht := (linear_toks (F := F) c) $$ [Hlin Hcr]
  · isplitl [Hlin] <;> iassumption
  icases Ht with ⟨Hb, H1, H0, Ht⟩
  iapply (items_run K c (xstg m ρ) (wstg m ρ) g2 g) $$ [HE Hb H1 H0 Ht Hcb Hx Hw Hout Hscr HO]
  · isplitl [HE]; · iexact HE
    isplitl [Hb H1 H0 Ht Hcb]
    · isplitl [Hb]; · iexact Hb
      isplitl [H1]; · iexact H1
      isplitl [H0]; · iexact H0
      isplitl [Hcb] <;> iassumption
    isplitl [Hx Hw]
    · unfold ops; isplitl [Hx]; · iexact Hx
      iexact Hw
    isplitl [Hout]; · iexact Hout
    isplitl [Hscr]; · iexact Hscr
    iexists W; iexact HO
  iintro ⟨Hz, Hzs, Hop, Hout, Hscr, HO⟩
  unfold wpp; rw [Prog.pure_eq_ret, wp_ret]; imodintro
  unfold bodyPost Φ₁ Dat.owesAt Pipeline.owesWithin owed ops scratch
  rw [show (dats m ρ 0 c).owed t0_0.succ = 0 from rfl]
  icases HO with ⟨%W', HO⟩
  icases Hop with ⟨Hx, Hw⟩
  isplitl [Hscr Hz Hzs]
  · isplitl [Hscr]; · iexact Hscr
    isplitl [Hzs] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

attribute [local irreducible] cc0_body in
/-- The body as the pipeline calls it. -/
theorem prog_at : (defs₀ (F := F)) Proc.tc (0 : Fin 1) (t0_0, cfg0.slots t0_0)
    = cc0_body (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        cc0_scratch1 cc0_scratch2 cc0_scratch3 cc0_scratch4 := rfl

attribute [local irreducible] cc0_body in
theorem body_obligation (c : Dev nD) : BodyObligation (dats (F := F) m ρ 0 c) (defs₀ (F := F)) 𝒱₀ () Set.univ := fun t => by
  rw [show t = t0_0 from fin_N0 t]
  rw [show (bigSep Finset.univ : (Fin cfg0.W → sProp 𝕄) → sProp 𝕄) = fun Φ => iprop(Φ (0 : Fin 3) ∗ Φ (1 : Fin 3) ∗ Φ (2 : Fin 3)) from funext fun Φ => bigSep_W0 Φ]
  simp only [owns_whole_eq]
  rw [prog_at]
  exact sound_body m ρ c

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G₁ (X₀ m ρ) c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨⟨%g, Hr⟩, Hz, HzB⟩
  isplitl [HzB]; · iexact HzB
  isplitl [Hz]; · iexact Hz
  iexists g; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_none w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

attribute [local irreducible] cc0_body in
set_option maxRecDepth 8000 in
/-- On the sixteen devices, from any memory with all counters at zero, @main ends: each device's arrays are at the
    contents `finalA` gives and every counter is back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G₀ (X₀ m ρ)) (G' := G₁ (X₀ m ρ)) (u₀ := u₀)
    (hu₀ := by
      unfold u₀
      iintro Hu
      ihave H := (ownU_pair _ _) $$ Hu
      icases H with ⟨HP, HX⟩
      imod (fund_ring (X₀ m ρ)) $$ HX with HG
      imodintro
      isplitl [HP] <;> iassumption)
    (hglob := glob (X₀ m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold after it -/

theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem wstg_eq (c : Dev nD) : wstg m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

/-- The result's one block is all of it. -/
theorem finalA_o (c : Dev nD) : finalA m ρ c (2 : Fin 3) = FIN (X₀ m ρ) := by
  have h : (win0_2.blk (0 : Fin 1)).view.read (Elt F) (finalA m ρ c (2 : Fin 3)) = FIN (X₀ m ρ) := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (Memref.read_access_unit_zero (Elt F) main_v1 (off := fun a => (win0_2.index (0 : Fin 1)) a * main_v1.ty.shape.size a)
    (funext fun a => by fin_cases a <;> decide) (fun a => by fin_cases a <;> decide) _).symm.trans h

/-- The run, read at the program's arrays. -/
theorem run_arrays : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = FIN (XX (fun d => m ((d : Thread nD τ).loc main_arg0)) (fun d => m ((d : Thread nD τ).loc main_arg1))))
    ∧ r.2.sem = fun _ => 0) := by
  refine (θ_run defs _ _).mono (fun r h => ⟨fun c => ⟨(h.1 c (0 : Fin 3)).trans (finalA_x m ρ c), (h.1 c (1 : Fin 3)).trans (finalA_w m ρ c), ?_⟩, h.2⟩) (run_main m ρ)
  have e := (h.1 c (2 : Fin 3)).trans (finalA_o m ρ c)
  rw [show X₀ m ρ = XX (fun d => m ((d : Thread nD τ).loc main_arg0)) (fun d => m ((d : Thread nD τ).loc main_arg1)) from
    congrArg₂ XX (funext (xstg_eq m ρ)) (funext (wstg_eq m ρ))] at e
  exact e

end Cert.KernelIdeal.Ring
-- ==== Proof.Same.lean ====
module

public import proofs.«01_k».proof.Defs
public import proofs.«01_k».proof.Proof.Gen.Kernel
public import proofs.«01_k».proof.Proof.Gen.KernelIdeal

@[expose] public section

set_option maxRecDepth 20000

/-! The program as compiled and the program read over the reals are one text: no operation was rewritten. Read at bit
patterns, their tables of bodies are equal. -/

noncomputable section

namespace Cert.Proof

open Idealize.ShloMosaic Idealize.SL.Sem

/-- The kernel's two texts are one. -/
theorem body_same (arg0 : Memref Kernel.sig .tc .vmem Kernel.S2048x128 .f32) (h0 : arg0.IsWhole) (arg1 : Memref Kernel.sig .tc .vmem Kernel.S128x2048 .f32) (h1 : arg1.IsWhole)
    (arg2 : Memref Kernel.sig .tc .vmem Kernel.S2048x2048 .f32) (h2 : arg2.IsWhole) (arg3 : Memref Kernel.sig .tc .vmem Kernel.S15x2x8x128x128 .f32) (h3 : arg3.IsWhole)
    (s1 s2 s3 s4 : DmaSems Kernel.sig Kernel.S15x2x8) :
    Kernel.cc0_body (F := Bits) arg0 h0 arg1 h1 arg2 h2 arg3 h3 s1 s2 s3 s4 = KernelIdeal.cc0_body (F := Bits) arg0 h0 arg1 h1 arg2 h2 arg3 h3 s1 s2 s3 s4 := rfl

theorem table_same : Kernel.defs₀ (F := Bits) = KernelIdeal.defs₀ := by
  unfold Kernel.defs₀ KernelIdeal.defs₀
  refine congrArg Defs.onTc (funext fun l => funext fun a => ?_)
  obtain ⟨n, h⟩ := l
  cases n with
  | zero => exact body_same _ _ _ _ _ _ _ _ _ _ _ _
  | succ n => exact absurd h (Nat.not_lt.2 (Nat.le_add_left _ _))

theorem defs_same : Kernel.defs (F := Bits) = KernelIdeal.defs := congrArg (Pipeline.defs KernelIdeal.pcfgs) table_same

end Cert.Proof

end
-- ==== Proof.Value.lean ====
module

public import proofs.«01_k».proof.Proof.Ends
public import proofs.«01_k».proof.Proof.Body
public import Idealize.ShloMosaic.Lib.MatmulPlain
public import Idealize.ShloMosaic.Lib.StackMember
public import Idealize.ShloMosaic.Lib.Layout
public import Idealize.ShloMosaic.Lib.Pipeline.Value

@[expose] public section

/-! The kernel's result over the reals: the activation of the whole product, the sum over the sixteen devices being the
sum over the whole contracted axis. -/

noncomputable section

namespace Cert.KernelIdeal.Ring

open Idealize.ShloMosaic Idealize.ShloMosaic.TcCoe Idealize.ShloMosaic.ValueIdx
open scoped BigOperators

/-! ## The running sums -/

/-- The device `m` steps back from `p` in direction `b`. -/
def walk (b : Fin 2) : Nat → Dev nD → Dev nD
  | 0, p => p
  | m + 1, p => walk b m (nbr p (flip b))

theorem walk_bijective : ∀ (p : Dev nD) (b : Fin 2), Function.Bijective fun m : Fin 16 => walk b m.val p := by decide +kernel

theorem add1_ideal (u v : EReal) : add1 (F := Ideal) u v = u + v := rfl

/-- An element of an output buffer, as a number. -/
def num (v : OBuf Ideal) (i : S2048x2048.Idx) : EReal := v i

/-- An element of a column block, as a number. -/
def numX (x : XBuf Ideal) (r : Fin 2048) (k : Fin 128) : EReal := x (ix2 (n0 := 2048) (n1 := 128) r k)

/-- An element of a row block, as a number. -/
def numW (w : WBuf Ideal) (k : Fin 128) (c : Fin 2048) : EReal := w (ix2 (n0 := 128) (n1 := 2048) k c)

variable (X : Dev nD → OBuf Ideal)

/-- A message of the first fifteen holds the sum over the devices it has passed. -/
theorem acc_sum (b : Fin 2) (i : S2048x2048.Idx) : ∀ (n : Nat) (p : Dev nD), n < 15 →
    num (acc X n p b) i = ∑ m ∈ Finset.range (n + 1), num (X (walk b m p)) i
  | 0, p, _ => by rw [Finset.sum_range_one]; rfl
  | n + 1, p, h => by
    rw [acc_add X h, Finset.sum_range_succ']
    refine Eq.trans (b := num (X p) i + num (acc X n (nbr p (flip b)) b) i) rfl ?_
    rw [acc_sum b i n _ (by omega), add_comm]
    rfl

/-- What a device holds and what fourteen messages before it gathered is the sum over all devices. -/
theorem sum_around (f : Dev nD → EReal) (p : Dev nD) (b : Fin 2) :
    f p + ∑ m ∈ Finset.range 15, f (walk b m (nbr p (flip b))) = ∑ q : Dev nD, f q := by
  rw [← (walk_bijective p b).sum_comp f, ← Finset.sum_range fun m => f (walk b m p), Finset.sum_range_succ' _ 15, add_comm]
  exact congrArg₂ (fun a b : EReal => a + b) (Finset.sum_congr rfl fun _ _ => rfl) rfl

/-- The element of a sum of two buffers put through the activation. -/
theorem act_step (u v : OBuf Ideal) (i : S2048x2048.Idx) :
    num (fun i => act1 (F := Ideal) (add1 (u i) (v i))) i = act1 (F := Ideal) (num u i + num v i) :=
  congrArg (act1 (F := Ideal)) (add1_ideal (u i) (v i))

/-- The fifteenth message holds the activation of the sum over all devices. -/
theorem acc_all (i : S2048x2048.Idx) (p : Dev nD) (b : Fin 2) :
    num (acc X 15 p b) i = act1 (F := Ideal) (∑ q : Dev nD, num (X q) i) :=
  (congrArg (fun v => num v i) (acc_act X p b)).trans ((act_step (X p) (acc X 14 (nbr p (flip b)) b) i).trans
    (congrArg (act1 (F := Ideal)) ((congrArg (fun v : EReal => num (X p) i + v) (acc_sum X b i 14 _ (by decide))).trans
      (sum_around (fun q => num (X q) i) p b))))

/-- The result is the activation of the sum over all devices. -/
theorem fin_sum (i : S2048x2048.Idx) : num (FIN X) i = act1 (F := Ideal) (∑ q : Dev nD, num (X q) i) := by
  have e : num (FIN X) i = num (acc X 15 (own (dirOf i) (rowOf i)) (dirOf i)) i := by unfold num FIN; rfl
  exact e.trans (acc_all X i _ _)

/-! ## A partial product -/

/-- An element of a product of a tile by a block, nothing added. -/
theorem tile_apply (a : FVec Ideal S128x128 .f32) (b : FVec Ideal S128x2048 .f32) (r : Fin 128) (c : Fin 2048) :
    FloatOps.matmul (F := Ideal) (DotDims.plain 128 128 2048) none a b (constant (F := Ideal) S128x2048 .f32 0x00000000#32) (ix2 (n0 := 128) (n1 := 2048) r c)
      = ∑ k : Fin 128, (a (ix2 (n0 := 128) (n1 := 128) r k) * b (ix2 (n0 := 128) (n1 := 2048) k c) : EReal) :=
  (Ideal.matmul_plain_apply none a b _ r c).trans ((congrArg₂ (fun a b : EReal => a + b) Ideal.ofBits_zero_f32 rfl).trans (zero_add _))

/-- The element of a partial product: the sum over the device's part of the contracted axis. -/
theorem part_apply (x : XBuf Ideal) (w : WBuf Ideal) (i : S2048x2048.Idx) :
    num (G x w) i = ∑ k : Fin 128, numX x ⟨(i 0).val, (i 0).isLt⟩ k * numW w k ⟨(i 1).val, (i 1).isLt⟩ := by
  have e : num (G x w) i = FloatOps.matmul (F := Ideal) (DotDims.plain 128 128 2048) none ((xW.access (xR (rowOf i))).read (Elt Ideal) x) ((wW.access wR).read (Elt Ideal) w)
      (constant (F := Ideal) S128x2048 .f32 0x00000000#32) (ix2 (n0 := 128) (n1 := 2048) ⟨(i 0).val % 128, Nat.mod_lt _ (by decide)⟩ ⟨(i 1).val, (i 1).isLt⟩) :=
    congrArg₂ (fun (a : FVec Ideal S128x128 .f32) (b : FVec Ideal S128x2048 .f32) =>
      FloatOps.matmul (F := Ideal) (DotDims.plain 128 128 2048) none a b (constant (F := Ideal) S128x2048 .f32 0x00000000#32) (posOf i))
      (shapeCast_self _ _) (shapeCast_self _ _)
  refine (e.trans (tile_apply _ _ _ _)).trans ?_
  refine Finset.sum_congr rfl fun k _ => ?_
  refine congrArg₂ (fun a b : EReal => a * b) (congrArg x ?_) (congrArg w ?_)
  · funext a; apply Fin.ext
    match a with
    | ⟨0, _⟩ => show 128 * ((i 0).val / 128) + 1 * ((i 0).val % 128) = (i 0).val; omega
    | ⟨1, _⟩ => show 0 + 1 * k.val = k.val; omega
  · funext a; apply Fin.ext
    match a with
    | ⟨0, _⟩ => show 0 + 1 * k.val = k.val; omega
    | ⟨1, _⟩ => show 0 + 1 * (i 1).val = (i 1).val; omega

/-! ## The whole product -/

/-- The two operands, whole. -/
abbrev Whole : Type := (⟨2, ![2048, 2048]⟩ : Shape).Idx → EReal

/-- The product at an element. -/
def prod (x w : Whole) (i : S2048x2048.Idx) : EReal :=
  ∑ k : Fin 2048, x (ix2 (n0 := 2048) (n1 := 2048) ⟨(i 0).val, (i 0).isLt⟩ k) * w (ix2 (n0 := 2048) (n1 := 2048) k ⟨(i 1).val, (i 1).isLt⟩)

/-- The devices' partial products add up to the product. -/
theorem parts_sum (x w : Whole) (i : S2048x2048.Idx) :
    (∑ q : Dev nD, num (G (F := Ideal) (Layout.block ⟨2, ![2048, 128]⟩ ⟨2, ![2048, 2048]⟩ 1 16 q x) (Layout.block ⟨2, ![128, 2048]⟩ ⟨2, ![2048, 2048]⟩ 0 16 q w)) i)
      = prod x w i := by
  unfold prod
  rw [← Equiv.sum_comp (finProdFinEquiv : Fin 16 × Fin 128 ≃ Fin 2048), Fintype.sum_prod_type]
  refine Finset.sum_congr rfl fun q _ => ?_
  rw [part_apply]
  refine Finset.sum_congr rfl fun k _ => ?_
  refine congrArg₂ (fun a b : EReal => a * b) (congrArg x ?_) (congrArg w ?_)
  · funext a; apply Fin.ext
    match a with
    | ⟨0, _⟩ => rfl
    | ⟨1, _⟩ => show q.val * 128 + k.val = k.val + 128 * q.val; omega
  · funext a; apply Fin.ext
    match a with
    | ⟨0, _⟩ => show q.val * 128 + k.val = k.val + 128 * q.val; omega
    | ⟨1, _⟩ => rfl

/-! ## The activation -/

/-- The activation of a value over the reals. -/
def gelu (u : EReal) : EReal :=
  (Ideal.ofBits .f32 0x3F000000#32 * u) * (Ideal.ofBits .f32 0x3F800000#32
    + Ideal.tanh (Ideal.ofBits .f32 0x3F4C422A#32 * (u + Ideal.ofBits .f32 0x3D372713#32 * ((u * u) * u))))

theorem act_gelu (u : EReal) : act1 (F := Ideal) u = gelu u := by
  have h : Ideal.ofBits .f32 0x3D372713#32 * ((u * u) * u) = ((Ideal.ofBits .f32 0x3D372713#32 * u) * u) * u := by
    rw [mul_assoc, mul_assoc, mul_assoc]
  unfold gelu
  rw [h]
  rfl

/-- The kernel's result from the devices' blocks of two whole operands. -/
theorem fin_value (x w : Whole) :
    FIN (XX (F := Ideal) (fun q => Layout.block ⟨2, ![2048, 128]⟩ ⟨2, ![2048, 2048]⟩ 1 16 q x) (fun q => Layout.block ⟨2, ![128, 2048]⟩ ⟨2, ![2048, 2048]⟩ 0 16 q w))
      = fun i => gelu (prod x w i) := by
  funext i
  exact (fin_sum _ i).trans ((act_gelu _).trans (congrArg gelu (parts_sum x w i)))

end Cert.KernelIdeal.Ring
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Value

@[expose] public section

noncomputable section

namespace Cert.Proof

open Idealize.ShloMosaic Idealize.SL.Sem Idealize.ShloMosaic.ValueIdx

/-- From any memory the kernel's run ends with its arguments as they were and its counters at zero, at any float values. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => ⟨(h.1 c).1, (h.1 c).2.1⟩, h.2⟩) (Cert.KernelIdeal.Ring.run_arrays m ρ)

/-- The kernel as compiled: its text is the one run above, read at bit patterns. -/
theorem frame_kernel : Cert.quiescent_Kernel := fun m ρ _ => by
  rw [defs_same]
  exact run_frame (F := Bits) m ρ

/-- The kernel read over the reals. -/
theorem frame_kernelIdeal : Cert.quiescent_KernelIdeal := fun m ρ _ => run_frame (F := Ideal) m ρ

/-- The reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result at an element: the activation of the product. -/
theorem reference_value (m : (ℓ : Loc Cert.ReferenceIdeal.nD Cert.ReferenceIdeal.τ Cert.ReferenceIdeal.sig) → Buf (Elt Ideal) ℓ) (ρ : Dev Cert.ReferenceIdeal.nD → PrngReg)
    (x w : Cert.KernelIdeal.Ring.Whole)
    (hx : m (((0 : Dev Cert.ReferenceIdeal.nD).tc : Thread Cert.ReferenceIdeal.nD Cert.ReferenceIdeal.τ).loc Cert.ReferenceIdeal.main_arg0) = x)
    (hw : m (((0 : Dev Cert.ReferenceIdeal.nD).tc : Thread Cert.ReferenceIdeal.nD Cert.ReferenceIdeal.τ).loc Cert.ReferenceIdeal.main_arg1) = w) :
    θ_run (Cert.ReferenceIdeal.defs (F := Ideal)) (onTc (τ := Cert.ReferenceIdeal.τ) (Cert.ReferenceIdeal.main (F := Ideal))) ⟨m, fun _ => 0, ρ⟩ (fun r =>
      r.2.mem (((0 : Dev Cert.ReferenceIdeal.nD).tc : Thread Cert.ReferenceIdeal.nD Cert.ReferenceIdeal.τ).loc Cert.ReferenceIdeal.main_v13)
        = (fun i => Cert.KernelIdeal.Ring.gelu (Cert.KernelIdeal.Ring.prod x w i))
      ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m (((0 : Dev Cert.ReferenceIdeal.nD).tc : Thread Cert.ReferenceIdeal.nD Cert.ReferenceIdeal.τ).loc Cert.ReferenceIdeal.main_arg1)) := by
  refine (θ_run Cert.ReferenceIdeal.defs _ _).mono (fun r h => ?_) (Cert.ReferenceIdeal.Value.run (F := Ideal) m ρ)
  refine ⟨(h 0).1.trans (funext fun i => ?_), (h 0).2⟩
  rw [hx, hw]
  have e : Host.dotGeneral (F := Ideal) (φ₁ := .f32) (φ₂ := .f32) (DotDims.plain 2048 2048 2048) none x w i = Cert.KernelIdeal.Ring.prod x w i := by
    have hi : i = ix2 (n0 := 2048) (n1 := 2048) ⟨(i 0).val, (i 0).isLt⟩ ⟨(i 1).val, (i 1).isLt⟩ := by
      funext a
      match a with
      | ⟨0, _⟩ => rfl
      | ⟨1, _⟩ => rfl
    exact (congrArg _ hi).trans (StackMember.dotGeneral_plain_apply none x w _ _)
  exact congrArg Cert.KernelIdeal.Ring.gelu e

/-- The kernel over the reals leaves on every device what the reference computes from the whole operands. -/
theorem algebraic : Cert.algebraic_KernelIdeal_ReferenceIdeal := fun m g m' g' _ hin => by
  refine ⟨fun i => Cert.KernelIdeal.Ring.gelu (Cert.KernelIdeal.Ring.prod
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) i), ?_, reference_value m' g' _ _ rfl rfl⟩
  refine (θ_run Cert.KernelIdeal.defs _ _).mono (fun r h c => ⟨(h.1 c).2.2.trans ?_, (h.1 c).1, (h.1 c).2.1⟩) (Cert.KernelIdeal.Ring.run_arrays (F := Ideal) m g)
  rw [funext fun d => (hin d).1, funext fun d => (hin d).2]
  exact Cert.KernelIdeal.Ring.fin_value _ _

theorem claim : Cert.Claim := ⟨Cert.Kernel.Gen.facts, Cert.KernelIdeal.Gen.facts, Cert.ReferenceIdeal.Gen.facts,
  frame_kernel, frame_kernelIdeal, frame_reference, trivial, algebraic⟩

end Cert.Proof

end
